-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 2048, 64, 128]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 64, 128]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x8192 : Shape := ⟨2, ![1024, 8192]⟩
abbrev S1x2048x8x128 : Shape := ⟨4, ![1, 2048, 8, 128]⟩
abbrev S8192x1024 : Shape := ⟨2, ![8192, 1024]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg3 : FVec F S1x2048x8x128 .bf16) (main_arg4 : FVec F S8192x1024 .bf16) (main_v11 : IVec S_ 1) (main_v16 : IVec S_ 1) : IVec S_ 1 :=
  let main_v17 : IVec S_ 1 := andi main_v11 main_v16
  let main_v18 : FVec F S1x2048x8x128 .f32 := (extf .f32 · bitsLt_bf16_f32) main_arg3
  let main_v19 : FVec F S1x2048x8x128 .f32 := Host.absf main_v18
  let main_cst_5 : FVec F S_ .f32 := constant S_ .f32 0x7F800000#32
  let main_v20 : FVec F S1x2048x8x128 .f32 := broadcastInDim S1x2048x8x128 ![] bcast_S_S1x2048x8x128 main_cst_5
  let main_v21 : IVec S1x2048x8x128 1 := cmpf .olt main_v19 main_v20
  let main_c_6 : IVec S_ 1 := constantI S_ 1 1#1
  let main_v22 : IVec S_ 1 := (fun x v => Host.reduce IntOp.andi x v reducesTo_S1x2048x8x128_S_d0_1_2_3 h_S_) main_v21 main_c_6
  let main_v23 : IVec S_ 1 := andi main_v17 main_v22
  let main_v24 : FVec F S8192x1024 .f32 := (extf .f32 · bitsLt_bf16_f32) main_arg4
  let main_v25 : FVec F S8192x1024 .f32 := Host.absf main_v24
  let main_cst_7 : FVec F S_ .f32 := constant S_ .f32 0x7F800000#32
  let main_v26 : FVec F S8192x1024 .f32 := broadcastInDim S8192x1024 ![] bcast_S_S8192x1024 main_cst_7
  let main_v27 : IVec S8192x1024 1 := cmpf .olt main_v25 main_v26
  let main_c_8 : IVec S_ 1 := constantI S_ 1 1#1
  let main_v28 : IVec S_ 1 := (fun x v => Host.reduce IntOp.andi x v reducesTo_S8192x1024_S_d0_1 h_S_) main_v27 main_c_8
  let main_v29 : IVec S_ 1 := andi main_v23 main_v28
  main_v29

def fn {F : FTy → Type} [FloatOps F] (main_arg0 : FVec F S1x2048x1024 .bf16) (main_arg1 : FVec F S1024x8192 .bf16) (main_arg2 : FVec F S1x2048x8x128 .bf16) (main_arg3 : FVec F S1x2048x8x128 .bf16) (main_arg4 : FVec F S8192x1024 .bf16) : IVec S_ 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_c : IVec S_ 1 := constantI S_ 1 1#1
  let main_v4 : IVec S_ 1 := (fun x v => Host.reduce IntOp.andi x v reducesTo_S1x2048x1024_S_d0_1_2 h_S_) main_v3 main_c
  let main_c_0 : IVec S_ 1 := constantI S_ 1 1#1
  let main_v5 : IVec S_ 1 := andi main_c_0 main_v4
  let main_v6 : FVec F S1024x8192 .f32 := (extf .f32 · bitsLt_bf16_f32) main_arg1
  let main_v7 : FVec F S1024x8192 .f32 := Host.absf main_v6
  let main_cst_1 : FVec F S_ .f32 := constant S_ .f32 0x7F800000#32
  let main_v8 : FVec F S1024x8192 .f32 := broadcastInDim S1024x8192 ![] bcast_S_S1024x8192 main_cst_1
  let main_v9 : IVec S1024x8192 1 := cmpf .olt main_v7 main_v8
  let main_c_2 : IVec S_ 1 := constantI S_ 1 1#1
  let main_v10 : IVec S_ 1 := (fun x v => Host.reduce IntOp.andi x v reducesTo_S1024x8192_S_d0_1 h_S_) main_v9 main_c_2
  let main_v11 : IVec S_ 1 := andi main_v5 main_v10
  let main_v12 : FVec F S1x2048x8x128 .f32 := (extf .f32 · bitsLt_bf16_f32) main_arg2
  let main_v13 : FVec F S1x2048x8x128 .f32 := Host.absf main_v12
  let main_cst_3 : FVec F S_ .f32 := constant S_ .f32 0x7F800000#32
  let main_v14 : FVec F S1x2048x8x128 .f32 := broadcastInDim S1x2048x8x128 ![] bcast_S_S1x2048x8x128 main_cst_3
  let main_v15 : IVec S1x2048x8x128 1 := cmpf .olt main_v13 main_v14
  let main_c_4 : IVec S_ 1 := constantI S_ 1 1#1
  let main_v16 : IVec S_ 1 := (fun x v => Host.reduce IntOp.andi x v reducesTo_S1x2048x8x128_S_d0_1_2_3 h_S_) main_v15 main_c_4
  fn_part1 (F := F) main_arg3 main_arg4 main_v11 main_v16
-- ==== Pre_finite_ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg3 : FVec F S1x2048x64x128 .bf16) (main_arg4 : FVec F S8192x1024 .bf16) (main_v11 : IVec S_ 1) (main_v16 : IVec S_ 1) : IVec S_ 1 :=
  let main_v17 : IVec S_ 1 := andi main_v11 main_v16
  let main_v18 : FVec F S1x2048x64x128 .f32 := (extf .f32 · bitsLt_bf16_f32) main_arg3
  let main_v19 : FVec F S1x2048x64x128 .f32 := Host.absf main_v18
  let main_cst_5 : FVec F S_ .f32 := constant S_ .f32 0x7F800000#32
  let main_v20 : FVec F S1x2048x64x128 .f32 := broadcastInDim S1x2048x64x128 ![] bcast_S_S1x2048x64x128 main_cst_5
  let main_v21 : IVec S1x2048x64x128 1 := cmpf .olt main_v19 main_v20
  let main_c_6 : IVec S_ 1 := constantI S_ 1 1#1
  let main_v22 : IVec S_ 1 := (fun x v => Host.reduce IntOp.andi x v reducesTo_S1x2048x64x128_S_d0_1_2_3 h_S_) main_v21 main_c_6
  let main_v23 : IVec S_ 1 := andi main_v17 main_v22
  let main_v24 : FVec F S8192x1024 .f32 := (extf .f32 · bitsLt_bf16_f32) main_arg4
  let main_v25 : FVec F S8192x1024 .f32 := Host.absf main_v24
  let main_cst_7 : FVec F S_ .f32 := constant S_ .f32 0x7F800000#32
  let main_v26 : FVec F S8192x1024 .f32 := broadcastInDim S8192x1024 ![] bcast_S_S8192x1024 main_cst_7
  let main_v27 : IVec S8192x1024 1 := cmpf .olt main_v25 main_v26
  let main_c_8 : IVec S_ 1 := constantI S_ 1 1#1
  let main_v28 : IVec S_ 1 := (fun x v => Host.reduce IntOp.andi x v reducesTo_S8192x1024_S_d0_1 h_S_) main_v27 main_c_8
  let main_v29 : IVec S_ 1 := andi main_v23 main_v28
  main_v29

def fn {F : FTy → Type} [FloatOps F] (main_arg0 : FVec F S1x2048x1024 .bf16) (main_arg1 : FVec F S1024x8192 .bf16) (main_arg2 : FVec F S1x2048x64x128 .bf16) (main_arg3 : FVec F S1x2048x64x128 .bf16) (main_arg4 : FVec F S8192x1024 .bf16) : IVec S_ 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_c : IVec S_ 1 := constantI S_ 1 1#1
  let main_v4 : IVec S_ 1 := (fun x v => Host.reduce IntOp.andi x v reducesTo_S1x2048x1024_S_d0_1_2 h_S_) main_v3 main_c
  let main_c_0 : IVec S_ 1 := constantI S_ 1 1#1
  let main_v5 : IVec S_ 1 := andi main_c_0 main_v4
  let main_v6 : FVec F S1024x8192 .f32 := (extf .f32 · bitsLt_bf16_f32) main_arg1
  let main_v7 : FVec F S1024x8192 .f32 := Host.absf main_v6
  let main_cst_1 : FVec F S_ .f32 := constant S_ .f32 0x7F800000#32
  let main_v8 : FVec F S1024x8192 .f32 := broadcastInDim S1024x8192 ![] bcast_S_S1024x8192 main_cst_1
  let main_v9 : IVec S1024x8192 1 := cmpf .olt main_v7 main_v8
  let main_c_2 : IVec S_ 1 := constantI S_ 1 1#1
  let main_v10 : IVec S_ 1 := (fun x v => Host.reduce IntOp.andi x v reducesTo_S1024x8192_S_d0_1 h_S_) main_v9 main_c_2
  let main_v11 : IVec S_ 1 := andi main_v5 main_v10
  let main_v12 : FVec F S1x2048x64x128 .f32 := (extf .f32 · bitsLt_bf16_f32) main_arg2
  let main_v13 : FVec F S1x2048x64x128 .f32 := Host.absf main_v12
  let main_cst_3 : FVec F S_ .f32 := constant S_ .f32 0x7F800000#32
  let main_v14 : FVec F S1x2048x64x128 .f32 := broadcastInDim S1x2048x64x128 ![] bcast_S_S1x2048x64x128 main_cst_3
  let main_v15 : IVec S1x2048x64x128 1 := cmpf .olt main_v13 main_v14
  let main_c_4 : IVec S_ 1 := constantI S_ 1 1#1
  let main_v16 : IVec S_ 1 := (fun x v => Host.reduce IntOp.andi x v reducesTo_S1x2048x64x128_S_d0_1_2_3 h_S_) main_v15 main_c_4
  fn_part1 (F := F) main_arg3 main_arg4 main_v11 main_v16
-- ==== Kernel.lean ====
abbrev S1x2048x1024 : Shape := ⟨3, ![1, 2048, 1024]⟩
abbrev S1024x8192 : Shape := ⟨2, ![1024, 8192]⟩
abbrev S1x2048x8x128 : Shape := ⟨4, ![1, 2048, 8, 128]⟩
abbrev S8192x1024 : Shape := ⟨2, ![8192, 1024]⟩
abbrev S_ : Shape := ⟨0, ![]⟩
abbrev S2048x1024 : Shape := ⟨2, ![2048, 1024]⟩
abbrev S2048x8x128 : Shape := ⟨3, ![2048, 8, 128]⟩
abbrev S8x2048x128 : Shape := ⟨3, ![8, 2048, 128]⟩
abbrev S1024x1024 : Shape := ⟨2, ![1024, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S5x3 : Shape := ⟨2, ![5, 3]⟩
abbrev S512x1024 : Shape := ⟨2, ![512, 1024]⟩
abbrev S512x1 : Shape := ⟨2, ![512, 1]⟩
abbrev S512x512 : Shape := ⟨2, ![512, 512]⟩
abbrev S512x128 : Shape := ⟨2, ![512, 128]⟩
abbrev S1x512x128 : Shape := ⟨3, ![1, 512, 128]⟩
abbrev S512 : Shape := ⟨1, ![512]⟩
abbrev S1x1 : Shape := ⟨2, ![1, 1]⟩
abbrev S1x1024x128 : Shape := ⟨3, ![1, 1024, 128]⟩
abbrev S1024x128 : Shape := ⟨2, ![1024, 128]⟩
abbrev S512x1536 : Shape := ⟨2, ![512, 1536]⟩
abbrev S1x1536x128 : Shape := ⟨3, ![1, 1536, 128]⟩
abbrev S1536x128 : Shape := ⟨2, ![1536, 128]⟩
abbrev S512x2048 : Shape := ⟨2, ![512, 2048]⟩
abbrev S1x2048x128 : Shape := ⟨3, ![1, 2048, 128]⟩
abbrev S2048x128 : Shape := ⟨2, ![2048, 128]⟩

abbrev nBuf : Space → Nat
  | .hbm => 36
  | .vmem => 41
  | .smem => 0
  | _ => 0

abbrev bufTy : (tb : Table) → Fin (tcTables nBuf tb) → BufTy
  | .hbm, ⟨0, _⟩ => ⟨S1x2048x1024, .bf16⟩
  | .hbm, ⟨1, _⟩ => ⟨S1024x8192, .bf16⟩
  | .hbm, ⟨2, _⟩ => ⟨S1x2048x8x128, .bf16⟩
  | .hbm, ⟨3, _⟩ => ⟨S1x2048x8x128, .bf16⟩
  | .hbm, ⟨4, _⟩ => ⟨S8192x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .bf16⟩
  | .hbm, ⟨12, _⟩ => ⟨S2048x8x128, .bf16⟩
  | .hbm, ⟨13, _⟩ => ⟨S8x2048x128, .bf16⟩
  | .hbm, ⟨14, _⟩ => ⟨S2048x8x128, .bf16⟩
  | .hbm, ⟨15, _⟩ => ⟨S8x2048x128, .bf16⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1024x1024, .bf16⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024x1024, .bf16⟩
  | .hbm, ⟨34, _⟩ => ⟨S2048x1024, .f32⟩
  | .hbm, ⟨35, _⟩ => ⟨S1x2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S8x2048x128, .bf16⟩
  | .local _ .vmem, ⟨3, _⟩ => ⟨S8x2048x128, .bf16⟩
  | .local _ .vmem, ⟨4, _⟩ => ⟨S1024x1024, .bf16⟩
  | .local _ .vmem, ⟨5, _⟩ => ⟨S2048x1024, .f32⟩
  | .local _ .vmem, ⟨6, _⟩ => ⟨S256x1024, .bf16⟩
  | .local _ .vmem, ⟨7, _⟩ => ⟨S256x1024, .bf16⟩
  | .local _ .vmem, ⟨8, _⟩ => ⟨S128x1024, .bf16⟩
  | .local _ .vmem, ⟨9, _⟩ => ⟨S64x1024, .bf16⟩
  | .local _ .vmem, ⟨10, _⟩ => ⟨S64x1024, .bf16⟩
  | .local _ .vmem, ⟨11, _⟩ => ⟨S128x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S128x1024, .bf16⟩
  | .local _ .vmem, ⟨16, _⟩ => ⟨S64x1024, .bf16⟩
  | .local _ .vmem, ⟨17, _⟩ => ⟨S64x1024, .bf16⟩
  | .local _ .vmem, ⟨18, _⟩ => ⟨S128x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S128x1024, .bf16⟩
  | .local _ .vmem, ⟨23, _⟩ => ⟨S64x1024, .bf16⟩
  | .local _ .vmem, ⟨24, _⟩ => ⟨S64x1024, .bf16⟩
  | .local _ .vmem, ⟨25, _⟩ => ⟨S128x1024, .bf16⟩
  | .local _ .vmem, ⟨26, _⟩ => ⟨S256x1024, .bf16⟩
  | .local _ .vmem, ⟨27, _⟩ => ⟨S128x1024, .bf16⟩
  | .local _ .vmem, ⟨28, _⟩ => ⟨S128x1024, .bf16⟩
  | .local _ .vmem, ⟨29, _⟩ => ⟨S64x1024, .bf16⟩
  | .local _ .vmem, ⟨30, _⟩ => ⟨S32x1024, .bf16⟩
  | .local _ .vmem, ⟨31, _⟩ => ⟨S32x1024, .bf16⟩
  | .local _ .vmem, ⟨32, _⟩ => ⟨S64x1024, .bf16⟩
  | .local _ .vmem, ⟨33, _⟩ => ⟨S128x1024, .bf16⟩
  | .local _ .vmem, ⟨34, _⟩ => ⟨S128x1024, .bf16⟩
  | .local _ .vmem, ⟨35, _⟩ => ⟨S128x1024, .bf16⟩
  | .local _ .vmem, ⟨36, _⟩ => ⟨S64x1024, .bf16⟩
  | .local _ .vmem, ⟨37, _⟩ => ⟨S32x1024, .bf16⟩
  | .local _ .vmem, ⟨38, _⟩ => ⟨S32x1024, .bf16⟩
  | .local _ .vmem, ⟨39, _⟩ => ⟨S64x1024, .bf16⟩
  | .local _ .vmem, ⟨40, _⟩ => ⟨S128x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_c_5 : Ref sig .tc := ⟨.hbm, 25, rfl⟩
abbrev main_v15 : Ref sig .tc := ⟨.hbm, 26, rfl⟩
abbrev main_c_6 : Ref sig .tc := ⟨.hbm, 27, rfl⟩
abbrev main_v16 : Ref sig .tc := ⟨.hbm, 28, rfl⟩
abbrev main_c_7 : Ref sig .tc := ⟨.hbm, 29, rfl⟩
abbrev main_v17 : Ref sig .tc := ⟨.hbm, 30, rfl⟩
abbrev main_v18 : Ref sig .tc := ⟨.hbm, 31, rfl⟩
abbrev main_c_8 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_scratch15 : Ref sig .tc := ⟨.vmem, 21, rfl⟩
abbrev cc0_scratch16 : Ref sig .tc := ⟨.vmem, 22, rfl⟩
abbrev cc0_scratch17 : Ref sig .tc := ⟨.vmem, 23, rfl⟩
abbrev cc0_scratch18 : Ref sig .tc := ⟨.vmem, 24, rfl⟩
abbrev cc0_scratch19 : Ref sig .tc := ⟨.vmem, 25, rfl⟩
abbrev cc0_scratch20 : Ref sig .tc := ⟨.vmem, 26, rfl⟩
abbrev cc0_scratch21 : Ref sig .tc := ⟨.vmem, 27, rfl⟩
abbrev cc0_scratch22 : Ref sig .tc := ⟨.vmem, 28, rfl⟩
abbrev cc0_scratch23 : Ref sig .tc := ⟨.vmem, 29, rfl⟩
abbrev cc0_scratch24 : Ref sig .tc := ⟨.vmem, 30, rfl⟩
abbrev cc0_scratch25 : Ref sig .tc := ⟨.vmem, 31, rfl⟩
abbrev cc0_scratch26 : Ref sig .tc := ⟨.vmem, 32, rfl⟩
abbrev cc0_scratch27 : Ref sig .tc := ⟨.vmem, 33, rfl⟩
abbrev cc0_scratch28 : Ref sig .tc := ⟨.vmem, 34, rfl⟩
abbrev cc0_scratch29 : Ref sig .tc := ⟨.vmem, 35, rfl⟩
abbrev cc0_scratch30 : Ref sig .tc := ⟨.vmem, 36, rfl⟩
abbrev cc0_scratch31 : Ref sig .tc := ⟨.vmem, 37, rfl⟩
abbrev cc0_scratch32 : Ref sig .tc := ⟨.vmem, 38, rfl⟩
abbrev cc0_scratch33 : Ref sig .tc := ⟨.vmem, 39, rfl⟩
abbrev cc0_scratch34 : Ref sig .tc := ⟨.vmem, 40, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_7 : BitVec 32 := 1#32
  let v15 : BitVec 32 := Scalar.muli v9 c1_i32_7
  let v16 : BitVec 32 := Scalar.addi c0_i32 v15
  v16.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.andi v2 c4_i32
  let c3_i32_4 : BitVec 32 := 3#32
  let c3_i32 : BitVec 32 := 3#32
  let v3 : BitVec 32 := Scalar.andi v2 c3_i32
  let v11 : BitVec 32 := Scalar.subi c3_i32_4 v3
  let v12 : BitVec 32 := Scalar.ori v10 v11
  let c1_i32_9 : BitVec 32 := 1#32
  let v17 : BitVec 32 := Scalar.muli v12 c1_i32_9
  let v18 : BitVec 32 := Scalar.addi c0_i32_10 v17
  v18.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_12 : BitVec 32 := 1#32
  let v19 : BitVec 32 := Scalar.muli v13 c1_i32_12
  let v20 : BitVec 32 := Scalar.addi c0_i32_13 v19
  v20.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v21 : BitVec 32 := Scalar.muli v2 c0_i32_15
  let c0_i32_16 : BitVec 32 := 0#32
  let v22 : BitVec 32 := Scalar.addi v21 c0_i32_16
  let c1_i32_120 : BitVec 32 := 1#32
  let c2_i32 : BitVec 32 := 2#32
  let v8 : BitVec 32 := Scalar.shrsi v2 c2_i32
  let v223 : BitVec 32 := Scalar.subi c1_i32_120 v8
  let c256_i32 : BitVec 32 := 256#32
  let v224 : BitVec 32 := Scalar.muli v223 c256_i32
  let v225 : BitVec 32 := Scalar.addi v22 v224
  let v226 : Index := Scalar.indexCast v225
  let c0_121 : Index := 0#32
  ![v226.toNat, 0]
def k0_dev4 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_128 : BitVec 32 := 1#32
  let v233 : BitVec 32 := Scalar.muli v13 c1_i32_128
  let v234 : BitVec 32 := Scalar.addi c0_i32_129 v233
  v234.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v21 : BitVec 32 := Scalar.muli v2 c0_i32_15
  let c0_i32_16 : BitVec 32 := 0#32
  let v22 : BitVec 32 := Scalar.addi v21 c0_i32_16
  let c2_i32 : BitVec 32 := 2#32
  let v8 : BitVec 32 := Scalar.shrsi v2 c2_i32
  let c256_i32_181 : BitVec 32 := 256#32
  let v323 : BitVec 32 := Scalar.muli v8 c256_i32_181
  let v324 : BitVec 32 := Scalar.addi v22 v323
  let v325 : Index := Scalar.indexCast v324
  let c0_182 : Index := 0#32
  ![v325.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v21 : BitVec 32 := Scalar.muli v2 c0_i32_15
  let c0_i32_16 : BitVec 32 := 0#32
  let v22 : BitVec 32 := Scalar.addi v21 c0_i32_16
  let c2_i32 : BitVec 32 := 2#32
  let v8 : BitVec 32 := Scalar.shrsi v2 c2_i32
  let c256_i32_181 : BitVec 32 := 256#32
  let v323 : BitVec 32 := Scalar.muli v8 c256_i32_181
  let v324 : BitVec 32 := Scalar.addi v22 v323
  let c1_i32_186 : BitVec 32 := 1#32
  let c3_i32 : BitVec 32 := 3#32
  let v3 : BitVec 32 := Scalar.andi v2 c3_i32
  let c1_i32_2 : BitVec 32 := 1#32
  let v7 : BitVec 32 := Scalar.shrsi v3 c1_i32_2
  let v333 : BitVec 32 := Scalar.subi c1_i32_186 v7
  let c128_i32 : BitVec 32 := 128#32
  let v334 : BitVec 32 := Scalar.muli v333 c128_i32
  let v335 : BitVec 32 := Scalar.addi v324 v334
  let v336 : Index := Scalar.indexCast v335
  let c0_187 : Index := 0#32
  ![v336.toNat, 0]
def k0_dev5 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.andi v2 c4_i32
  let c3_i32_4 : BitVec 32 := 3#32
  let c3_i32 : BitVec 32 := 3#32
  let v3 : BitVec 32 := Scalar.andi v2 c3_i32
  let v11 : BitVec 32 := Scalar.subi c3_i32_4 v3
  let v12 : BitVec 32 := Scalar.ori v10 v11
  let c1_i32_194 : BitVec 32 := 1#32
  let v343 : BitVec 32 := Scalar.muli v12 c1_i32_194
  let v344 : BitVec 32 := Scalar.addi c0_i32_195 v343
  v344.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v21 : BitVec 32 := Scalar.muli v2 c0_i32_15
  let c0_i32_16 : BitVec 32 := 0#32
  let v22 : BitVec 32 := Scalar.addi v21 c0_i32_16
  let c2_i32 : BitVec 32 := 2#32
  let v8 : BitVec 32 := Scalar.shrsi v2 c2_i32
  let c256_i32_181 : BitVec 32 := 256#32
  let v323 : BitVec 32 := Scalar.muli v8 c256_i32_181
  let v324 : BitVec 32 := Scalar.addi v22 v323
  let c3_i32 : BitVec 32 := 3#32
  let v3 : BitVec 32 := Scalar.andi v2 c3_i32
  let c1_i32_2 : BitVec 32 := 1#32
  let v7 : BitVec 32 := Scalar.shrsi v3 c1_i32_2
  let c128_i32_235 : BitVec 32 := 128#32
  let v394 : BitVec 32 := Scalar.muli v7 c128_i32_235
  let v395 : BitVec 32 := Scalar.addi v324 v394
  let v396 : Index := Scalar.indexCast v395
  let c0_236 : Index := 0#32
  ![v396.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v21 : BitVec 32 := Scalar.muli v2 c0_i32_15
  let c0_i32_16 : BitVec 32 := 0#32
  let v22 : BitVec 32 := Scalar.addi v21 c0_i32_16
  let c2_i32 : BitVec 32 := 2#32
  let v8 : BitVec 32 := Scalar.shrsi v2 c2_i32
  let c256_i32_181 : BitVec 32 := 256#32
  let v323 : BitVec 32 := Scalar.muli v8 c256_i32_181
  let v324 : BitVec 32 := Scalar.addi v22 v323
  let c3_i32 : BitVec 32 := 3#32
  let v3 : BitVec 32 := Scalar.andi v2 c3_i32
  let c1_i32_2 : BitVec 32 := 1#32
  let v7 : BitVec 32 := Scalar.shrsi v3 c1_i32_2
  let c128_i32_235 : BitVec 32 := 128#32
  let v394 : BitVec 32 := Scalar.muli v7 c128_i32_235
  let v395 : BitVec 32 := Scalar.addi v324 v394
  let c1_i32_240 : BitVec 32 := 1#32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v404 : BitVec 32 := Scalar.subi c1_i32_240 v6
  let c64_i32_241 : BitVec 32 := 64#32
  let v405 : BitVec 32 := Scalar.muli v404 c64_i32_241
  let v406 : BitVec 32 := Scalar.addi v395 v405
  let v407 : Index := Scalar.indexCast v406
  let c0_242 : Index := 0#32
  ![v407.toNat, 0]
def k0_dev6 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_249 : BitVec 32 := 1#32
  let v414 : BitVec 32 := Scalar.muli v9 c1_i32_249
  let v415 : BitVec 32 := Scalar.addi c0_i32_250 v414
  v415.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v21 : BitVec 32 := Scalar.muli v2 c0_i32_15
  let c0_i32_16 : BitVec 32 := 0#32
  let v22 : BitVec 32 := Scalar.addi v21 c0_i32_16
  let c2_i32 : BitVec 32 := 2#32
  let v8 : BitVec 32 := Scalar.shrsi v2 c2_i32
  let c256_i32_181 : BitVec 32 := 256#32
  let v323 : BitVec 32 := Scalar.muli v8 c256_i32_181
  let v324 : BitVec 32 := Scalar.addi v22 v323
  let c3_i32 : BitVec 32 := 3#32
  let v3 : BitVec 32 := Scalar.andi v2 c3_i32
  let c1_i32_2 : BitVec 32 := 1#32
  let v7 : BitVec 32 := Scalar.shrsi v3 c1_i32_2
  let c128_i32_235 : BitVec 32 := 128#32
  let v394 : BitVec 32 := Scalar.muli v7 c128_i32_235
  let v395 : BitVec 32 := Scalar.addi v324 v394
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c64_i32_290 : BitVec 32 := 64#32
  let v465 : BitVec 32 := Scalar.muli v6 c64_i32_290
  let v466 : BitVec 32 := Scalar.addi v395 v465
  let v467 : Index := Scalar.indexCast v466
  let c0_291 : Index := 0#32
  ![v467.toNat, 0]
def k0_dev7 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_302 : BitVec 32 := 1#32
  let v482 : BitVec 32 := Scalar.muli v9 c1_i32_302
  let v483 : BitVec 32 := Scalar.addi c0_i32_303 v482
  v483.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v21 : BitVec 32 := Scalar.muli v2 c0_i32_15
  let c0_i32_16 : BitVec 32 := 0#32
  let v22 : BitVec 32 := Scalar.addi v21 c0_i32_16
  let c2_i32 : BitVec 32 := 2#32
  let v8 : BitVec 32 := Scalar.shrsi v2 c2_i32
  let c256_i32_181 : BitVec 32 := 256#32
  let v323 : BitVec 32 := Scalar.muli v8 c256_i32_181
  let v324 : BitVec 32 := Scalar.addi v22 v323
  let c3_i32 : BitVec 32 := 3#32
  let v3 : BitVec 32 := Scalar.andi v2 c3_i32
  let c1_i32_2 : BitVec 32 := 1#32
  let v7 : BitVec 32 := Scalar.shrsi v3 c1_i32_2
  let c128_i32_235 : BitVec 32 := 128#32
  let v394 : BitVec 32 := Scalar.muli v7 c128_i32_235
  let v395 : BitVec 32 := Scalar.addi v324 v394
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c64_i32_290 : BitVec 32 := 64#32
  let v465 : BitVec 32 := Scalar.muli v6 c64_i32_290
  let v466 : BitVec 32 := Scalar.addi v395 v465
  let c1_i32_344 : BitVec 32 := 1#32
  let c2_i32_343 : BitVec 32 := 2#32
  let v533 : BitVec 32 := Scalar.muli c2_i32_343 v6
  let v534 : BitVec 32 := Scalar.subi c1_i32_344 v533
  let c64_i32_345 : BitVec 32 := 64#32
  let v535 : BitVec 32 := Scalar.muli v534 c64_i32_345
  let v536 : BitVec 32 := Scalar.addi v466 v535
  let v539 : Index := Scalar.indexCast v536
  let c0_348 : Index := 0#32
  ![v539.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v21 : BitVec 32 := Scalar.muli v2 c0_i32_15
  let c0_i32_16 : BitVec 32 := 0#32
  let v22 : BitVec 32 := Scalar.addi v21 c0_i32_16
  let c2_i32 : BitVec 32 := 2#32
  let v8 : BitVec 32 := Scalar.shrsi v2 c2_i32
  let c256_i32_181 : BitVec 32 := 256#32
  let v323 : BitVec 32 := Scalar.muli v8 c256_i32_181
  let v324 : BitVec 32 := Scalar.addi v22 v323
  let c3_i32 : BitVec 32 := 3#32
  let v3 : BitVec 32 := Scalar.andi v2 c3_i32
  let c1_i32_2 : BitVec 32 := 1#32
  let v7 : BitVec 32 := Scalar.shrsi v3 c1_i32_2
  let c128_i32_235 : BitVec 32 := 128#32
  let v394 : BitVec 32 := Scalar.muli v7 c128_i32_235
  let v395 : BitVec 32 := Scalar.addi v324 v394
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c64_i32_290 : BitVec 32 := 64#32
  let v465 : BitVec 32 := Scalar.muli v6 c64_i32_290
  let v466 : BitVec 32 := Scalar.addi v395 v465
  let c64_i32_349 : BitVec 32 := 64#32
  let v541 : BitVec 32 := Scalar.muli v6 c64_i32_349
  let v542 : BitVec 32 := Scalar.subi v466 v541
  let v543 : Index := Scalar.indexCast v542
  let c0_350 : Index := 0#32
  ![v543.toNat, 0]
def k0_dev8 (d0 : Dev nD) : Nat :=
  let c0_i32_358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.andi v2 c4_i32
  let c3_i32_4 : BitVec 32 := 3#32
  let c3_i32 : BitVec 32 := 3#32
  let v3 : BitVec 32 := Scalar.andi v2 c3_i32
  let v11 : BitVec 32 := Scalar.subi c3_i32_4 v3
  let v12 : BitVec 32 := Scalar.ori v10 v11
  let c1_i32_357 : BitVec 32 := 1#32
  let v550 : BitVec 32 := Scalar.muli v12 c1_i32_357
  let v551 : BitVec 32 := Scalar.addi c0_i32_358 v550
  v551.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v23 : BitVec 32 := Scalar.muli v2 c0_i32_17
  let c512_i32 : BitVec 32 := 512#32
  let v24 : BitVec 32 := Scalar.addi v23 c512_i32
  let c1_i32_363 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v560 : BitVec 32 := Scalar.subi c1_i32_363 v6
  let c256_i32_364 : BitVec 32 := 256#32
  let v561 : BitVec 32 := Scalar.muli v560 c256_i32_364
  let v562 : BitVec 32 := Scalar.addi v24 v561
  let v563 : Index := Scalar.indexCast v562
  let c0_365 : Index := 0#32
  ![v563.toNat, 0]
def k0_dev9 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_372 : BitVec 32 := 1#32
  let v570 : BitVec 32 := Scalar.muli v9 c1_i32_372
  let v571 : BitVec 32 := Scalar.addi c0_i32_373 v570
  v571.toNat
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v21 : BitVec 32 := Scalar.muli v2 c0_i32_15
  let c0_i32_16 : BitVec 32 := 0#32
  let v22 : BitVec 32 := Scalar.addi v21 c0_i32_16
  let c2_i32 : BitVec 32 := 2#32
  let v8 : BitVec 32 := Scalar.shrsi v2 c2_i32
  let c256_i32_181 : BitVec 32 := 256#32
  let v323 : BitVec 32 := Scalar.muli v8 c256_i32_181
  let v324 : BitVec 32 := Scalar.addi v22 v323
  let c3_i32 : BitVec 32 := 3#32
  let v3 : BitVec 32 := Scalar.andi v2 c3_i32
  let c1_i32_2 : BitVec 32 := 1#32
  let v7 : BitVec 32 := Scalar.shrsi v3 c1_i32_2
  let c128_i32_235 : BitVec 32 := 128#32
  let v394 : BitVec 32 := Scalar.muli v7 c128_i32_235
  let v395 : BitVec 32 := Scalar.addi v324 v394
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c64_i32_290 : BitVec 32 := 64#32
  let v465 : BitVec 32 := Scalar.muli v6 c64_i32_290
  let v466 : BitVec 32 := Scalar.addi v395 v465
  let c64_i32_349 : BitVec 32 := 64#32
  let v541 : BitVec 32 := Scalar.muli v6 c64_i32_349
  let v542 : BitVec 32 := Scalar.subi v466 v541
  let c1_i32_426 : BitVec 32 := 1#32
  let c2_i32_425 : BitVec 32 := 2#32
  let v660 : BitVec 32 := Scalar.muli c2_i32_425 v7
  let v661 : BitVec 32 := Scalar.subi c1_i32_426 v660
  let c128_i32_427 : BitVec 32 := 128#32
  let v662 : BitVec 32 := Scalar.muli v661 c128_i32_427
  let v663 : BitVec 32 := Scalar.addi v542 v662
  let v666 : Index := Scalar.indexCast v663
  let c0_430 : Index := 0#32
  ![v666.toNat, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v21 : BitVec 32 := Scalar.muli v2 c0_i32_15
  let c0_i32_16 : BitVec 32 := 0#32
  let v22 : BitVec 32 := Scalar.addi v21 c0_i32_16
  let c2_i32 : BitVec 32 := 2#32
  let v8 : BitVec 32 := Scalar.shrsi v2 c2_i32
  let c256_i32_181 : BitVec 32 := 256#32
  let v323 : BitVec 32 := Scalar.muli v8 c256_i32_181
  let v324 : BitVec 32 := Scalar.addi v22 v323
  let c3_i32 : BitVec 32 := 3#32
  let v3 : BitVec 32 := Scalar.andi v2 c3_i32
  let c1_i32_2 : BitVec 32 := 1#32
  let v7 : BitVec 32 := Scalar.shrsi v3 c1_i32_2
  let c128_i32_235 : BitVec 32 := 128#32
  let v394 : BitVec 32 := Scalar.muli v7 c128_i32_235
  let v395 : BitVec 32 := Scalar.addi v324 v394
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c64_i32_290 : BitVec 32 := 64#32
  let v465 : BitVec 32 := Scalar.muli v6 c64_i32_290
  let v466 : BitVec 32 := Scalar.addi v395 v465
  let c64_i32_349 : BitVec 32 := 64#32
  let v541 : BitVec 32 := Scalar.muli v6 c64_i32_349
  let v542 : BitVec 32 := Scalar.subi v466 v541
  let c128_i32_431 : BitVec 32 := 128#32
  let v668 : BitVec 32 := Scalar.muli v7 c128_i32_431
  let v669 : BitVec 32 := Scalar.subi v542 v668
  let v670 : Index := Scalar.indexCast v669
  let c0_432 : Index := 0#32
  ![v670.toNat, 0]
def k0_dev10 (d0 : Dev nD) : Nat :=
  let c0_i32_440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_439 : BitVec 32 := 1#32
  let v677 : BitVec 32 := Scalar.muli v13 c1_i32_439
  let v678 : BitVec 32 := Scalar.addi c0_i32_440 v677
  v678.toNat
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v23 : BitVec 32 := Scalar.muli v2 c0_i32_17
  let c512_i32 : BitVec 32 := 512#32
  let v24 : BitVec 32 := Scalar.addi v23 c512_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_458 : BitVec 32 := 256#32
  let v692 : BitVec 32 := Scalar.muli v6 c256_i32_458
  let v693 : BitVec 32 := Scalar.addi v24 v692
  let v694 : Index := Scalar.indexCast v693
  let c0_459 : Index := 0#32
  ![v694.toNat, 0]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v23 : BitVec 32 := Scalar.muli v2 c0_i32_17
  let c512_i32 : BitVec 32 := 512#32
  let v24 : BitVec 32 := Scalar.addi v23 c512_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_458 : BitVec 32 := 256#32
  let v692 : BitVec 32 := Scalar.muli v6 c256_i32_458
  let v693 : BitVec 32 := Scalar.addi v24 v692
  let c1_i32_463 : BitVec 32 := 1#32
  let c2_i32 : BitVec 32 := 2#32
  let v8 : BitVec 32 := Scalar.shrsi v2 c2_i32
  let v702 : BitVec 32 := Scalar.subi c1_i32_463 v8
  let c128_i32_464 : BitVec 32 := 128#32
  let v703 : BitVec 32 := Scalar.muli v702 c128_i32_464
  let v704 : BitVec 32 := Scalar.addi v693 v703
  let v705 : Index := Scalar.indexCast v704
  let c0_465 : Index := 0#32
  ![v705.toNat, 0]
def k0_dev11 (d0 : Dev nD) : Nat :=
  let c0_i32_473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_472 : BitVec 32 := 1#32
  let v712 : BitVec 32 := Scalar.muli v13 c1_i32_472
  let v713 : BitVec 32 := Scalar.addi c0_i32_473 v712
  v713.toNat
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v21 : BitVec 32 := Scalar.muli v2 c0_i32_15
  let c0_i32_16 : BitVec 32 := 0#32
  let v22 : BitVec 32 := Scalar.addi v21 c0_i32_16
  let c2_i32 : BitVec 32 := 2#32
  let v8 : BitVec 32 := Scalar.shrsi v2 c2_i32
  let c256_i32_181 : BitVec 32 := 256#32
  let v323 : BitVec 32 := Scalar.muli v8 c256_i32_181
  let v324 : BitVec 32 := Scalar.addi v22 v323
  let c3_i32 : BitVec 32 := 3#32
  let v3 : BitVec 32 := Scalar.andi v2 c3_i32
  let c1_i32_2 : BitVec 32 := 1#32
  let v7 : BitVec 32 := Scalar.shrsi v3 c1_i32_2
  let c128_i32_235 : BitVec 32 := 128#32
  let v394 : BitVec 32 := Scalar.muli v7 c128_i32_235
  let v395 : BitVec 32 := Scalar.addi v324 v394
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c64_i32_290 : BitVec 32 := 64#32
  let v465 : BitVec 32 := Scalar.muli v6 c64_i32_290
  let v466 : BitVec 32 := Scalar.addi v395 v465
  let c64_i32_349 : BitVec 32 := 64#32
  let v541 : BitVec 32 := Scalar.muli v6 c64_i32_349
  let v542 : BitVec 32 := Scalar.subi v466 v541
  let c128_i32_431 : BitVec 32 := 128#32
  let v668 : BitVec 32 := Scalar.muli v7 c128_i32_431
  let v669 : BitVec 32 := Scalar.subi v542 v668
  let c1_i32_514 : BitVec 32 := 1#32
  let c2_i32_513 : BitVec 32 := 2#32
  let v763 : BitVec 32 := Scalar.muli c2_i32_513 v8
  let v764 : BitVec 32 := Scalar.subi c1_i32_514 v763
  let c256_i32_515 : BitVec 32 := 256#32
  let v765 : BitVec 32 := Scalar.muli v764 c256_i32_515
  let v766 : BitVec 32 := Scalar.addi v669 v765
  let v769 : Index := Scalar.indexCast v766
  let c0_518 : Index := 0#32
  ![v769.toNat, 0]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v23 : BitVec 32 := Scalar.muli v2 c0_i32_17
  let c512_i32 : BitVec 32 := 512#32
  let v24 : BitVec 32 := Scalar.addi v23 c512_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_458 : BitVec 32 := 256#32
  let v692 : BitVec 32 := Scalar.muli v6 c256_i32_458
  let v693 : BitVec 32 := Scalar.addi v24 v692
  let c2_i32 : BitVec 32 := 2#32
  let v8 : BitVec 32 := Scalar.shrsi v2 c2_i32
  let c128_i32_534 : BitVec 32 := 128#32
  let v779 : BitVec 32 := Scalar.muli v8 c128_i32_534
  let v780 : BitVec 32 := Scalar.addi v693 v779
  let v781 : Index := Scalar.indexCast v780
  let c0_535 : Index := 0#32
  ![v781.toNat, 0]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v23 : BitVec 32 := Scalar.muli v2 c0_i32_17
  let c512_i32 : BitVec 32 := 512#32
  let v24 : BitVec 32 := Scalar.addi v23 c512_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_458 : BitVec 32 := 256#32
  let v692 : BitVec 32 := Scalar.muli v6 c256_i32_458
  let v693 : BitVec 32 := Scalar.addi v24 v692
  let c2_i32 : BitVec 32 := 2#32
  let v8 : BitVec 32 := Scalar.shrsi v2 c2_i32
  let c128_i32_534 : BitVec 32 := 128#32
  let v779 : BitVec 32 := Scalar.muli v8 c128_i32_534
  let v780 : BitVec 32 := Scalar.addi v693 v779
  let c1_i32_539 : BitVec 32 := 1#32
  let c1_i32_2 : BitVec 32 := 1#32
  let v7 : BitVec 32 := Scalar.shrsi v3 c1_i32_2
  let v789 : BitVec 32 := Scalar.subi c1_i32_539 v7
  let c64_i32_540 : BitVec 32 := 64#32
  let v790 : BitVec 32 := Scalar.muli v789 c64_i32_540
  let v791 : BitVec 32 := Scalar.addi v780 v790
  let v792 : Index := Scalar.indexCast v791
  let c0_541 : Index := 0#32
  ![v792.toNat, 0]
def k0_dev12 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.andi v2 c4_i32
  let c3_i32_4 : BitVec 32 := 3#32
  let c3_i32 : BitVec 32 := 3#32
  let v3 : BitVec 32 := Scalar.andi v2 c3_i32
  let v11 : BitVec 32 := Scalar.subi c3_i32_4 v3
  let v12 : BitVec 32 := Scalar.ori v10 v11
  let c1_i32_548 : BitVec 32 := 1#32
  let v799 : BitVec 32 := Scalar.muli v12 c1_i32_548
  let v800 : BitVec 32 := Scalar.addi c0_i32_549 v799
  v800.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v23 : BitVec 32 := Scalar.muli v2 c0_i32_17
  let c512_i32 : BitVec 32 := 512#32
  let v24 : BitVec 32 := Scalar.addi v23 c512_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_458 : BitVec 32 := 256#32
  let v692 : BitVec 32 := Scalar.muli v6 c256_i32_458
  let v693 : BitVec 32 := Scalar.addi v24 v692
  let c2_i32 : BitVec 32 := 2#32
  let v8 : BitVec 32 := Scalar.shrsi v2 c2_i32
  let c128_i32_534 : BitVec 32 := 128#32
  let v779 : BitVec 32 := Scalar.muli v8 c128_i32_534
  let v780 : BitVec 32 := Scalar.addi v693 v779
  let c1_i32_2 : BitVec 32 := 1#32
  let v7 : BitVec 32 := Scalar.shrsi v3 c1_i32_2
  let c64_i32_589 : BitVec 32 := 64#32
  let v850 : BitVec 32 := Scalar.muli v7 c64_i32_589
  let v851 : BitVec 32 := Scalar.addi v780 v850
  let v852 : Index := Scalar.indexCast v851
  let c0_590 : Index := 0#32
  ![v852.toNat, 0]
def k0_dev13 (d0 : Dev nD) : Nat :=
  let c0_i32_602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.andi v2 c4_i32
  let c3_i32_4 : BitVec 32 := 3#32
  let c3_i32 : BitVec 32 := 3#32
  let v3 : BitVec 32 := Scalar.andi v2 c3_i32
  let v11 : BitVec 32 := Scalar.subi c3_i32_4 v3
  let v12 : BitVec 32 := Scalar.ori v10 v11
  let c1_i32_601 : BitVec 32 := 1#32
  let v867 : BitVec 32 := Scalar.muli v12 c1_i32_601
  let v868 : BitVec 32 := Scalar.addi c0_i32_602 v867
  v868.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v23 : BitVec 32 := Scalar.muli v2 c0_i32_17
  let c512_i32 : BitVec 32 := 512#32
  let v24 : BitVec 32 := Scalar.addi v23 c512_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_458 : BitVec 32 := 256#32
  let v692 : BitVec 32 := Scalar.muli v6 c256_i32_458
  let v693 : BitVec 32 := Scalar.addi v24 v692
  let c2_i32 : BitVec 32 := 2#32
  let v8 : BitVec 32 := Scalar.shrsi v2 c2_i32
  let c128_i32_534 : BitVec 32 := 128#32
  let v779 : BitVec 32 := Scalar.muli v8 c128_i32_534
  let v780 : BitVec 32 := Scalar.addi v693 v779
  let c1_i32_2 : BitVec 32 := 1#32
  let v7 : BitVec 32 := Scalar.shrsi v3 c1_i32_2
  let c64_i32_589 : BitVec 32 := 64#32
  let v850 : BitVec 32 := Scalar.muli v7 c64_i32_589
  let v851 : BitVec 32 := Scalar.addi v780 v850
  let c1_i32_643 : BitVec 32 := 1#32
  let c2_i32_642 : BitVec 32 := 2#32
  let v918 : BitVec 32 := Scalar.muli c2_i32_642 v7
  let v919 : BitVec 32 := Scalar.subi c1_i32_643 v918
  let c64_i32_644 : BitVec 32 := 64#32
  let v920 : BitVec 32 := Scalar.muli v919 c64_i32_644
  let v921 : BitVec 32 := Scalar.addi v851 v920
  let v924 : Index := Scalar.indexCast v921
  let c0_647 : Index := 0#32
  ![v924.toNat, 0]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v23 : BitVec 32 := Scalar.muli v2 c0_i32_17
  let c512_i32 : BitVec 32 := 512#32
  let v24 : BitVec 32 := Scalar.addi v23 c512_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_458 : BitVec 32 := 256#32
  let v692 : BitVec 32 := Scalar.muli v6 c256_i32_458
  let v693 : BitVec 32 := Scalar.addi v24 v692
  let c2_i32 : BitVec 32 := 2#32
  let v8 : BitVec 32 := Scalar.shrsi v2 c2_i32
  let c128_i32_534 : BitVec 32 := 128#32
  let v779 : BitVec 32 := Scalar.muli v8 c128_i32_534
  let v780 : BitVec 32 := Scalar.addi v693 v779
  let c1_i32_2 : BitVec 32 := 1#32
  let v7 : BitVec 32 := Scalar.shrsi v3 c1_i32_2
  let c64_i32_589 : BitVec 32 := 64#32
  let v850 : BitVec 32 := Scalar.muli v7 c64_i32_589
  let v851 : BitVec 32 := Scalar.addi v780 v850
  let c64_i32_648 : BitVec 32 := 64#32
  let v926 : BitVec 32 := Scalar.muli v7 c64_i32_648
  let v927 : BitVec 32 := Scalar.subi v851 v926
  let v928 : Index := Scalar.indexCast v927
  let c0_649 : Index := 0#32
  ![v928.toNat, 0]
def k0_dev14 (d0 : Dev nD) : Nat :=
  let c0_i32_657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_656 : BitVec 32 := 1#32
  let v935 : BitVec 32 := Scalar.muli v13 c1_i32_656
  let v936 : BitVec 32 := Scalar.addi c0_i32_657 v935
  v936.toNat
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v25 : BitVec 32 := Scalar.muli v2 c0_i32_18
  let c1024_i32 : BitVec 32 := 1024#32
  let v26 : BitVec 32 := Scalar.addi v25 c1024_i32
  let c1_i32_662 : BitVec 32 := 1#32
  let c3_i32 : BitVec 32 := 3#32
  let v3 : BitVec 32 := Scalar.andi v2 c3_i32
  let c1_i32_2 : BitVec 32 := 1#32
  let v7 : BitVec 32 := Scalar.shrsi v3 c1_i32_2
  let v945 : BitVec 32 := Scalar.subi c1_i32_662 v7
  let c256_i32_663 : BitVec 32 := 256#32
  let v946 : BitVec 32 := Scalar.muli v945 c256_i32_663
  let v947 : BitVec 32 := Scalar.addi v26 v946
  let v948 : Index := Scalar.indexCast v947
  let c0_664 : Index := 0#32
  ![v948.toNat, 0]
def k0_dev15 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.andi v2 c4_i32
  let c3_i32_4 : BitVec 32 := 3#32
  let c3_i32 : BitVec 32 := 3#32
  let v3 : BitVec 32 := Scalar.andi v2 c3_i32
  let v11 : BitVec 32 := Scalar.subi c3_i32_4 v3
  let v12 : BitVec 32 := Scalar.ori v10 v11
  let c1_i32_671 : BitVec 32 := 1#32
  let v955 : BitVec 32 := Scalar.muli v12 c1_i32_671
  let v956 : BitVec 32 := Scalar.addi c0_i32_672 v955
  v956.toNat
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v23 : BitVec 32 := Scalar.muli v2 c0_i32_17
  let c512_i32 : BitVec 32 := 512#32
  let v24 : BitVec 32 := Scalar.addi v23 c512_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_458 : BitVec 32 := 256#32
  let v692 : BitVec 32 := Scalar.muli v6 c256_i32_458
  let v693 : BitVec 32 := Scalar.addi v24 v692
  let c2_i32 : BitVec 32 := 2#32
  let v8 : BitVec 32 := Scalar.shrsi v2 c2_i32
  let c128_i32_534 : BitVec 32 := 128#32
  let v779 : BitVec 32 := Scalar.muli v8 c128_i32_534
  let v780 : BitVec 32 := Scalar.addi v693 v779
  let c1_i32_2 : BitVec 32 := 1#32
  let v7 : BitVec 32 := Scalar.shrsi v3 c1_i32_2
  let c64_i32_589 : BitVec 32 := 64#32
  let v850 : BitVec 32 := Scalar.muli v7 c64_i32_589
  let v851 : BitVec 32 := Scalar.addi v780 v850
  let c64_i32_648 : BitVec 32 := 64#32
  let v926 : BitVec 32 := Scalar.muli v7 c64_i32_648
  let v927 : BitVec 32 := Scalar.subi v851 v926
  let c1_i32_725 : BitVec 32 := 1#32
  let c2_i32_724 : BitVec 32 := 2#32
  let v1045 : BitVec 32 := Scalar.muli c2_i32_724 v8
  let v1046 : BitVec 32 := Scalar.subi c1_i32_725 v1045
  let c128_i32_726 : BitVec 32 := 128#32
  let v1047 : BitVec 32 := Scalar.muli v1046 c128_i32_726
  let v1048 : BitVec 32 := Scalar.addi v927 v1047
  let v1051 : Index := Scalar.indexCast v1048
  let c0_729 : Index := 0#32
  ![v1051.toNat, 0]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v23 : BitVec 32 := Scalar.muli v2 c0_i32_17
  let c512_i32 : BitVec 32 := 512#32
  let v24 : BitVec 32 := Scalar.addi v23 c512_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_458 : BitVec 32 := 256#32
  let v692 : BitVec 32 := Scalar.muli v6 c256_i32_458
  let v693 : BitVec 32 := Scalar.addi v24 v692
  let c2_i32 : BitVec 32 := 2#32
  let v8 : BitVec 32 := Scalar.shrsi v2 c2_i32
  let c128_i32_534 : BitVec 32 := 128#32
  let v779 : BitVec 32 := Scalar.muli v8 c128_i32_534
  let v780 : BitVec 32 := Scalar.addi v693 v779
  let c1_i32_2 : BitVec 32 := 1#32
  let v7 : BitVec 32 := Scalar.shrsi v3 c1_i32_2
  let c64_i32_589 : BitVec 32 := 64#32
  let v850 : BitVec 32 := Scalar.muli v7 c64_i32_589
  let v851 : BitVec 32 := Scalar.addi v780 v850
  let c64_i32_648 : BitVec 32 := 64#32
  let v926 : BitVec 32 := Scalar.muli v7 c64_i32_648
  let v927 : BitVec 32 := Scalar.subi v851 v926
  let c128_i32_730 : BitVec 32 := 128#32
  let v1053 : BitVec 32 := Scalar.muli v8 c128_i32_730
  let v1054 : BitVec 32 := Scalar.subi v927 v1053
  let v1055 : Index := Scalar.indexCast v1054
  let c0_731 : Index := 0#32
  ![v1055.toNat, 0]
def k0_dev16 (d0 : Dev nD) : Nat :=
  let c0_i32_739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_738 : BitVec 32 := 1#32
  let v1062 : BitVec 32 := Scalar.muli v9 c1_i32_738
  let v1063 : BitVec 32 := Scalar.addi c0_i32_739 v1062
  v1063.toNat
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v25 : BitVec 32 := Scalar.muli v2 c0_i32_18
  let c1024_i32 : BitVec 32 := 1024#32
  let v26 : BitVec 32 := Scalar.addi v25 c1024_i32
  let c3_i32 : BitVec 32 := 3#32
  let v3 : BitVec 32 := Scalar.andi v2 c3_i32
  let c1_i32_2 : BitVec 32 := 1#32
  let v7 : BitVec 32 := Scalar.shrsi v3 c1_i32_2
  let c256_i32_757 : BitVec 32 := 256#32
  let v1077 : BitVec 32 := Scalar.muli v7 c256_i32_757
  let v1078 : BitVec 32 := Scalar.addi v26 v1077
  let v1079 : Index := Scalar.indexCast v1078
  let c0_758 : Index := 0#32
  ![v1079.toNat, 0]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v25 : BitVec 32 := Scalar.muli v2 c0_i32_18
  let c1024_i32 : BitVec 32 := 1024#32
  let v26 : BitVec 32 := Scalar.addi v25 c1024_i32
  let c3_i32 : BitVec 32 := 3#32
  let v3 : BitVec 32 := Scalar.andi v2 c3_i32
  let c1_i32_2 : BitVec 32 := 1#32
  let v7 : BitVec 32 := Scalar.shrsi v3 c1_i32_2
  let c256_i32_757 : BitVec 32 := 256#32
  let v1077 : BitVec 32 := Scalar.muli v7 c256_i32_757
  let v1078 : BitVec 32 := Scalar.addi v26 v1077
  let c1_i32_762 : BitVec 32 := 1#32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v1087 : BitVec 32 := Scalar.subi c1_i32_762 v6
  let c128_i32_763 : BitVec 32 := 128#32
  let v1088 : BitVec 32 := Scalar.muli v1087 c128_i32_763
  let v1089 : BitVec 32 := Scalar.addi v1078 v1088
  let v1090 : Index := Scalar.indexCast v1089
  let c0_764 : Index := 0#32
  ![v1090.toNat, 0]
def k0_dev17 (d0 : Dev nD) : Nat :=
  let c0_i32_772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_771 : BitVec 32 := 1#32
  let v1097 : BitVec 32 := Scalar.muli v9 c1_i32_771
  let v1098 : BitVec 32 := Scalar.addi c0_i32_772 v1097
  v1098.toNat
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v23 : BitVec 32 := Scalar.muli v2 c0_i32_17
  let c512_i32 : BitVec 32 := 512#32
  let v24 : BitVec 32 := Scalar.addi v23 c512_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c256_i32_458 : BitVec 32 := 256#32
  let v692 : BitVec 32 := Scalar.muli v6 c256_i32_458
  let v693 : BitVec 32 := Scalar.addi v24 v692
  let c2_i32 : BitVec 32 := 2#32
  let v8 : BitVec 32 := Scalar.shrsi v2 c2_i32
  let c128_i32_534 : BitVec 32 := 128#32
  let v779 : BitVec 32 := Scalar.muli v8 c128_i32_534
  let v780 : BitVec 32 := Scalar.addi v693 v779
  let c1_i32_2 : BitVec 32 := 1#32
  let v7 : BitVec 32 := Scalar.shrsi v3 c1_i32_2
  let c64_i32_589 : BitVec 32 := 64#32
  let v850 : BitVec 32 := Scalar.muli v7 c64_i32_589
  let v851 : BitVec 32 := Scalar.addi v780 v850
  let c64_i32_648 : BitVec 32 := 64#32
  let v926 : BitVec 32 := Scalar.muli v7 c64_i32_648
  let v927 : BitVec 32 := Scalar.subi v851 v926
  let c128_i32_730 : BitVec 32 := 128#32
  let v1053 : BitVec 32 := Scalar.muli v8 c128_i32_730
  let v1054 : BitVec 32 := Scalar.subi v927 v1053
  let c1_i32_813 : BitVec 32 := 1#32
  let c2_i32_812 : BitVec 32 := 2#32
  let v1148 : BitVec 32 := Scalar.muli c2_i32_812 v6
  let v1149 : BitVec 32 := Scalar.subi c1_i32_813 v1148
  let c256_i32_814 : BitVec 32 := 256#32
  let v1150 : BitVec 32 := Scalar.muli v1149 c256_i32_814
  let v1151 : BitVec 32 := Scalar.addi v1054 v1150
  let v1154 : Index := Scalar.indexCast v1151
  let c0_817 : Index := 0#32
  ![v1154.toNat, 0]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v25 : BitVec 32 := Scalar.muli v2 c0_i32_18
  let c1024_i32 : BitVec 32 := 1024#32
  let v26 : BitVec 32 := Scalar.addi v25 c1024_i32
  let c3_i32 : BitVec 32 := 3#32
  let v3 : BitVec 32 := Scalar.andi v2 c3_i32
  let c1_i32_2 : BitVec 32 := 1#32
  let v7 : BitVec 32 := Scalar.shrsi v3 c1_i32_2
  let c256_i32_757 : BitVec 32 := 256#32
  let v1077 : BitVec 32 := Scalar.muli v7 c256_i32_757
  let v1078 : BitVec 32 := Scalar.addi v26 v1077
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_833 : BitVec 32 := 128#32
  let v1164 : BitVec 32 := Scalar.muli v6 c128_i32_833
  let v1165 : BitVec 32 := Scalar.addi v1078 v1164
  let v1166 : Index := Scalar.indexCast v1165
  let c0_834 : Index := 0#32
  ![v1166.toNat, 0]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v25 : BitVec 32 := Scalar.muli v2 c0_i32_18
  let c1024_i32 : BitVec 32 := 1024#32
  let v26 : BitVec 32 := Scalar.addi v25 c1024_i32
  let c3_i32 : BitVec 32 := 3#32
  let v3 : BitVec 32 := Scalar.andi v2 c3_i32
  let c1_i32_2 : BitVec 32 := 1#32
  let v7 : BitVec 32 := Scalar.shrsi v3 c1_i32_2
  let c256_i32_757 : BitVec 32 := 256#32
  let v1077 : BitVec 32 := Scalar.muli v7 c256_i32_757
  let v1078 : BitVec 32 := Scalar.addi v26 v1077
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_833 : BitVec 32 := 128#32
  let v1164 : BitVec 32 := Scalar.muli v6 c128_i32_833
  let v1165 : BitVec 32 := Scalar.addi v1078 v1164
  let c1_i32_838 : BitVec 32 := 1#32
  let c2_i32 : BitVec 32 := 2#32
  let v8 : BitVec 32 := Scalar.shrsi v2 c2_i32
  let v1174 : BitVec 32 := Scalar.subi c1_i32_838 v8
  let c64_i32_839 : BitVec 32 := 64#32
  let v1175 : BitVec 32 := Scalar.muli v1174 c64_i32_839
  let v1176 : BitVec 32 := Scalar.addi v1165 v1175
  let v1177 : Index := Scalar.indexCast v1176
  let c0_840 : Index := 0#32
  ![v1177.toNat, 0]
def k0_dev18 (d0 : Dev nD) : Nat :=
  let c0_i32_848 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_847 : BitVec 32 := 1#32
  let v1184 : BitVec 32 := Scalar.muli v13 c1_i32_847
  let v1185 : BitVec 32 := Scalar.addi c0_i32_848 v1184
  v1185.toNat
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v25 : BitVec 32 := Scalar.muli v2 c0_i32_18
  let c1024_i32 : BitVec 32 := 1024#32
  let v26 : BitVec 32 := Scalar.addi v25 c1024_i32
  let c3_i32 : BitVec 32 := 3#32
  let v3 : BitVec 32 := Scalar.andi v2 c3_i32
  let c1_i32_2 : BitVec 32 := 1#32
  let v7 : BitVec 32 := Scalar.shrsi v3 c1_i32_2
  let c256_i32_757 : BitVec 32 := 256#32
  let v1077 : BitVec 32 := Scalar.muli v7 c256_i32_757
  let v1078 : BitVec 32 := Scalar.addi v26 v1077
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_833 : BitVec 32 := 128#32
  let v1164 : BitVec 32 := Scalar.muli v6 c128_i32_833
  let v1165 : BitVec 32 := Scalar.addi v1078 v1164
  let c2_i32 : BitVec 32 := 2#32
  let v8 : BitVec 32 := Scalar.shrsi v2 c2_i32
  let c64_i32_888 : BitVec 32 := 64#32
  let v1235 : BitVec 32 := Scalar.muli v8 c64_i32_888
  let v1236 : BitVec 32 := Scalar.addi v1165 v1235
  let v1237 : Index := Scalar.indexCast v1236
  let c0_889 : Index := 0#32
  ![v1237.toNat, 0]
def k0_dev19 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_900 : BitVec 32 := 1#32
  let v1252 : BitVec 32 := Scalar.muli v13 c1_i32_900
  let v1253 : BitVec 32 := Scalar.addi c0_i32_901 v1252
  v1253.toNat
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v25 : BitVec 32 := Scalar.muli v2 c0_i32_18
  let c1024_i32 : BitVec 32 := 1024#32
  let v26 : BitVec 32 := Scalar.addi v25 c1024_i32
  let c3_i32 : BitVec 32 := 3#32
  let v3 : BitVec 32 := Scalar.andi v2 c3_i32
  let c1_i32_2 : BitVec 32 := 1#32
  let v7 : BitVec 32 := Scalar.shrsi v3 c1_i32_2
  let c256_i32_757 : BitVec 32 := 256#32
  let v1077 : BitVec 32 := Scalar.muli v7 c256_i32_757
  let v1078 : BitVec 32 := Scalar.addi v26 v1077
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_833 : BitVec 32 := 128#32
  let v1164 : BitVec 32 := Scalar.muli v6 c128_i32_833
  let v1165 : BitVec 32 := Scalar.addi v1078 v1164
  let c2_i32 : BitVec 32 := 2#32
  let v8 : BitVec 32 := Scalar.shrsi v2 c2_i32
  let c64_i32_888 : BitVec 32 := 64#32
  let v1235 : BitVec 32 := Scalar.muli v8 c64_i32_888
  let v1236 : BitVec 32 := Scalar.addi v1165 v1235
  let c1_i32_942 : BitVec 32 := 1#32
  let c2_i32_941 : BitVec 32 := 2#32
  let v1303 : BitVec 32 := Scalar.muli c2_i32_941 v8
  let v1304 : BitVec 32 := Scalar.subi c1_i32_942 v1303
  let c64_i32_943 : BitVec 32 := 64#32
  let v1305 : BitVec 32 := Scalar.muli v1304 c64_i32_943
  let v1306 : BitVec 32 := Scalar.addi v1236 v1305
  let v1309 : Index := Scalar.indexCast v1306
  let c0_946 : Index := 0#32
  ![v1309.toNat, 0]
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v25 : BitVec 32 := Scalar.muli v2 c0_i32_18
  let c1024_i32 : BitVec 32 := 1024#32
  let v26 : BitVec 32 := Scalar.addi v25 c1024_i32
  let c3_i32 : BitVec 32 := 3#32
  let v3 : BitVec 32 := Scalar.andi v2 c3_i32
  let c1_i32_2 : BitVec 32 := 1#32
  let v7 : BitVec 32 := Scalar.shrsi v3 c1_i32_2
  let c256_i32_757 : BitVec 32 := 256#32
  let v1077 : BitVec 32 := Scalar.muli v7 c256_i32_757
  let v1078 : BitVec 32 := Scalar.addi v26 v1077
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_833 : BitVec 32 := 128#32
  let v1164 : BitVec 32 := Scalar.muli v6 c128_i32_833
  let v1165 : BitVec 32 := Scalar.addi v1078 v1164
  let c2_i32 : BitVec 32 := 2#32
  let v8 : BitVec 32 := Scalar.shrsi v2 c2_i32
  let c64_i32_888 : BitVec 32 := 64#32
  let v1235 : BitVec 32 := Scalar.muli v8 c64_i32_888
  let v1236 : BitVec 32 := Scalar.addi v1165 v1235
  let c64_i32_947 : BitVec 32 := 64#32
  let v1311 : BitVec 32 := Scalar.muli v8 c64_i32_947
  let v1312 : BitVec 32 := Scalar.subi v1236 v1311
  let v1313 : Index := Scalar.indexCast v1312
  let c0_948 : Index := 0#32
  ![v1313.toNat, 0]
def k0_dev20 (d0 : Dev nD) : Nat :=
  let c0_i32_956 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_955 : BitVec 32 := 1#32
  let v1320 : BitVec 32 := Scalar.muli v9 c1_i32_955
  let v1321 : BitVec 32 := Scalar.addi c0_i32_956 v1320
  v1321.toNat
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_19 : BitVec 32 := 0#32
  let v27 : BitVec 32 := Scalar.muli v2 c0_i32_19
  let c1536_i32 : BitVec 32 := 1536#32
  let v28 : BitVec 32 := Scalar.addi v27 c1536_i32
  let c1_i32_961 : BitVec 32 := 1#32
  let c2_i32 : BitVec 32 := 2#32
  let v8 : BitVec 32 := Scalar.shrsi v2 c2_i32
  let v1330 : BitVec 32 := Scalar.subi c1_i32_961 v8
  let c128_i32_962 : BitVec 32 := 128#32
  let v1331 : BitVec 32 := Scalar.muli v1330 c128_i32_962
  let v1332 : BitVec 32 := Scalar.addi v28 v1331
  let v1333 : Index := Scalar.indexCast v1332
  let c0_963 : Index := 0#32
  ![v1333.toNat, 0]
def k0_dev21 (d0 : Dev nD) : Nat :=
  let c0_i32_971 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_970 : BitVec 32 := 1#32
  let v1340 : BitVec 32 := Scalar.muli v13 c1_i32_970
  let v1341 : BitVec 32 := Scalar.addi c0_i32_971 v1340
  v1341.toNat
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v29 : BitVec 32 := Scalar.muli v2 c0_i32_20
  let c1792_i32 : BitVec 32 := 1792#32
  let v30 : BitVec 32 := Scalar.addi v29 c1792_i32
  let c1_i32_974 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v1347 : BitVec 32 := Scalar.subi c1_i32_974 v6
  let c128_i32_975 : BitVec 32 := 128#32
  let v1348 : BitVec 32 := Scalar.muli v1347 c128_i32_975
  let v1349 : BitVec 32 := Scalar.addi v30 v1348
  let v1350 : Index := Scalar.indexCast v1349
  let c0_976 : Index := 0#32
  ![v1350.toNat, 0]
def k0_dev22 (d0 : Dev nD) : Nat :=
  let c0_i32_984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_983 : BitVec 32 := 1#32
  let v1357 : BitVec 32 := Scalar.muli v9 c1_i32_983
  let v1358 : BitVec 32 := Scalar.addi c0_i32_984 v1357
  v1358.toNat
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v25 : BitVec 32 := Scalar.muli v2 c0_i32_18
  let c1024_i32 : BitVec 32 := 1024#32
  let v26 : BitVec 32 := Scalar.addi v25 c1024_i32
  let c3_i32 : BitVec 32 := 3#32
  let v3 : BitVec 32 := Scalar.andi v2 c3_i32
  let c1_i32_2 : BitVec 32 := 1#32
  let v7 : BitVec 32 := Scalar.shrsi v3 c1_i32_2
  let c256_i32_757 : BitVec 32 := 256#32
  let v1077 : BitVec 32 := Scalar.muli v7 c256_i32_757
  let v1078 : BitVec 32 := Scalar.addi v26 v1077
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_833 : BitVec 32 := 128#32
  let v1164 : BitVec 32 := Scalar.muli v6 c128_i32_833
  let v1165 : BitVec 32 := Scalar.addi v1078 v1164
  let c2_i32 : BitVec 32 := 2#32
  let v8 : BitVec 32 := Scalar.shrsi v2 c2_i32
  let c64_i32_888 : BitVec 32 := 64#32
  let v1235 : BitVec 32 := Scalar.muli v8 c64_i32_888
  let v1236 : BitVec 32 := Scalar.addi v1165 v1235
  let c64_i32_947 : BitVec 32 := 64#32
  let v1311 : BitVec 32 := Scalar.muli v8 c64_i32_947
  let v1312 : BitVec 32 := Scalar.subi v1236 v1311
  let c1_i32_1003 : BitVec 32 := 1#32
  let c2_i32_1002 : BitVec 32 := 2#32
  let v1372 : BitVec 32 := Scalar.muli c2_i32_1002 v6
  let v1373 : BitVec 32 := Scalar.subi c1_i32_1003 v1372
  let c128_i32_1004 : BitVec 32 := 128#32
  let v1374 : BitVec 32 := Scalar.muli v1373 c128_i32_1004
  let v1375 : BitVec 32 := Scalar.addi v1312 v1374
  let v1378 : Index := Scalar.indexCast v1375
  let c0_1007 : Index := 0#32
  ![v1378.toNat, 0]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v25 : BitVec 32 := Scalar.muli v2 c0_i32_18
  let c1024_i32 : BitVec 32 := 1024#32
  let v26 : BitVec 32 := Scalar.addi v25 c1024_i32
  let c3_i32 : BitVec 32 := 3#32
  let v3 : BitVec 32 := Scalar.andi v2 c3_i32
  let c1_i32_2 : BitVec 32 := 1#32
  let v7 : BitVec 32 := Scalar.shrsi v3 c1_i32_2
  let c256_i32_757 : BitVec 32 := 256#32
  let v1077 : BitVec 32 := Scalar.muli v7 c256_i32_757
  let v1078 : BitVec 32 := Scalar.addi v26 v1077
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_833 : BitVec 32 := 128#32
  let v1164 : BitVec 32 := Scalar.muli v6 c128_i32_833
  let v1165 : BitVec 32 := Scalar.addi v1078 v1164
  let c2_i32 : BitVec 32 := 2#32
  let v8 : BitVec 32 := Scalar.shrsi v2 c2_i32
  let c64_i32_888 : BitVec 32 := 64#32
  let v1235 : BitVec 32 := Scalar.muli v8 c64_i32_888
  let v1236 : BitVec 32 := Scalar.addi v1165 v1235
  let c64_i32_947 : BitVec 32 := 64#32
  let v1311 : BitVec 32 := Scalar.muli v8 c64_i32_947
  let v1312 : BitVec 32 := Scalar.subi v1236 v1311
  let c128_i32_1008 : BitVec 32 := 128#32
  let v1380 : BitVec 32 := Scalar.muli v6 c128_i32_1008
  let v1381 : BitVec 32 := Scalar.subi v1312 v1380
  let v1382 : Index := Scalar.indexCast v1381
  let c0_1009 : Index := 0#32
  ![v1382.toNat, 0]
def k0_dev23 (d0 : Dev nD) : Nat :=
  let c0_i32_1017 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.andi v2 c4_i32
  let c3_i32_4 : BitVec 32 := 3#32
  let c3_i32 : BitVec 32 := 3#32
  let v3 : BitVec 32 := Scalar.andi v2 c3_i32
  let v11 : BitVec 32 := Scalar.subi c3_i32_4 v3
  let v12 : BitVec 32 := Scalar.ori v10 v11
  let c1_i32_1016 : BitVec 32 := 1#32
  let v1389 : BitVec 32 := Scalar.muli v12 c1_i32_1016
  let v1390 : BitVec 32 := Scalar.addi c0_i32_1017 v1389
  v1390.toNat
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_19 : BitVec 32 := 0#32
  let v27 : BitVec 32 := Scalar.muli v2 c0_i32_19
  let c1536_i32 : BitVec 32 := 1536#32
  let v28 : BitVec 32 := Scalar.addi v27 c1536_i32
  let c2_i32 : BitVec 32 := 2#32
  let v8 : BitVec 32 := Scalar.shrsi v2 c2_i32
  let c128_i32_1035 : BitVec 32 := 128#32
  let v1404 : BitVec 32 := Scalar.muli v8 c128_i32_1035
  let v1405 : BitVec 32 := Scalar.addi v28 v1404
  let v1406 : Index := Scalar.indexCast v1405
  let c0_1036 : Index := 0#32
  ![v1406.toNat, 0]
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_19 : BitVec 32 := 0#32
  let v27 : BitVec 32 := Scalar.muli v2 c0_i32_19
  let c1536_i32 : BitVec 32 := 1536#32
  let v28 : BitVec 32 := Scalar.addi v27 c1536_i32
  let c2_i32 : BitVec 32 := 2#32
  let v8 : BitVec 32 := Scalar.shrsi v2 c2_i32
  let c128_i32_1035 : BitVec 32 := 128#32
  let v1404 : BitVec 32 := Scalar.muli v8 c128_i32_1035
  let v1405 : BitVec 32 := Scalar.addi v28 v1404
  let c1_i32_1040 : BitVec 32 := 1#32
  let c3_i32 : BitVec 32 := 3#32
  let v3 : BitVec 32 := Scalar.andi v2 c3_i32
  let c1_i32_2 : BitVec 32 := 1#32
  let v7 : BitVec 32 := Scalar.shrsi v3 c1_i32_2
  let v1414 : BitVec 32 := Scalar.subi c1_i32_1040 v7
  let c64_i32_1041 : BitVec 32 := 64#32
  let v1415 : BitVec 32 := Scalar.muli v1414 c64_i32_1041
  let v1416 : BitVec 32 := Scalar.addi v1405 v1415
  let v1417 : Index := Scalar.indexCast v1416
  let c0_1042 : Index := 0#32
  ![v1417.toNat, 0]
def k0_dev24 (d0 : Dev nD) : Nat :=
  let c0_i32_1050 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.andi v2 c4_i32
  let c3_i32_4 : BitVec 32 := 3#32
  let c3_i32 : BitVec 32 := 3#32
  let v3 : BitVec 32 := Scalar.andi v2 c3_i32
  let v11 : BitVec 32 := Scalar.subi c3_i32_4 v3
  let v12 : BitVec 32 := Scalar.ori v10 v11
  let c1_i32_1049 : BitVec 32 := 1#32
  let v1424 : BitVec 32 := Scalar.muli v12 c1_i32_1049
  let v1425 : BitVec 32 := Scalar.addi c0_i32_1050 v1424
  v1425.toNat
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v29 : BitVec 32 := Scalar.muli v2 c0_i32_20
  let c1792_i32 : BitVec 32 := 1792#32
  let v30 : BitVec 32 := Scalar.addi v29 c1792_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_1068 : BitVec 32 := 128#32
  let v1439 : BitVec 32 := Scalar.muli v6 c128_i32_1068
  let v1440 : BitVec 32 := Scalar.addi v30 v1439
  let v1441 : Index := Scalar.indexCast v1440
  let c0_1069 : Index := 0#32
  ![v1441.toNat, 0]
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v29 : BitVec 32 := Scalar.muli v2 c0_i32_20
  let c1792_i32 : BitVec 32 := 1792#32
  let v30 : BitVec 32 := Scalar.addi v29 c1792_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_1068 : BitVec 32 := 128#32
  let v1439 : BitVec 32 := Scalar.muli v6 c128_i32_1068
  let v1440 : BitVec 32 := Scalar.addi v30 v1439
  let c1_i32_1073 : BitVec 32 := 1#32
  let c2_i32 : BitVec 32 := 2#32
  let v8 : BitVec 32 := Scalar.shrsi v2 c2_i32
  let v1449 : BitVec 32 := Scalar.subi c1_i32_1073 v8
  let c64_i32_1074 : BitVec 32 := 64#32
  let v1450 : BitVec 32 := Scalar.muli v1449 c64_i32_1074
  let v1451 : BitVec 32 := Scalar.addi v1440 v1450
  let v1452 : Index := Scalar.indexCast v1451
  let c0_1075 : Index := 0#32
  ![v1452.toNat, 0]
def k0_dev25 (d0 : Dev nD) : Nat :=
  let c0_i32_1083 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_1082 : BitVec 32 := 1#32
  let v1459 : BitVec 32 := Scalar.muli v13 c1_i32_1082
  let v1460 : BitVec 32 := Scalar.addi c0_i32_1083 v1459
  v1460.toNat
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v25 : BitVec 32 := Scalar.muli v2 c0_i32_18
  let c1024_i32 : BitVec 32 := 1024#32
  let v26 : BitVec 32 := Scalar.addi v25 c1024_i32
  let c3_i32 : BitVec 32 := 3#32
  let v3 : BitVec 32 := Scalar.andi v2 c3_i32
  let c1_i32_2 : BitVec 32 := 1#32
  let v7 : BitVec 32 := Scalar.shrsi v3 c1_i32_2
  let c256_i32_757 : BitVec 32 := 256#32
  let v1077 : BitVec 32 := Scalar.muli v7 c256_i32_757
  let v1078 : BitVec 32 := Scalar.addi v26 v1077
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_833 : BitVec 32 := 128#32
  let v1164 : BitVec 32 := Scalar.muli v6 c128_i32_833
  let v1165 : BitVec 32 := Scalar.addi v1078 v1164
  let c2_i32 : BitVec 32 := 2#32
  let v8 : BitVec 32 := Scalar.shrsi v2 c2_i32
  let c64_i32_888 : BitVec 32 := 64#32
  let v1235 : BitVec 32 := Scalar.muli v8 c64_i32_888
  let v1236 : BitVec 32 := Scalar.addi v1165 v1235
  let c64_i32_947 : BitVec 32 := 64#32
  let v1311 : BitVec 32 := Scalar.muli v8 c64_i32_947
  let v1312 : BitVec 32 := Scalar.subi v1236 v1311
  let c128_i32_1008 : BitVec 32 := 128#32
  let v1380 : BitVec 32 := Scalar.muli v6 c128_i32_1008
  let v1381 : BitVec 32 := Scalar.subi v1312 v1380
  let c1_i32_1102 : BitVec 32 := 1#32
  let c2_i32_1101 : BitVec 32 := 2#32
  let v1474 : BitVec 32 := Scalar.muli c2_i32_1101 v7
  let v1475 : BitVec 32 := Scalar.subi c1_i32_1102 v1474
  let c256_i32_1103 : BitVec 32 := 256#32
  let v1476 : BitVec 32 := Scalar.muli v1475 c256_i32_1103
  let v1477 : BitVec 32 := Scalar.addi v1381 v1476
  let v1480 : Index := Scalar.indexCast v1477
  let c0_1106 : Index := 0#32
  ![v1480.toNat, 0]
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_19 : BitVec 32 := 0#32
  let v27 : BitVec 32 := Scalar.muli v2 c0_i32_19
  let c1536_i32 : BitVec 32 := 1536#32
  let v28 : BitVec 32 := Scalar.addi v27 c1536_i32
  let c2_i32 : BitVec 32 := 2#32
  let v8 : BitVec 32 := Scalar.shrsi v2 c2_i32
  let c128_i32_1035 : BitVec 32 := 128#32
  let v1404 : BitVec 32 := Scalar.muli v8 c128_i32_1035
  let v1405 : BitVec 32 := Scalar.addi v28 v1404
  let c3_i32 : BitVec 32 := 3#32
  let v3 : BitVec 32 := Scalar.andi v2 c3_i32
  let c1_i32_2 : BitVec 32 := 1#32
  let v7 : BitVec 32 := Scalar.shrsi v3 c1_i32_2
  let c64_i32_1122 : BitVec 32 := 64#32
  let v1490 : BitVec 32 := Scalar.muli v7 c64_i32_1122
  let v1491 : BitVec 32 := Scalar.addi v1405 v1490
  let v1492 : Index := Scalar.indexCast v1491
  let c0_1123 : Index := 0#32
  ![v1492.toNat, 0]
def k0_off41 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_19 : BitVec 32 := 0#32
  let v27 : BitVec 32 := Scalar.muli v2 c0_i32_19
  let c1536_i32 : BitVec 32 := 1536#32
  let v28 : BitVec 32 := Scalar.addi v27 c1536_i32
  let c2_i32 : BitVec 32 := 2#32
  let v8 : BitVec 32 := Scalar.shrsi v2 c2_i32
  let c128_i32_1035 : BitVec 32 := 128#32
  let v1404 : BitVec 32 := Scalar.muli v8 c128_i32_1035
  let v1405 : BitVec 32 := Scalar.addi v28 v1404
  let c3_i32 : BitVec 32 := 3#32
  let v3 : BitVec 32 := Scalar.andi v2 c3_i32
  let c1_i32_2 : BitVec 32 := 1#32
  let v7 : BitVec 32 := Scalar.shrsi v3 c1_i32_2
  let c64_i32_1122 : BitVec 32 := 64#32
  let v1490 : BitVec 32 := Scalar.muli v7 c64_i32_1122
  let v1491 : BitVec 32 := Scalar.addi v1405 v1490
  let c1_i32_1127 : BitVec 32 := 1#32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let v1500 : BitVec 32 := Scalar.subi c1_i32_1127 v6
  let c32_i32 : BitVec 32 := 32#32
  let v1501 : BitVec 32 := Scalar.muli v1500 c32_i32
  let v1502 : BitVec 32 := Scalar.addi v1491 v1501
  let v1503 : Index := Scalar.indexCast v1502
  let c0_1128 : Index := 0#32
  ![v1503.toNat, 0]
def k0_dev26 (d0 : Dev nD) : Nat :=
  let c0_i32_1136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_1135 : BitVec 32 := 1#32
  let v1510 : BitVec 32 := Scalar.muli v9 c1_i32_1135
  let v1511 : BitVec 32 := Scalar.addi c0_i32_1136 v1510
  v1511.toNat
def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v29 : BitVec 32 := Scalar.muli v2 c0_i32_20
  let c1792_i32 : BitVec 32 := 1792#32
  let v30 : BitVec 32 := Scalar.addi v29 c1792_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_1068 : BitVec 32 := 128#32
  let v1439 : BitVec 32 := Scalar.muli v6 c128_i32_1068
  let v1440 : BitVec 32 := Scalar.addi v30 v1439
  let c2_i32 : BitVec 32 := 2#32
  let v8 : BitVec 32 := Scalar.shrsi v2 c2_i32
  let c64_i32_1154 : BitVec 32 := 64#32
  let v1525 : BitVec 32 := Scalar.muli v8 c64_i32_1154
  let v1526 : BitVec 32 := Scalar.addi v1440 v1525
  let v1527 : Index := Scalar.indexCast v1526
  let c0_1155 : Index := 0#32
  ![v1527.toNat, 0]
def k0_off43 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v29 : BitVec 32 := Scalar.muli v2 c0_i32_20
  let c1792_i32 : BitVec 32 := 1792#32
  let v30 : BitVec 32 := Scalar.addi v29 c1792_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_1068 : BitVec 32 := 128#32
  let v1439 : BitVec 32 := Scalar.muli v6 c128_i32_1068
  let v1440 : BitVec 32 := Scalar.addi v30 v1439
  let c2_i32 : BitVec 32 := 2#32
  let v8 : BitVec 32 := Scalar.shrsi v2 c2_i32
  let c64_i32_1154 : BitVec 32 := 64#32
  let v1525 : BitVec 32 := Scalar.muli v8 c64_i32_1154
  let v1526 : BitVec 32 := Scalar.addi v1440 v1525
  let c1_i32_1159 : BitVec 32 := 1#32
  let c1_i32_2 : BitVec 32 := 1#32
  let v7 : BitVec 32 := Scalar.shrsi v3 c1_i32_2
  let v1535 : BitVec 32 := Scalar.subi c1_i32_1159 v7
  let c32_i32_1160 : BitVec 32 := 32#32
  let v1536 : BitVec 32 := Scalar.muli v1535 c32_i32_1160
  let v1537 : BitVec 32 := Scalar.addi v1526 v1536
  let v1538 : Index := Scalar.indexCast v1537
  let c0_1161 : Index := 0#32
  ![v1538.toNat, 0]
def k0_dev27 (d0 : Dev nD) : Nat :=
  let c0_i32_1169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.andi v2 c4_i32
  let c3_i32_4 : BitVec 32 := 3#32
  let c3_i32 : BitVec 32 := 3#32
  let v3 : BitVec 32 := Scalar.andi v2 c3_i32
  let v11 : BitVec 32 := Scalar.subi c3_i32_4 v3
  let v12 : BitVec 32 := Scalar.ori v10 v11
  let c1_i32_1168 : BitVec 32 := 1#32
  let v1545 : BitVec 32 := Scalar.muli v12 c1_i32_1168
  let v1546 : BitVec 32 := Scalar.addi c0_i32_1169 v1545
  v1546.toNat
def k0_off44 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_19 : BitVec 32 := 0#32
  let v27 : BitVec 32 := Scalar.muli v2 c0_i32_19
  let c1536_i32 : BitVec 32 := 1536#32
  let v28 : BitVec 32 := Scalar.addi v27 c1536_i32
  let c2_i32 : BitVec 32 := 2#32
  let v8 : BitVec 32 := Scalar.shrsi v2 c2_i32
  let c128_i32_1035 : BitVec 32 := 128#32
  let v1404 : BitVec 32 := Scalar.muli v8 c128_i32_1035
  let v1405 : BitVec 32 := Scalar.addi v28 v1404
  let c3_i32 : BitVec 32 := 3#32
  let v3 : BitVec 32 := Scalar.andi v2 c3_i32
  let c1_i32_2 : BitVec 32 := 1#32
  let v7 : BitVec 32 := Scalar.shrsi v3 c1_i32_2
  let c64_i32_1122 : BitVec 32 := 64#32
  let v1490 : BitVec 32 := Scalar.muli v7 c64_i32_1122
  let v1491 : BitVec 32 := Scalar.addi v1405 v1490
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c32_i32_1187 : BitVec 32 := 32#32
  let v1560 : BitVec 32 := Scalar.muli v6 c32_i32_1187
  let v1561 : BitVec 32 := Scalar.addi v1491 v1560
  let v1562 : Index := Scalar.indexCast v1561
  let c0_1188 : Index := 0#32
  ![v1562.toNat, 0]
def k0_dev28 (d0 : Dev nD) : Nat :=
  let c0_i32_1200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_1199 : BitVec 32 := 1#32
  let v1577 : BitVec 32 := Scalar.muli v9 c1_i32_1199
  let v1578 : BitVec 32 := Scalar.addi c0_i32_1200 v1577
  v1578.toNat
def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v29 : BitVec 32 := Scalar.muli v2 c0_i32_20
  let c1792_i32 : BitVec 32 := 1792#32
  let v30 : BitVec 32 := Scalar.addi v29 c1792_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_1068 : BitVec 32 := 128#32
  let v1439 : BitVec 32 := Scalar.muli v6 c128_i32_1068
  let v1440 : BitVec 32 := Scalar.addi v30 v1439
  let c2_i32 : BitVec 32 := 2#32
  let v8 : BitVec 32 := Scalar.shrsi v2 c2_i32
  let c64_i32_1154 : BitVec 32 := 64#32
  let v1525 : BitVec 32 := Scalar.muli v8 c64_i32_1154
  let v1526 : BitVec 32 := Scalar.addi v1440 v1525
  let c1_i32_2 : BitVec 32 := 1#32
  let v7 : BitVec 32 := Scalar.shrsi v3 c1_i32_2
  let c32_i32_1218 : BitVec 32 := 32#32
  let v1592 : BitVec 32 := Scalar.muli v7 c32_i32_1218
  let v1593 : BitVec 32 := Scalar.addi v1526 v1592
  let v1594 : Index := Scalar.indexCast v1593
  let c0_1219 : Index := 0#32
  ![v1594.toNat, 0]
def k0_dev29 (d0 : Dev nD) : Nat :=
  let c0_i32_1231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.andi v2 c4_i32
  let c3_i32_4 : BitVec 32 := 3#32
  let c3_i32 : BitVec 32 := 3#32
  let v3 : BitVec 32 := Scalar.andi v2 c3_i32
  let v11 : BitVec 32 := Scalar.subi c3_i32_4 v3
  let v12 : BitVec 32 := Scalar.ori v10 v11
  let c1_i32_1230 : BitVec 32 := 1#32
  let v1609 : BitVec 32 := Scalar.muli v12 c1_i32_1230
  let v1610 : BitVec 32 := Scalar.addi c0_i32_1231 v1609
  v1610.toNat
def k0_off46 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_19 : BitVec 32 := 0#32
  let v27 : BitVec 32 := Scalar.muli v2 c0_i32_19
  let c1536_i32 : BitVec 32 := 1536#32
  let v28 : BitVec 32 := Scalar.addi v27 c1536_i32
  let c2_i32 : BitVec 32 := 2#32
  let v8 : BitVec 32 := Scalar.shrsi v2 c2_i32
  let c128_i32_1035 : BitVec 32 := 128#32
  let v1404 : BitVec 32 := Scalar.muli v8 c128_i32_1035
  let v1405 : BitVec 32 := Scalar.addi v28 v1404
  let c3_i32 : BitVec 32 := 3#32
  let v3 : BitVec 32 := Scalar.andi v2 c3_i32
  let c1_i32_2 : BitVec 32 := 1#32
  let v7 : BitVec 32 := Scalar.shrsi v3 c1_i32_2
  let c64_i32_1122 : BitVec 32 := 64#32
  let v1490 : BitVec 32 := Scalar.muli v7 c64_i32_1122
  let v1491 : BitVec 32 := Scalar.addi v1405 v1490
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c32_i32_1187 : BitVec 32 := 32#32
  let v1560 : BitVec 32 := Scalar.muli v6 c32_i32_1187
  let v1561 : BitVec 32 := Scalar.addi v1491 v1560
  let c1_i32_1250 : BitVec 32 := 1#32
  let c2_i32_1249 : BitVec 32 := 2#32
  let v1624 : BitVec 32 := Scalar.muli c2_i32_1249 v6
  let v1625 : BitVec 32 := Scalar.subi c1_i32_1250 v1624
  let c32_i32_1251 : BitVec 32 := 32#32
  let v1626 : BitVec 32 := Scalar.muli v1625 c32_i32_1251
  let v1627 : BitVec 32 := Scalar.addi v1561 v1626
  let v1630 : Index := Scalar.indexCast v1627
  let c0_1254 : Index := 0#32
  ![v1630.toNat, 0]
def k0_off47 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_19 : BitVec 32 := 0#32
  let v27 : BitVec 32 := Scalar.muli v2 c0_i32_19
  let c1536_i32 : BitVec 32 := 1536#32
  let v28 : BitVec 32 := Scalar.addi v27 c1536_i32
  let c2_i32 : BitVec 32 := 2#32
  let v8 : BitVec 32 := Scalar.shrsi v2 c2_i32
  let c128_i32_1035 : BitVec 32 := 128#32
  let v1404 : BitVec 32 := Scalar.muli v8 c128_i32_1035
  let v1405 : BitVec 32 := Scalar.addi v28 v1404
  let c3_i32 : BitVec 32 := 3#32
  let v3 : BitVec 32 := Scalar.andi v2 c3_i32
  let c1_i32_2 : BitVec 32 := 1#32
  let v7 : BitVec 32 := Scalar.shrsi v3 c1_i32_2
  let c64_i32_1122 : BitVec 32 := 64#32
  let v1490 : BitVec 32 := Scalar.muli v7 c64_i32_1122
  let v1491 : BitVec 32 := Scalar.addi v1405 v1490
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c32_i32_1187 : BitVec 32 := 32#32
  let v1560 : BitVec 32 := Scalar.muli v6 c32_i32_1187
  let v1561 : BitVec 32 := Scalar.addi v1491 v1560
  let c32_i32_1255 : BitVec 32 := 32#32
  let v1632 : BitVec 32 := Scalar.muli v6 c32_i32_1255
  let v1633 : BitVec 32 := Scalar.subi v1561 v1632
  let v1634 : Index := Scalar.indexCast v1633
  let c0_1256 : Index := 0#32
  ![v1634.toNat, 0]
def k0_dev30 (d0 : Dev nD) : Nat :=
  let c0_i32_1264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.andi v2 c4_i32
  let c3_i32_4 : BitVec 32 := 3#32
  let c3_i32 : BitVec 32 := 3#32
  let v3 : BitVec 32 := Scalar.andi v2 c3_i32
  let v11 : BitVec 32 := Scalar.subi c3_i32_4 v3
  let v12 : BitVec 32 := Scalar.ori v10 v11
  let c1_i32_1263 : BitVec 32 := 1#32
  let v1641 : BitVec 32 := Scalar.muli v12 c1_i32_1263
  let v1642 : BitVec 32 := Scalar.addi c0_i32_1264 v1641
  v1642.toNat
def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v29 : BitVec 32 := Scalar.muli v2 c0_i32_20
  let c1792_i32 : BitVec 32 := 1792#32
  let v30 : BitVec 32 := Scalar.addi v29 c1792_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_1068 : BitVec 32 := 128#32
  let v1439 : BitVec 32 := Scalar.muli v6 c128_i32_1068
  let v1440 : BitVec 32 := Scalar.addi v30 v1439
  let c2_i32 : BitVec 32 := 2#32
  let v8 : BitVec 32 := Scalar.shrsi v2 c2_i32
  let c64_i32_1154 : BitVec 32 := 64#32
  let v1525 : BitVec 32 := Scalar.muli v8 c64_i32_1154
  let v1526 : BitVec 32 := Scalar.addi v1440 v1525
  let c1_i32_2 : BitVec 32 := 1#32
  let v7 : BitVec 32 := Scalar.shrsi v3 c1_i32_2
  let c32_i32_1218 : BitVec 32 := 32#32
  let v1592 : BitVec 32 := Scalar.muli v7 c32_i32_1218
  let v1593 : BitVec 32 := Scalar.addi v1526 v1592
  let c1_i32_1283 : BitVec 32 := 1#32
  let c2_i32_1282 : BitVec 32 := 2#32
  let v1656 : BitVec 32 := Scalar.muli c2_i32_1282 v7
  let v1657 : BitVec 32 := Scalar.subi c1_i32_1283 v1656
  let c32_i32_1284 : BitVec 32 := 32#32
  let v1658 : BitVec 32 := Scalar.muli v1657 c32_i32_1284
  let v1659 : BitVec 32 := Scalar.addi v1593 v1658
  let v1662 : Index := Scalar.indexCast v1659
  let c0_1287 : Index := 0#32
  ![v1662.toNat, 0]
def k0_off49 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v29 : BitVec 32 := Scalar.muli v2 c0_i32_20
  let c1792_i32 : BitVec 32 := 1792#32
  let v30 : BitVec 32 := Scalar.addi v29 c1792_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_1068 : BitVec 32 := 128#32
  let v1439 : BitVec 32 := Scalar.muli v6 c128_i32_1068
  let v1440 : BitVec 32 := Scalar.addi v30 v1439
  let c2_i32 : BitVec 32 := 2#32
  let v8 : BitVec 32 := Scalar.shrsi v2 c2_i32
  let c64_i32_1154 : BitVec 32 := 64#32
  let v1525 : BitVec 32 := Scalar.muli v8 c64_i32_1154
  let v1526 : BitVec 32 := Scalar.addi v1440 v1525
  let c1_i32_2 : BitVec 32 := 1#32
  let v7 : BitVec 32 := Scalar.shrsi v3 c1_i32_2
  let c32_i32_1218 : BitVec 32 := 32#32
  let v1592 : BitVec 32 := Scalar.muli v7 c32_i32_1218
  let v1593 : BitVec 32 := Scalar.addi v1526 v1592
  let c32_i32_1288 : BitVec 32 := 32#32
  let v1664 : BitVec 32 := Scalar.muli v7 c32_i32_1288
  let v1665 : BitVec 32 := Scalar.subi v1593 v1664
  let v1666 : Index := Scalar.indexCast v1665
  let c0_1289 : Index := 0#32
  ![v1666.toNat, 0]
def k0_dev31 (d0 : Dev nD) : Nat :=
  let c0_i32_1297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_1296 : BitVec 32 := 1#32
  let v1673 : BitVec 32 := Scalar.muli v13 c1_i32_1296
  let v1674 : BitVec 32 := Scalar.addi c0_i32_1297 v1673
  v1674.toNat
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_19 : BitVec 32 := 0#32
  let v27 : BitVec 32 := Scalar.muli v2 c0_i32_19
  let c1536_i32 : BitVec 32 := 1536#32
  let v28 : BitVec 32 := Scalar.addi v27 c1536_i32
  let c2_i32 : BitVec 32 := 2#32
  let v8 : BitVec 32 := Scalar.shrsi v2 c2_i32
  let c128_i32_1035 : BitVec 32 := 128#32
  let v1404 : BitVec 32 := Scalar.muli v8 c128_i32_1035
  let v1405 : BitVec 32 := Scalar.addi v28 v1404
  let c3_i32 : BitVec 32 := 3#32
  let v3 : BitVec 32 := Scalar.andi v2 c3_i32
  let c1_i32_2 : BitVec 32 := 1#32
  let v7 : BitVec 32 := Scalar.shrsi v3 c1_i32_2
  let c64_i32_1122 : BitVec 32 := 64#32
  let v1490 : BitVec 32 := Scalar.muli v7 c64_i32_1122
  let v1491 : BitVec 32 := Scalar.addi v1405 v1490
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c32_i32_1187 : BitVec 32 := 32#32
  let v1560 : BitVec 32 := Scalar.muli v6 c32_i32_1187
  let v1561 : BitVec 32 := Scalar.addi v1491 v1560
  let c32_i32_1255 : BitVec 32 := 32#32
  let v1632 : BitVec 32 := Scalar.muli v6 c32_i32_1255
  let v1633 : BitVec 32 := Scalar.subi v1561 v1632
  let c1_i32_1316 : BitVec 32 := 1#32
  let c2_i32_1315 : BitVec 32 := 2#32
  let v1688 : BitVec 32 := Scalar.muli c2_i32_1315 v7
  let v1689 : BitVec 32 := Scalar.subi c1_i32_1316 v1688
  let c64_i32_1317 : BitVec 32 := 64#32
  let v1690 : BitVec 32 := Scalar.muli v1689 c64_i32_1317
  let v1691 : BitVec 32 := Scalar.addi v1633 v1690
  let v1694 : Index := Scalar.indexCast v1691
  let c0_1320 : Index := 0#32
  ![v1694.toNat, 0]
def k0_off51 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_19 : BitVec 32 := 0#32
  let v27 : BitVec 32 := Scalar.muli v2 c0_i32_19
  let c1536_i32 : BitVec 32 := 1536#32
  let v28 : BitVec 32 := Scalar.addi v27 c1536_i32
  let c2_i32 : BitVec 32 := 2#32
  let v8 : BitVec 32 := Scalar.shrsi v2 c2_i32
  let c128_i32_1035 : BitVec 32 := 128#32
  let v1404 : BitVec 32 := Scalar.muli v8 c128_i32_1035
  let v1405 : BitVec 32 := Scalar.addi v28 v1404
  let c3_i32 : BitVec 32 := 3#32
  let v3 : BitVec 32 := Scalar.andi v2 c3_i32
  let c1_i32_2 : BitVec 32 := 1#32
  let v7 : BitVec 32 := Scalar.shrsi v3 c1_i32_2
  let c64_i32_1122 : BitVec 32 := 64#32
  let v1490 : BitVec 32 := Scalar.muli v7 c64_i32_1122
  let v1491 : BitVec 32 := Scalar.addi v1405 v1490
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c32_i32_1187 : BitVec 32 := 32#32
  let v1560 : BitVec 32 := Scalar.muli v6 c32_i32_1187
  let v1561 : BitVec 32 := Scalar.addi v1491 v1560
  let c32_i32_1255 : BitVec 32 := 32#32
  let v1632 : BitVec 32 := Scalar.muli v6 c32_i32_1255
  let v1633 : BitVec 32 := Scalar.subi v1561 v1632
  let c64_i32_1321 : BitVec 32 := 64#32
  let v1696 : BitVec 32 := Scalar.muli v7 c64_i32_1321
  let v1697 : BitVec 32 := Scalar.subi v1633 v1696
  let v1698 : Index := Scalar.indexCast v1697
  let c0_1322 : Index := 0#32
  ![v1698.toNat, 0]
def k0_dev32 (d0 : Dev nD) : Nat :=
  let c0_i32_1330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_1329 : BitVec 32 := 1#32
  let v1705 : BitVec 32 := Scalar.muli v13 c1_i32_1329
  let v1706 : BitVec 32 := Scalar.addi c0_i32_1330 v1705
  v1706.toNat
def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v29 : BitVec 32 := Scalar.muli v2 c0_i32_20
  let c1792_i32 : BitVec 32 := 1792#32
  let v30 : BitVec 32 := Scalar.addi v29 c1792_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_1068 : BitVec 32 := 128#32
  let v1439 : BitVec 32 := Scalar.muli v6 c128_i32_1068
  let v1440 : BitVec 32 := Scalar.addi v30 v1439
  let c2_i32 : BitVec 32 := 2#32
  let v8 : BitVec 32 := Scalar.shrsi v2 c2_i32
  let c64_i32_1154 : BitVec 32 := 64#32
  let v1525 : BitVec 32 := Scalar.muli v8 c64_i32_1154
  let v1526 : BitVec 32 := Scalar.addi v1440 v1525
  let c1_i32_2 : BitVec 32 := 1#32
  let v7 : BitVec 32 := Scalar.shrsi v3 c1_i32_2
  let c32_i32_1218 : BitVec 32 := 32#32
  let v1592 : BitVec 32 := Scalar.muli v7 c32_i32_1218
  let v1593 : BitVec 32 := Scalar.addi v1526 v1592
  let c32_i32_1288 : BitVec 32 := 32#32
  let v1664 : BitVec 32 := Scalar.muli v7 c32_i32_1288
  let v1665 : BitVec 32 := Scalar.subi v1593 v1664
  let c1_i32_1349 : BitVec 32 := 1#32
  let c2_i32_1348 : BitVec 32 := 2#32
  let v1720 : BitVec 32 := Scalar.muli c2_i32_1348 v8
  let v1721 : BitVec 32 := Scalar.subi c1_i32_1349 v1720
  let c64_i32_1350 : BitVec 32 := 64#32
  let v1722 : BitVec 32 := Scalar.muli v1721 c64_i32_1350
  let v1723 : BitVec 32 := Scalar.addi v1665 v1722
  let v1726 : Index := Scalar.indexCast v1723
  let c0_1353 : Index := 0#32
  ![v1726.toNat, 0]
def k0_off53 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v29 : BitVec 32 := Scalar.muli v2 c0_i32_20
  let c1792_i32 : BitVec 32 := 1792#32
  let v30 : BitVec 32 := Scalar.addi v29 c1792_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_1068 : BitVec 32 := 128#32
  let v1439 : BitVec 32 := Scalar.muli v6 c128_i32_1068
  let v1440 : BitVec 32 := Scalar.addi v30 v1439
  let c2_i32 : BitVec 32 := 2#32
  let v8 : BitVec 32 := Scalar.shrsi v2 c2_i32
  let c64_i32_1154 : BitVec 32 := 64#32
  let v1525 : BitVec 32 := Scalar.muli v8 c64_i32_1154
  let v1526 : BitVec 32 := Scalar.addi v1440 v1525
  let c1_i32_2 : BitVec 32 := 1#32
  let v7 : BitVec 32 := Scalar.shrsi v3 c1_i32_2
  let c32_i32_1218 : BitVec 32 := 32#32
  let v1592 : BitVec 32 := Scalar.muli v7 c32_i32_1218
  let v1593 : BitVec 32 := Scalar.addi v1526 v1592
  let c32_i32_1288 : BitVec 32 := 32#32
  let v1664 : BitVec 32 := Scalar.muli v7 c32_i32_1288
  let v1665 : BitVec 32 := Scalar.subi v1593 v1664
  let c64_i32_1354 : BitVec 32 := 64#32
  let v1728 : BitVec 32 := Scalar.muli v8 c64_i32_1354
  let v1729 : BitVec 32 := Scalar.subi v1665 v1728
  let v1730 : Index := Scalar.indexCast v1729
  let c0_1355 : Index := 0#32
  ![v1730.toNat, 0]
def k0_dev33 (d0 : Dev nD) : Nat :=
  let c0_i32_1363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_1362 : BitVec 32 := 1#32
  let v1737 : BitVec 32 := Scalar.muli v9 c1_i32_1362
  let v1738 : BitVec 32 := Scalar.addi c0_i32_1363 v1737
  v1738.toNat
def k0_off54 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_19 : BitVec 32 := 0#32
  let v27 : BitVec 32 := Scalar.muli v2 c0_i32_19
  let c1536_i32 : BitVec 32 := 1536#32
  let v28 : BitVec 32 := Scalar.addi v27 c1536_i32
  let c2_i32 : BitVec 32 := 2#32
  let v8 : BitVec 32 := Scalar.shrsi v2 c2_i32
  let c128_i32_1035 : BitVec 32 := 128#32
  let v1404 : BitVec 32 := Scalar.muli v8 c128_i32_1035
  let v1405 : BitVec 32 := Scalar.addi v28 v1404
  let c3_i32 : BitVec 32 := 3#32
  let v3 : BitVec 32 := Scalar.andi v2 c3_i32
  let c1_i32_2 : BitVec 32 := 1#32
  let v7 : BitVec 32 := Scalar.shrsi v3 c1_i32_2
  let c64_i32_1122 : BitVec 32 := 64#32
  let v1490 : BitVec 32 := Scalar.muli v7 c64_i32_1122
  let v1491 : BitVec 32 := Scalar.addi v1405 v1490
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c32_i32_1187 : BitVec 32 := 32#32
  let v1560 : BitVec 32 := Scalar.muli v6 c32_i32_1187
  let v1561 : BitVec 32 := Scalar.addi v1491 v1560
  let c32_i32_1255 : BitVec 32 := 32#32
  let v1632 : BitVec 32 := Scalar.muli v6 c32_i32_1255
  let v1633 : BitVec 32 := Scalar.subi v1561 v1632
  let c64_i32_1321 : BitVec 32 := 64#32
  let v1696 : BitVec 32 := Scalar.muli v7 c64_i32_1321
  let v1697 : BitVec 32 := Scalar.subi v1633 v1696
  let c1_i32_1382 : BitVec 32 := 1#32
  let c2_i32_1381 : BitVec 32 := 2#32
  let v1752 : BitVec 32 := Scalar.muli c2_i32_1381 v8
  let v1753 : BitVec 32 := Scalar.subi c1_i32_1382 v1752
  let c128_i32_1383 : BitVec 32 := 128#32
  let v1754 : BitVec 32 := Scalar.muli v1753 c128_i32_1383
  let v1755 : BitVec 32 := Scalar.addi v1697 v1754
  let v1758 : Index := Scalar.indexCast v1755
  let c0_1386 : Index := 0#32
  ![v1758.toNat, 0]
def k0_off55 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_20 : BitVec 32 := 0#32
  let v29 : BitVec 32 := Scalar.muli v2 c0_i32_20
  let c1792_i32 : BitVec 32 := 1792#32
  let v30 : BitVec 32 := Scalar.addi v29 c1792_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c1_i32_1 : BitVec 32 := 1#32
  let v6 : BitVec 32 := Scalar.andi v5 c1_i32_1
  let c128_i32_1068 : BitVec 32 := 128#32
  let v1439 : BitVec 32 := Scalar.muli v6 c128_i32_1068
  let v1440 : BitVec 32 := Scalar.addi v30 v1439
  let c2_i32 : BitVec 32 := 2#32
  let v8 : BitVec 32 := Scalar.shrsi v2 c2_i32
  let c64_i32_1154 : BitVec 32 := 64#32
  let v1525 : BitVec 32 := Scalar.muli v8 c64_i32_1154
  let v1526 : BitVec 32 := Scalar.addi v1440 v1525
  let c1_i32_2 : BitVec 32 := 1#32
  let v7 : BitVec 32 := Scalar.shrsi v3 c1_i32_2
  let c32_i32_1218 : BitVec 32 := 32#32
  let v1592 : BitVec 32 := Scalar.muli v7 c32_i32_1218
  let v1593 : BitVec 32 := Scalar.addi v1526 v1592
  let c32_i32_1288 : BitVec 32 := 32#32
  let v1664 : BitVec 32 := Scalar.muli v7 c32_i32_1288
  let v1665 : BitVec 32 := Scalar.subi v1593 v1664
  let c64_i32_1354 : BitVec 32 := 64#32
  let v1728 : BitVec 32 := Scalar.muli v8 c64_i32_1354
  let v1729 : BitVec 32 := Scalar.subi v1665 v1728
  let c1_i32_1403 : BitVec 32 := 1#32
  let c2_i32_1402 : BitVec 32 := 2#32
  let v1768 : BitVec 32 := Scalar.muli c2_i32_1402 v6
  let v1769 : BitVec 32 := Scalar.subi c1_i32_1403 v1768
  let c128_i32_1404 : BitVec 32 := 128#32
  let v1770 : BitVec 32 := Scalar.muli v1769 c128_i32_1404
  let v1771 : BitVec 32 := Scalar.addi v1729 v1770
  let v1774 : Index := Scalar.indexCast v1771
  let c0_1407 : Index := 0#32
  ![v1774.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S1x2048x8192 : Shape := ⟨3, ![1, 2048, 8192]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x64x2048x2048 : Shape := ⟨4, ![1, 64, 2048, 2048]⟩
abbrev S1x1x2048x2048 : Shape := ⟨4, ![1, 1, 2048, 2048]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 94
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x8192, .bf16⟩
  | .hbm, ⟨2, _⟩ => ⟨S1x2048x64x128, .bf16⟩
  | .hbm, ⟨3, _⟩ => ⟨S1x2048x64x128, .bf16⟩
  | .hbm, ⟨4, _⟩ => ⟨S8192x1024, .bf16⟩
  | .hbm, ⟨5, _⟩ => ⟨S1x2048x1024, .f32⟩
  | .hbm, ⟨6, _⟩ => ⟨S1024x8192, .f32⟩
  | .hbm, ⟨7, _⟩ => ⟨S1x2048x64x128, .f32⟩
  | .hbm, ⟨8, _⟩ => ⟨S1x2048x64x128, .f32⟩
  | .hbm, ⟨9, _⟩ => ⟨S8192x1024, .f32⟩
  | .hbm, ⟨10, _⟩ => ⟨S1x2048x8192, .f32⟩
  | .hbm, ⟨11, _⟩ => ⟨S1x2048x64x128, .f32⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S1x2048, .i32⟩
  | .hbm, ⟨52, _⟩ => ⟨S2048x2048, .i32⟩
  | .hbm, ⟨53, _⟩ => ⟨S2048x2048, .i32⟩
  | .hbm, ⟨54, _⟩ => ⟨S2048x2048, .i1⟩
  | .hbm, ⟨55, _⟩ => ⟨S1x64x2048x2048, .f32⟩
  | .hbm, ⟨56, _⟩ => ⟨S_, .f32⟩
  | .hbm, ⟨57, _⟩ => ⟨S1x64x2048x2048, .f32⟩
  | .hbm, ⟨58, _⟩ => ⟨S1x64x2048x2048, .f32⟩
  | .hbm, ⟨59, _⟩ => ⟨S1x1x2048x2048, .i1⟩
  | .hbm, ⟨60, _⟩ => ⟨S_, .f32⟩
  | .hbm, ⟨61, _⟩ => ⟨S_, .f32⟩
  | .hbm, ⟨62, _⟩ => ⟨S1x64x2048x2048, .i1⟩
  | .hbm, ⟨63, _⟩ => ⟨S1x64x2048x2048, .f32⟩
  | .hbm, ⟨64, _⟩ => ⟨S1x64x2048x2048, .f32⟩
  | .hbm, ⟨65, _⟩ => ⟨S_, .f32⟩
  | .hbm, ⟨66, _⟩ => ⟨S1x64x2048, .f32⟩
  | .hbm, ⟨67, _⟩ => ⟨S1x64x2048x1, .f32⟩
  | .hbm, ⟨68, _⟩ => ⟨S1x64x2048x2048, .f32⟩
  | .hbm, ⟨69, _⟩ => ⟨S1x64x2048x2048, .f32⟩
  | .hbm, ⟨70, _⟩ => ⟨S1x64x2048x2048, .f32⟩
  | .hbm, ⟨71, _⟩ => ⟨S_, .i1⟩
  | .hbm, ⟨72, _⟩ => ⟨S2048, .i1⟩
  | .hbm, ⟨73, _⟩ => ⟨S1x1x2048x1, .i1⟩
  | .hbm, ⟨74, _⟩ => ⟨S_, .f32⟩
  | .hbm, ⟨75, _⟩ => ⟨S1x64x2048, .f32⟩
  | .hbm, ⟨76, _⟩ => ⟨S1x64x2048x1, .f32⟩
  | .hbm, ⟨77, _⟩ => ⟨S_, .f32⟩
  | .hbm, ⟨78, _⟩ => ⟨S_, .f32⟩
  | .hbm, ⟨79, _⟩ => ⟨S1x64x2048x1, .i1⟩
  | .hbm, ⟨80, _⟩ => ⟨S1x64x2048x1, .f32⟩
  | .hbm, ⟨81, _⟩ => ⟨S1x64x2048x1, .f32⟩
  | .hbm, ⟨82, _⟩ => ⟨S1x64x2048x2048, .f32⟩
  | .hbm, ⟨83, _⟩ => ⟨S1x64x2048x2048, .f32⟩
  | .hbm, ⟨84, _⟩ => ⟨S1x1x2048x1, .i1⟩
  | .hbm, ⟨85, _⟩ => ⟨S_, .f32⟩
  | .hbm, ⟨86, _⟩ => ⟨S_, .f32⟩
  | .hbm, ⟨87, _⟩ => ⟨S1x64x2048x2048, .i1⟩
  | .hbm, ⟨88, _⟩ => ⟨S1x64x2048x2048, .f32⟩
  | .hbm, ⟨89, _⟩ => ⟨S1x64x2048x2048, .f32⟩
  | .hbm, ⟨90, _⟩ => ⟨S1x64x128x2048, .f32⟩
  | .hbm, ⟨91, _⟩ => ⟨S1x2048x64x128, .f32⟩
  | .hbm, ⟨92, _⟩ => ⟨S1x2048x8192, .f32⟩
  | .hbm, ⟨93, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_3 : Ref sig .tc := ⟨.hbm, 71, rfl⟩
abbrev main_v26 : Ref sig .tc := ⟨.hbm, 72, rfl⟩
abbrev main_v27 : Ref sig .tc := ⟨.hbm, 73, rfl⟩
abbrev main_cst_4 : Ref sig .tc := ⟨.hbm, 74, rfl⟩
abbrev main_v28 : Ref sig .tc := ⟨.hbm, 75, rfl⟩
abbrev main_v29 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_6 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.Plan.lean ====
/-
  The exchange plan of the kernel: five groups of rows of the output, six steps each (three halving steps in which a
  partial sum is handed over, three doubling steps in which a finished block is handed back), the devices' partners,
  the rows each step sends and receives, and the buffers and semaphores each step uses.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic

@[expose] public section

noncomputable section

namespace Cert.KernelIdeal.Hand

open Idealize.ShloMosaic Idealize.ShloMosaic.TcCoe
open Cert.KernelIdeal Cert.KernelIdeal.Gen

/-! ## Tables -/

/-- The first row of a group. -/
def gbase : Fin 5 → ℕ := ![0, 512, 1024, 1536, 1792]
/-- The rows handed over at each step of a group. -/
def nrow (g : Fin 5) : Fin 6 → ℕ :=
  match g with
  | 0 | 1 | 2 => ![256, 128, 64, 64, 128, 256]
  | 3 | 4 => ![128, 64, 32, 32, 64, 128]
/-- The rows of a group's send buffer. -/
def srow : Fin 5 → ℕ := ![256, 256, 256, 128, 128]
/-- The halving level a step belongs to: the doubling steps undo the halving steps in reverse order. -/
def lev : Fin 6 → Fin 3 := ![0, 1, 2, 2, 1, 0]
/-- The mesh direction (0, 1, 2 for x, y, z) in which a group's halving level exchanges. -/
def dirs : Fin 5 → Fin 3 → Fin 3 := ![![2, 1, 0], ![0, 2, 1], ![1, 0, 2], ![2, 1, 0], ![0, 2, 1]]
def dir (g : Fin 5) (d : Fin 6) : Fin 3 := dirs g (lev d)
/-- A device's neighbour in a direction. -/
def nbr : Fin 3 → Dev nD → Dev nD :=
  ![![1, 0, 3, 2, 5, 4, 7, 6], ![3, 2, 1, 0, 7, 6, 5, 4], ![4, 5, 6, 7, 0, 1, 2, 3]]
/-- A device's coordinate in a direction. -/
def bit : Fin 3 → Dev nD → ℕ :=
  ![![0, 1, 1, 0, 0, 1, 1, 0], ![0, 0, 1, 1, 0, 0, 1, 1], ![0, 0, 0, 0, 1, 1, 1, 1]]
def peer (g : Fin 5) (d : Fin 6) (c : Dev nD) : Dev nD := nbr (dir g d) c

theorem nbr_nbr (i : Fin 3) (c : Dev nD) : nbr i (nbr i c) = c := by revert i c; decide
theorem peer_peer (g : Fin 5) (d : Fin 6) (c : Dev nD) : peer g d (peer g d c) = c := nbr_nbr _ c

/-- The first row of the block a device keeps after `k` halvings. -/
def reg (g : Fin 5) (c : Dev nD) : ℕ → ℕ
  | 0 => gbase g
  | 1 => gbase g + bit (dirs g 0) c * nrow g 0
  | 2 => gbase g + bit (dirs g 0) c * nrow g 0 + bit (dirs g 1) c * nrow g 1
  | _ => gbase g + bit (dirs g 0) c * nrow g 0 + bit (dirs g 1) c * nrow g 1 + bit (dirs g 2) c * nrow g 2
/-- The first row of the half given away at level `k`. -/
def oth (g : Fin 5) (c : Dev nD) (k : Fin 3) : ℕ :=
  reg g c k + (1 - bit (dirs g k) c) * nrow g ⟨k, by omega⟩

/-- The first output row a step sends, -/
def aoff (g : Fin 5) (d : Fin 6) (c : Dev nD) : ℕ := if d.val < 3 then oth g c (lev d) else reg g c (lev d + 1)
/-- and the first output row it updates. -/
def boff (g : Fin 5) (d : Fin 6) (c : Dev nD) : ℕ := if d.val < 3 then reg g c (lev d + 1) else oth g c (lev d)

/-- What a device sends is what its partner updates. -/
theorem aoff_peer (g : Fin 5) (d : Fin 6) (c : Dev nD) : aoff g d (peer g d c) = boff g d c := by revert g d c; decide
theorem aoff_le (g : Fin 5) (d : Fin 6) (c : Dev nD) : aoff g d c + nrow g d ≤ 2048 := by revert g d c; decide
theorem boff_le (g : Fin 5) (d : Fin 6) (c : Dev nD) : boff g d c + nrow g d ≤ 2048 := by revert g d c; decide
theorem nrow_le (g : Fin 5) (d : Fin 6) : nrow g d ≤ srow g := by revert g d; decide
theorem nrow_pos (g : Fin 5) (d : Fin 6) : 0 < nrow g d := by revert g d; decide

/-- The first row after a group. -/
def gend : Fin 5 → ℕ := ![512, 1024, 1536, 1792, 2048]
theorem aoff_in (g : Fin 5) (d : Fin 6) (c : Dev nD) : gbase g ≤ aoff g d c ∧ aoff g d c + nrow g d ≤ gend g := by
  revert g d c; decide
theorem boff_in (g : Fin 5) (d : Fin 6) (c : Dev nD) : gbase g ≤ boff g d c ∧ boff g d c + nrow g d ≤ gend g := by
  revert g d c; decide

/-- The order in which a device starts its transfers. -/
def ord (g : Fin 5) : Fin 6 → ℕ :=
  match g with
  | 0 => ![0, 1, 2, 3, 4, 6]
  | 1 => ![5, 7, 8, 9, 11, 13]
  | 2 => ![10, 12, 14, 15, 16, 19]
  | 3 => ![17, 20, 22, 24, 26, 28]
  | 4 => ![18, 21, 23, 25, 27, 29]

/-! ## Buffers -/

abbrev Ls (g : Fin 5) (d : Fin 6) : Shape := ⟨2, ![nrow g d, 1024]⟩
abbrev Ss (g : Fin 5) : Shape := ⟨2, ![srow g, 1024]⟩

/-- A group's send buffer. -/
def sendM : (g : Fin 5) → Memref sig .tc .vmem (Ss g) .bf16
  | 0 => Memref.whole cc0_scratch0 | 1 => Memref.whole cc0_scratch7 | 2 => Memref.whole cc0_scratch14
  | 3 => Memref.whole cc0_scratch21 | 4 => Memref.whole cc0_scratch28

/-- The buffer a step's transfer lands in. -/
def landM : (g : Fin 5) → (d : Fin 6) → Memref sig .tc .vmem (Ls g d) .bf16
  | 0, 0 => Memref.whole cc0_scratch1 | 0, 1 => Memref.whole cc0_scratch2 | 0, 2 => Memref.whole cc0_scratch3
  | 0, 3 => Memref.whole cc0_scratch4 | 0, 4 => Memref.whole cc0_scratch5 | 0, 5 => Memref.whole cc0_scratch6
  | 1, 0 => Memref.whole cc0_scratch8 | 1, 1 => Memref.whole cc0_scratch9 | 1, 2 => Memref.whole cc0_scratch10
  | 1, 3 => Memref.whole cc0_scratch11 | 1, 4 => Memref.whole cc0_scratch12 | 1, 5 => Memref.whole cc0_scratch13
  | 2, 0 => Memref.whole cc0_scratch15 | 2, 1 => Memref.whole cc0_scratch16 | 2, 2 => Memref.whole cc0_scratch17
  | 2, 3 => Memref.whole cc0_scratch18 | 2, 4 => Memref.whole cc0_scratch19 | 2, 5 => Memref.whole cc0_scratch20
  | 3, 0 => Memref.whole cc0_scratch22 | 3, 1 => Memref.whole cc0_scratch23 | 3, 2 => Memref.whole cc0_scratch24
  | 3, 3 => Memref.whole cc0_scratch25 | 3, 4 => Memref.whole cc0_scratch26 | 3, 5 => Memref.whole cc0_scratch27
  | 4, 0 => Memref.whole cc0_scratch29 | 4, 1 => Memref.whole cc0_scratch30 | 4, 2 => Memref.whole cc0_scratch31
  | 4, 3 => Memref.whole cc0_scratch32 | 4, 4 => Memref.whole cc0_scratch33 | 4, 5 => Memref.whole cc0_scratch34

abbrev outM : Memref sig .tc .vmem S2048x1024 .f32 := Memref.whole cc0_stg5_0

/-- The rows of the send buffer a step fills and sends. -/
abbrev srect (g : Fin 5) (d : Fin 6) : Rect (Ss g) :=
  Rect.unit (s := Ss g) ![0, 0] (Ls g d).size (Fin.forall_fin_two.mpr
    ⟨show 0 + nrow g d ≤ srow g by rw [Nat.zero_add]; exact nrow_le g d, show 0 + 1024 ≤ 1024 by omega⟩)
abbrev sendSl (g : Fin 5) (d : Fin 6) : Memref sig .tc .vmem (Ls g d) .bf16 :=
  (sendM g).slice (srect g d) (fun _ => rfl)

/-- `n` whole rows of the output from row `o`. -/
abbrev orect (o n : ℕ) (h : o + n ≤ 2048) : Rect S2048x1024 :=
  Rect.unit (s := S2048x1024) ![o, 0] (⟨2, ![n, 1024]⟩ : Shape).size (Fin.forall_fin_two.mpr
    ⟨show o + n ≤ 2048 from h, show 0 + 1024 ≤ 1024 by omega⟩)

theorem sendM_whole (g : Fin 5) : (sendM g).IsWhole := by
  fin_cases g <;> exact Memref.isWhole_whole _
theorem landM_whole (g : Fin 5) (d : Fin 6) : (landM g d).IsWhole := by
  fin_cases g <;> fin_cases d <;> exact Memref.isWhole_whole _

/-! ## Semaphores -/

/-- The cell a step's transfer raises on the sending device, -/
def sendS (g : Fin 5) (d : Fin 6) : DmaSem sig :=
  ⟨(if d.val < 3 then 6 else 36) + 3 * g.val + d.val % 3, by revert g d; decide⟩
/-- and on the receiving one. -/
def recvS (g : Fin 5) (d : Fin 6) : DmaSem sig :=
  ⟨(if d.val < 3 then 21 else 51) + 3 * g.val + d.val % 3, by revert g d; decide⟩

/-- What a cell of the exchange is: `some (is it a sending cell, group, step)`. -/
def decode (s : DmaSem sig) : Option (Bool × Fin 5 × Fin 6) :=
  if h : 6 ≤ s.val then
    some (((s.val - 6) / 15) % 2 == 0,
      ⟨((s.val - 6) % 15) / 3, by omega⟩,
      ⟨(s.val - 6) % 3 + 3 * (((s.val - 6) / 30) % 2), by omega⟩)
  else none

theorem decode_sendS (g : Fin 5) (d : Fin 6) : decode (sendS g d) = some (true, g, d) := by revert g d; decide
theorem decode_recvS (g : Fin 5) (d : Fin 6) : decode (recvS g d) = some (false, g, d) := by revert g d; decide

end Cert.KernelIdeal.Hand

end
-- ==== Proof.Values.lean ====
/-
  The values of the exchange. A device's share of the attention block's output, computed tile by tile from its inputs, and
  what the exchange makes of it: every step a device sends some of its rows in the narrow format, and the partner adds
  them to its own (halving steps) or takes them over (doubling steps).
-/
module

public import proofs.«01_k».proof.Proof.Plan
public import Idealize.ShloMosaic.Lib.WritesUnit

@[expose] public section

noncomputable section

namespace Cert.KernelIdeal.Hand

open Idealize.ShloMosaic Idealize.ShloMosaic.TcCoe
open Cert.KernelIdeal Cert.KernelIdeal.Gen

variable {F : FTy → Type} [FloatOps F] [Named F]

/-- What a device reads: its rows of x, its slices of the two projections, its heads' keys and values. -/
structure Ins (F : FTy → Type) where
  x : Vec F S2048x1024 .bf16
  wq : Vec F S1024x1024 .bf16
  k : Vec F S8x2048x128 .bf16
  v : Vec F S8x2048x128 .bf16
  wo : Vec F S1024x1024 .bf16

/-- A rectangle of a vector. -/
def ld {s : Shape} {e : EltTy} (R : Vec F s e) (r : Rect s) : Vec F (⟨s.rank, r.size⟩ : Shape) e :=
  fun x => R (r.toLoadRect.idx x)

namespace T

variable (J : Ins F)

/-! The intermediate values of the four tiles, in program order: queries, masks, exponentials, sums and heads' outputs. -/

def v32 : FVec F S2048x1024 .bf16 := k0_pay2 (ld J.x (Rect.unit
    (s := S2048x1024) ![0, 0] S2048x1024.size inb_S2048x1024_S2048x1024_0_0))
def v34 : FVec F S1024x1024 .bf16 := k0_pay3 (ld J.wq (Rect.unit
    (s := S1024x1024) ![0, 0] S1024x1024.size inb_S1024x1024_S1024x1024_0_0))
def v36 : FVec F S1024x1024 .bf16 := k0_pay4 (ld J.wo (Rect.unit
    (s := S1024x1024) ![0, 0] S1024x1024.size inb_S1024x1024_S1024x1024_0_0))
def v41 : FVec F S512x1024 .bf16 := k0_pay5 (ld J.x (Rect.unit
    (s := S2048x1024) ![0, 0] S2048x1024.size inb_S2048x1024_S2048x1024_0_0)) (ld J.wq (Rect.unit
    (s := S1024x1024) ![0, 0] S1024x1024.size inb_S1024x1024_S1024x1024_0_0))
def v46 (_ : Ins F) : IVec S512x1 32 := k0_pay7
def v65 (_ : Ins F) : IVec S512x1 1 := k0_pay8
def v66 (_ : Ins F) : IVec S512x1 32 := k0_pay9
def v75 : IVec S512x512 1 := k0_pay10 (v46 J) (v65 J) (v66 J)
def v93 : FVec F S512x128 .bf16 := k0_pay11 (v41 J) (v46 J) (v65 J) (v66 J) (ld J.k (Rect.unit
    (s := S8x2048x128) ![0, 0, 0] S1x512x128.size inb_S8x2048x128_S1x512x128_0_0_0)) (ld J.v (Rect.unit
    (s := S8x2048x128) ![0, 0, 0] S1x512x128.size inb_S8x2048x128_S1x512x128_0_0_0))
def v98 : FVec F S512x128 .bf16 := k0_pay12 (ld J.v (Rect.unit
    (s := S8x2048x128) ![1, 0, 0] S1x512x128.size inb_S8x2048x128_S1x512x128_1_0_0))
def v102 : FVec F S512x512 .f32 := k0_pay13 (v41 J) (v46 J) (v65 J) (v66 J) (ld J.k (Rect.unit
    (s := S8x2048x128) ![1, 0, 0] S1x512x128.size inb_S8x2048x128_S1x512x128_1_0_0))
def v104 : FVec F S512x1 .f32 := k0_pay14 (v41 J) (v46 J) (v65 J) (v66 J) (ld J.k (Rect.unit
    (s := S8x2048x128) ![1, 0, 0] S1x512x128.size inb_S8x2048x128_S1x512x128_1_0_0))
def v111 : FVec F S512x128 .bf16 := k0_pay15 (v98 J) (v102 J) (v104 J)
def v129 : FVec F S512x128 .bf16 := k0_pay16 (v41 J) (v75 J) (ld J.k (Rect.unit
    (s := S8x2048x128) ![2, 0, 0] S1x512x128.size inb_S8x2048x128_S1x512x128_2_0_0)) (ld J.v (Rect.unit
    (s := S8x2048x128) ![2, 0, 0] S1x512x128.size inb_S8x2048x128_S1x512x128_2_0_0))
def v134 : FVec F S512x128 .bf16 := k0_pay17 (ld J.v (Rect.unit
    (s := S8x2048x128) ![3, 0, 0] S1x512x128.size inb_S8x2048x128_S1x512x128_3_0_0))
def v140 : FVec F S512x1 .f32 := k0_pay19 (v41 J) (v75 J) (ld J.k (Rect.unit
    (s := S8x2048x128) ![3, 0, 0] S1x512x128.size inb_S8x2048x128_S1x512x128_3_0_0))
def v141 : FVec F S512x512 .bf16 := k0_pay20 (v41 J) (v75 J) (ld J.k (Rect.unit
    (s := S8x2048x128) ![3, 0, 0] S1x512x128.size inb_S8x2048x128_S1x512x128_3_0_0))
def cst_75 (_ : Ins F) : FVec F S512x128 .f32 := constant S512x128 .f32 0x00000000#32
def v147 : FVec F S512x128 .bf16 := k0_pay21 (v134 J) (v140 J) (v141 J) (cst_75 J)
def v165 : FVec F S512x128 .bf16 := k0_pay22 (v41 J) (v75 J) (ld J.k (Rect.unit
    (s := S8x2048x128) ![4, 0, 0] S1x512x128.size inb_S8x2048x128_S1x512x128_4_0_0)) (ld J.v (Rect.unit
    (s := S8x2048x128) ![4, 0, 0] S1x512x128.size inb_S8x2048x128_S1x512x128_4_0_0))
def v176 : FVec F S512x1 .f32 := k0_pay24 (v41 J) (v75 J) (ld J.k (Rect.unit
    (s := S8x2048x128) ![5, 0, 0] S1x512x128.size inb_S8x2048x128_S1x512x128_5_0_0))
def v178 : FVec F S512x128 .f32 := k0_pay25 (v41 J) (v75 J) (ld J.k (Rect.unit
    (s := S8x2048x128) ![5, 0, 0] S1x512x128.size inb_S8x2048x128_S1x512x128_5_0_0)) (ld J.v (Rect.unit
    (s := S8x2048x128) ![5, 0, 0] S1x512x128.size inb_S8x2048x128_S1x512x128_5_0_0))
def cst_96 (_ : Ins F) : F .f32 := Scalar.ofBits .f32 0x3F800000#32
def v183 : FVec F S512x128 .bf16 := k0_pay26 (v176 J) (v178 J) (cst_96 J)
def v201 : FVec F S512x128 .bf16 := k0_pay27 (v41 J) (v75 J) (ld J.k (Rect.unit
    (s := S8x2048x128) ![6, 0, 0] S1x512x128.size inb_S8x2048x128_S1x512x128_6_0_0)) (ld J.v (Rect.unit
    (s := S8x2048x128) ![6, 0, 0] S1x512x128.size inb_S8x2048x128_S1x512x128_6_0_0))
def v214 : FVec F S512x128 .f32 := k0_pay29 (v41 J) (v75 J) (ld J.k (Rect.unit
    (s := S8x2048x128) ![7, 0, 0] S1x512x128.size inb_S8x2048x128_S1x512x128_7_0_0)) (ld J.v (Rect.unit
    (s := S8x2048x128) ![7, 0, 0] S1x512x128.size inb_S8x2048x128_S1x512x128_7_0_0))
def v216 : FVec F S512x1 .f32 := k0_pay30 (v41 J) (v75 J) (ld J.k (Rect.unit
    (s := S8x2048x128) ![7, 0, 0] S1x512x128.size inb_S8x2048x128_S1x512x128_7_0_0))
def v244 : FVec F S512x1024 .bf16 := k0_pay33 (v32 J) (v34 J)
def v247 (_ : Ins F) : IVec S512x1 32 := k0_pay34
def c64_i32_135 (_ : Ins F) : BitVec 32 := 64#32
def v249 (_ : Ins F) : IVec S512x1 32 := k0_pay35
def v252 (_ : Ins F) : IVec S512x1 32 := k0_pay36
def v278 : IVec S512x1024 1 := k0_pay37 (v247 J) (c64_i32_135 J) (v249 J) (v252 J)
def v291 : FVec F S512x128 .f32 := k0_pay39 (v244 J) (v247 J) (c64_i32_135 J) (v249 J) (v252 J) (ld J.k (Rect.unit
    (s := S8x2048x128) ![0, 0, 0] S1x1024x128.size inb_S8x2048x128_S1x1024x128_0_0_0)) (ld J.v (Rect.unit
    (s := S8x2048x128) ![0, 0, 0] S1x1024x128.size inb_S8x2048x128_S1x1024x128_0_0_0))
def v294 : FVec F S512x128 .f32 := k0_pay40 (v244 J) (v247 J) (c64_i32_135 J) (v249 J) (v252 J) (ld J.k (Rect.unit
    (s := S8x2048x128) ![0, 0, 0] S1x1024x128.size inb_S8x2048x128_S1x1024x128_0_0_0))
def v296 : FVec F S512x128 .bf16 := k0_pay41 (v291 J) (v294 J)
def v314 : FVec F S512x128 .bf16 := k0_pay42 (v244 J) (v278 J) (ld J.k (Rect.unit
    (s := S8x2048x128) ![1, 0, 0] S1x1024x128.size inb_S8x2048x128_S1x1024x128_1_0_0)) (ld J.v (Rect.unit
    (s := S8x2048x128) ![1, 0, 0] S1x1024x128.size inb_S8x2048x128_S1x1024x128_1_0_0))
def v354 : FVec F S1024x128 .bf16 := k0_pay45 (ld J.v (Rect.unit
    (s := S8x2048x128) ![2, 0, 0] S1x1024x128.size inb_S8x2048x128_S1x1024x128_2_0_0))
def v357 : FVec F S512x1024 .f32 := k0_pay46 (v244 J) (v278 J) (ld J.k (Rect.unit
    (s := S8x2048x128) ![2, 0, 0] S1x1024x128.size inb_S8x2048x128_S1x1024x128_2_0_0))
def v367 : FVec F S512x128 .bf16 := k0_pay47 (v354 J) (v357 J)
def v385 : FVec F S512x128 .bf16 := k0_pay48 (v244 J) (v278 J) (ld J.k (Rect.unit
    (s := S8x2048x128) ![3, 0, 0] S1x1024x128.size inb_S8x2048x128_S1x1024x128_3_0_0)) (ld J.v (Rect.unit
    (s := S8x2048x128) ![3, 0, 0] S1x1024x128.size inb_S8x2048x128_S1x1024x128_3_0_0))
def c0_i32_232 (_ : Ins F) : BitVec 32 := 0#32
def v421 : FVec F S512x128 .bf16 := k0_pay51 (v244 J)
def v422 : Vec F S1x1024x128 .bf16 := (ld J.k (Rect.unit
    (s := S8x2048x128) ![4, 0, 0] S1x1024x128.size inb_S8x2048x128_S1x1024x128_4_0_0))
def v438 : FVec F S512x128 .bf16 := k0_pay52 (v278 J) (v421 J) (v422 J) (ld J.v (Rect.unit
    (s := S8x2048x128) ![4, 0, 0] S1x1024x128.size inb_S8x2048x128_S1x1024x128_4_0_0))
def v456 : FVec F S512x128 .bf16 := k0_pay53 (v244 J) (v278 J) (ld J.k (Rect.unit
    (s := S8x2048x128) ![5, 0, 0] S1x1024x128.size inb_S8x2048x128_S1x1024x128_5_0_0)) (ld J.v (Rect.unit
    (s := S8x2048x128) ![5, 0, 0] S1x1024x128.size inb_S8x2048x128_S1x1024x128_5_0_0))
def v506 : FVec F S512x128 .bf16 := k0_pay56 (v244 J) (v278 J) (ld J.k (Rect.unit
    (s := S8x2048x128) ![6, 0, 0] S1x1024x128.size inb_S8x2048x128_S1x1024x128_6_0_0)) (ld J.v (Rect.unit
    (s := S8x2048x128) ![6, 0, 0] S1x1024x128.size inb_S8x2048x128_S1x1024x128_6_0_0))
def v524 : FVec F S512x128 .bf16 := k0_pay57 (v244 J) (v278 J) (ld J.k (Rect.unit
    (s := S8x2048x128) ![7, 0, 0] S1x1024x128.size inb_S8x2048x128_S1x1024x128_7_0_0)) (ld J.v (Rect.unit
    (s := S8x2048x128) ![7, 0, 0] S1x1024x128.size inb_S8x2048x128_S1x1024x128_7_0_0))
def c0_i32_358 (_ : Ins F) : BitVec 32 := 0#32
def v581 : FVec F S512x1024 .bf16 := k0_pay62 (v32 J) (v34 J)
def v584 (_ : Ins F) : IVec S512x1 32 := k0_pay63
def c64_i32_379 (_ : Ins F) : BitVec 32 := 64#32
def v615 : IVec S512x1536 1 := k0_pay64 (v584 J) (c64_i32_379 J)
def v620 : FVec F S1536x128 .bf16 := k0_pay65 (ld J.v (Rect.unit
    (s := S8x2048x128) ![0, 0, 0] S1x1536x128.size inb_S8x2048x128_S1x1536x128_0_0_0))
def v626 : FVec F S512x1 .f32 := k0_pay67 (v581 J) (v584 J) (c64_i32_379 J) (ld J.k (Rect.unit
    (s := S8x2048x128) ![0, 0, 0] S1x1536x128.size inb_S8x2048x128_S1x1536x128_0_0_0))
def v627 : FVec F S512x1536 .bf16 := k0_pay68 (v581 J) (v584 J) (c64_i32_379 J) (ld J.k (Rect.unit
    (s := S8x2048x128) ![0, 0, 0] S1x1536x128.size inb_S8x2048x128_S1x1536x128_0_0_0))
def v633 : FVec F S512x128 .bf16 := k0_pay69 (v620 J) (v626 J) (v627 J)
def v651 : FVec F S512x128 .bf16 := k0_pay70 (v581 J) (v615 J) (ld J.k (Rect.unit
    (s := S8x2048x128) ![1, 0, 0] S1x1536x128.size inb_S8x2048x128_S1x1536x128_1_0_0)) (ld J.v (Rect.unit
    (s := S8x2048x128) ![1, 0, 0] S1x1536x128.size inb_S8x2048x128_S1x1536x128_1_0_0))
def v736 : FVec F S512x128 .bf16 := k0_pay75 (v581 J) (v615 J) (ld J.k (Rect.unit
    (s := S8x2048x128) ![2, 0, 0] S1x1536x128.size inb_S8x2048x128_S1x1536x128_2_0_0)) (ld J.v (Rect.unit
    (s := S8x2048x128) ![2, 0, 0] S1x1536x128.size inb_S8x2048x128_S1x1536x128_2_0_0))
def v754 : FVec F S512x128 .bf16 := k0_pay76 (v581 J) (v615 J) (ld J.k (Rect.unit
    (s := S8x2048x128) ![3, 0, 0] S1x1536x128.size inb_S8x2048x128_S1x1536x128_3_0_0)) (ld J.v (Rect.unit
    (s := S8x2048x128) ![3, 0, 0] S1x1536x128.size inb_S8x2048x128_S1x1536x128_3_0_0))
def v806 : FVec F S512x128 .bf16 := k0_pay80 (v581 J)
def v808 : FVec F S1536x128 .bf16 := k0_pay81 (ld J.k (Rect.unit
    (s := S8x2048x128) ![4, 0, 0] S1x1536x128.size inb_S8x2048x128_S1x1536x128_4_0_0))
def v823 : FVec F S512x128 .bf16 := k0_pay82 (v615 J) (v806 J) (v808 J) (ld J.v (Rect.unit
    (s := S8x2048x128) ![4, 0, 0] S1x1536x128.size inb_S8x2048x128_S1x1536x128_4_0_0))
def v841 : FVec F S512x128 .bf16 := k0_pay83 (v581 J) (v615 J) (ld J.k (Rect.unit
    (s := S8x2048x128) ![5, 0, 0] S1x1536x128.size inb_S8x2048x128_S1x1536x128_5_0_0)) (ld J.v (Rect.unit
    (s := S8x2048x128) ![5, 0, 0] S1x1536x128.size inb_S8x2048x128_S1x1536x128_5_0_0))
def v874 : FVec F S512x128 .bf16 := k0_pay86 (v581 J)
def v891 : FVec F S512x128 .bf16 := k0_pay87 (v615 J) (v874 J) (ld J.k (Rect.unit
    (s := S8x2048x128) ![6, 0, 0] S1x1536x128.size inb_S8x2048x128_S1x1536x128_6_0_0)) (ld J.v (Rect.unit
    (s := S8x2048x128) ![6, 0, 0] S1x1536x128.size inb_S8x2048x128_S1x1536x128_6_0_0))
def v909 : FVec F S512x128 .bf16 := k0_pay88 (v581 J) (v615 J) (ld J.k (Rect.unit
    (s := S8x2048x128) ![7, 0, 0] S1x1536x128.size inb_S8x2048x128_S1x1536x128_7_0_0)) (ld J.v (Rect.unit
    (s := S8x2048x128) ![7, 0, 0] S1x1536x128.size inb_S8x2048x128_S1x1536x128_7_0_0))
def v966 : FVec F S512x1024 .bf16 := k0_pay93 (v32 J) (v34 J)
def v969 (_ : Ins F) : IVec S512x1 32 := k0_pay94
def c64_i32_678 (_ : Ins F) : BitVec 32 := 64#32
def v971 (_ : Ins F) : IVec S512x1 32 := k0_pay95
def v972 (_ : Ins F) : IVec S512x1 32 := k0_pay96
def v1000 : IVec S512x2048 1 := k0_pay97 (v969 J) (c64_i32_678 J) (v971 J) (v972 J)
def v1011 : FVec F S512x1 .f32 := k0_pay99 (v966 J) (v969 J) (c64_i32_678 J) (v971 J) (v972 J) (ld J.k (Rect.unit
    (s := S8x2048x128) ![0, 0, 0] S1x2048x128.size inb_S8x2048x128_S1x2048x128_0_0_0))
def v1013 : FVec F S512x128 .f32 := k0_pay100 (v966 J) (v969 J) (c64_i32_678 J) (v971 J) (v972 J) (ld J.k (Rect.unit
    (s := S8x2048x128) ![0, 0, 0] S1x2048x128.size inb_S8x2048x128_S1x2048x128_0_0_0)) (ld J.v (Rect.unit
    (s := S8x2048x128) ![0, 0, 0] S1x2048x128.size inb_S8x2048x128_S1x2048x128_0_0_0))
def v1014 (_ : Ins F) : FVec F S512x1 .f32 := k0_pay101 (F := F)
def v1018 : FVec F S512x128 .bf16 := k0_pay102 (v1011 J) (v1013 J) (v1014 J)
def v1036 : FVec F S512x128 .bf16 := k0_pay103 (v966 J) (v1000 J) (ld J.k (Rect.unit
    (s := S8x2048x128) ![1, 0, 0] S1x2048x128.size inb_S8x2048x128_S1x2048x128_1_0_0)) (ld J.v (Rect.unit
    (s := S8x2048x128) ![1, 0, 0] S1x2048x128.size inb_S8x2048x128_S1x2048x128_1_0_0))
def v1104 : FVec F S512x128 .bf16 := k0_pay108 (v966 J)
def v1121 : FVec F S512x128 .bf16 := k0_pay109 (v1000 J) (v1104 J) (ld J.k (Rect.unit
    (s := S8x2048x128) ![2, 0, 0] S1x2048x128.size inb_S8x2048x128_S1x2048x128_2_0_0)) (ld J.v (Rect.unit
    (s := S8x2048x128) ![2, 0, 0] S1x2048x128.size inb_S8x2048x128_S1x2048x128_2_0_0))
def v1139 : FVec F S512x128 .bf16 := k0_pay110 (v966 J) (v1000 J) (ld J.k (Rect.unit
    (s := S8x2048x128) ![3, 0, 0] S1x2048x128.size inb_S8x2048x128_S1x2048x128_3_0_0)) (ld J.v (Rect.unit
    (s := S8x2048x128) ![3, 0, 0] S1x2048x128.size inb_S8x2048x128_S1x2048x128_3_0_0))
def c128_i32_833 (_ : Ins F) : BitVec 32 := 128#32
def v1195 : FVec F S2048x128 .bf16 := k0_pay114 (ld J.v (Rect.unit
    (s := S8x2048x128) ![4, 0, 0] S1x2048x128.size inb_S8x2048x128_S1x2048x128_4_0_0))
def v1196 : FVec F S512x2048 .f32 := k0_pay115 (v966 J) (ld J.k (Rect.unit
    (s := S8x2048x128) ![4, 0, 0] S1x2048x128.size inb_S8x2048x128_S1x2048x128_4_0_0))
def v1208 : FVec F S512x128 .bf16 := k0_pay116 (v1000 J) (v1195 J) (v1196 J)
def v1226 : FVec F S512x128 .bf16 := k0_pay117 (v966 J) (v1000 J) (ld J.k (Rect.unit
    (s := S8x2048x128) ![5, 0, 0] S1x2048x128.size inb_S8x2048x128_S1x2048x128_5_0_0)) (ld J.v (Rect.unit
    (s := S8x2048x128) ![5, 0, 0] S1x2048x128.size inb_S8x2048x128_S1x2048x128_5_0_0))
def v1259 : FVec F S512x128 .bf16 := k0_pay120 (v966 J)
def v1261 : FVec F S2048x128 .bf16 := k0_pay121 (ld J.k (Rect.unit
    (s := S8x2048x128) ![6, 0, 0] S1x2048x128.size inb_S8x2048x128_S1x2048x128_6_0_0))
def v1276 : FVec F S512x128 .bf16 := k0_pay122 (v1000 J) (v1259 J) (v1261 J) (ld J.v (Rect.unit
    (s := S8x2048x128) ![6, 0, 0] S1x2048x128.size inb_S8x2048x128_S1x2048x128_6_0_0))
def v1294 : FVec F S512x128 .bf16 := k0_pay123 (v966 J) (v1000 J) (ld J.k (Rect.unit
    (s := S8x2048x128) ![7, 0, 0] S1x2048x128.size inb_S8x2048x128_S1x2048x128_7_0_0)) (ld J.v (Rect.unit
    (s := S8x2048x128) ![7, 0, 0] S1x2048x128.size inb_S8x2048x128_S1x2048x128_7_0_0))

end T

/-- The output rows a tile of queries contributes on one device. -/
def tileV : Fin 4 → Ins F → FVec F S512x1024 .f32
  | 0, J => k0_pay31 (T.v36 J) (T.v93 J) (T.v111 J) (T.v129 J) (T.v147 J) (T.v165 J) (T.v183 J) (T.v201 J) (T.v214 J)
      (T.v216 J)
  | 1, J => k0_pay60 (T.v36 J) (T.v296 J) (T.v314 J) (T.v367 J) (T.v385 J) (T.v438 J) (T.v456 J) (T.v506 J) (T.v524 J)
  | 2, J => k0_pay91 (T.v36 J) (T.v633 J) (T.v651 J) (T.v736 J) (T.v754 J) (T.v823 J) (T.v841 J) (T.v891 J) (T.v909 J)
  | 3, J => k0_pay126 (T.v36 J) (T.v1018 J) (T.v1036 J) (T.v1121 J) (T.v1139 J) (T.v1208 J) (T.v1226 J) (T.v1276 J)
      (T.v1294 J)

/-- The tile a row belongs to. -/
def tileOf (y : S2048x1024.Idx) : Fin 4 := ⟨(y (0 : Fin 2)).val / 512, by
  have := (y (0 : Fin 2)).isLt
  change _ < 2048 at this
  omega⟩

/-- A device's own contribution to the output. -/
def own (J : Ins F) : FVec F S2048x1024 .f32 := fun y =>
  tileV (tileOf y) J (Rect.unitLocal (s := S2048x1024) (off := ![512 * (tileOf y).val, 0]) (size := S512x1024.size) y
    (Rect.unit_rows_mem (d := ![2048, 1024]) y (W := 512) rfl rfl (by
      have : (tileOf y).val = (y (0 : Fin 2)).val / 512 := rfl
      omega)))

/-- The rows a step hands over, in the narrow format. -/
def sendF (g : Fin 5) (d : Fin 6) (c : Dev nD) (R : FVec F S2048x1024 .f32) : FVec F (Ls g d) .bf16 :=
  shapeCast (Ls g d) (truncf .bf16 (shapeCast (s := Ls g d) (Ls g d)
    (ld (F := F) (s := S2048x1024) (e := .f32) R (orect (aoff g d c) (nrow g d) (aoff_le g d c))) rfl : FVec F (Ls g d) .f32) bitsLt_bf16_f32) rfl

/-- What a step makes of the rows it updates and the rows that arrived. -/
def updF (g : Fin 5) (d : Fin 6) (r : FVec F (Ls g d) .f32) (l : FVec F (Ls g d) .bf16) : FVec F (Ls g d) .f32 :=
  if d.val < 3 then addf (shapeCast (s := Ls g d) (Ls g d) r rfl) (extf .f32 l bitsLt_bf16_f32)
  else extf .f32 l bitsLt_bf16_f32

/-- One step of a group on every device. -/
def stepR (g : Fin 5) (d : Fin 6) (R : Dev nD → FVec F S2048x1024 .f32) (c : Dev nD) : FVec F S2048x1024 .f32 :=
  fun y =>
    if h : boff g d c ≤ (y (0 : Fin 2)).val ∧ (y (0 : Fin 2)).val < boff g d c + nrow g d then
      updF g d (ld (F := F) (s := S2048x1024) (e := .f32) (R c) (orect (boff g d c) (nrow g d) (boff_le g d c)))
        (sendF g d (peer g d c) (R (peer g d c)))
        (Rect.unitLocal (s := S2048x1024) (off := ![boff g d c, 0]) (size := (Ls g d).size) y
          (Rect.unit_rows_mem (d := ![2048, 1024]) y (W := nrow g d) rfl rfl h))
    else R c y

/-- The output buffers after `n` steps of a group. -/
def Rv (I : Dev nD → Ins F) (g : Fin 5) : ℕ → Dev nD → FVec F S2048x1024 .f32
  | 0 => fun c => own (I c)
  | n + 1 => if h : n < 6 then stepR g ⟨n, h⟩ (Rv I g n) else Rv I g n

/-- What a step of a device sends, -/
def sendV (I : Dev nD → Ins F) (c : Dev nD) (g : Fin 5) (d : Fin 6) : FVec F (Ls g d) .bf16 :=
  sendF g d c (Rv I g d.val c)
/-- and what lands on it. -/
def landV (I : Dev nD → Ins F) (c : Dev nD) (g : Fin 5) (d : Fin 6) : FVec F (Ls g d) .bf16 :=
  sendV I (peer g d c) g d

theorem Rv_succ (I : Dev nD → Ins F) (g : Fin 5) (d : Fin 6) :
    Rv I g (d.val + 1) = stepR g d (Rv I g d.val) := by
  show (if h : d.val < 6 then stepR g ⟨d.val, h⟩ (Rv I g d.val) else _) = _
  rw [dif_pos d.isLt]

end Cert.KernelIdeal.Hand

end
-- ==== Proof.Protocol.lean ====
/-
  The exchange as a protocol. Every semaphore of the exchange is used once: a device's barrier cell is raised by its three
  neighbours, who hand over the buffers the device will write on them; a sending cell gives the rows of the send buffer
  back once they have left; a receiving cell hands over the landing buffer, holding what the partner sent. The state of a
  device between two operations is a step counter for each of the five groups.
-/
module

public import proofs.«01_k».proof.Proof.Values

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Cert.KernelIdeal Cert.KernelIdeal.Gen

variable {F : FTy → Type} [FloatOps F] [Named F]

/-! ## The resource algebra: the pipeline's copy and the exchange's -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

abbrev 𝒱₀ : Variants := Variants.none

/-- A group and a step. -/
abbrev GD : Type := Fin 5 × Fin 6

/-! ## Cells and amounts -/

abbrev barS : Sem sig := sig.barrier 0 rfl
abbrev barCell (c : Dev nD) : GSem nD τ sig := ((c : Thread nD τ), .reg barS)
abbrev sendCell (c : Dev nD) (g : Fin 5) (d : Fin 6) : GSem nD τ sig := ((c : Thread nD τ), .dma (sendS g d))
abbrev recvCell (c : Dev nD) (g : Fin 5) (d : Fin 6) : GSem nD τ sig := ((c : Thread nD τ), .dma (recvS g d))

/-- What a step's transfer credits. -/
abbrev NN (g : Fin 5) (d : Fin 6) : ℕ := (landM g d).view.dmaCredit
theorem Ls_pos (g : Fin 5) (d : Fin 6) : 0 < (Ls g d).numel := by revert g d; decide
theorem NN_pos (g : Fin 5) (d : Fin 6) : 0 < NN g d := View.dmaCredit_pos _ (Ls_pos g d)

/-! ## The buffers as resources -/

abbrev landPts (c : Dev nD) (g : Fin 5) (d : Fin 6) (f : Buf (Elt F) ((landM g d).view.loc (c : Thread nD τ))) : sProp 𝕄 :=
  (landM g d).view.loc (c : Thread nD τ) ↦[(landM g d).view.set]{fullShare} f
abbrev slPts (c : Dev nD) (g : Fin 5) (d : Fin 6) (f : Buf (Elt F) ((sendSl g d).view.loc (c : Thread nD τ))) : sProp 𝕄 :=
  (sendSl g d).view.loc (c : Thread nD τ) ↦[(sendSl g d).view.set]{fullShare} f
abbrev sendPts (c : Dev nD) (g : Fin 5) (f : Buf (Elt F) ((sendM g).view.loc (c : Thread nD τ))) : sProp 𝕄 :=
  (sendM g).view.loc (c : Thread nD τ) ↦{fullShare} f
abbrev outPts (c : Dev nD) (f : Buf (Elt F) (outM.view.loc (c : Thread nD τ))) : sProp 𝕄 :=
  outM.view.loc (c : Thread nD τ) ↦{fullShare} f

/-- A landing buffer, whatever it holds. -/
def landAny (c : Dev nD) (p : GD) : sProp 𝕄 := iprop(∃ f, landPts c p.1 p.2 f)

/-! ## The schedule -/

variable (I : Dev nD → Ins F)

def sendPay (c : Dev nD) (g : Fin 5) (d : Fin 6) : sProp 𝕄 := iprop(∃ f, slPts c g d f)
def recvPay (c : Dev nD) (g : Fin 5) (d : Fin 6) : sProp 𝕄 :=
  iprop(∃ f, ⌜(landM g d).view.read (Elt F) f = landV I c g d⌝ ∗ landPts c g d f)
/-- A neighbour's landing buffer with the news that its receiving cell is in use. -/
def give (c : Dev nD) (p : GD) : sProp 𝕄 := iprop(landAny c p ∗ reached ER (recvCell c p.1 p.2) 0)
/-- What the neighbour in direction `i` hands to device `c` at the barrier. -/
def barPay (c : Dev nD) (i : Fin 3) : sProp 𝕄 :=
  bigSep Finset.univ fun p : GD => if dir p.1 p.2 = i then give (nbr i c) p else iprop(emp)

instance sendPay_storable (c : Dev nD) (g : Fin 5) (d : Fin 6) :
    BI.Storable (upEmb : UEmb _ 𝕄) (sendPay (F := F) c g d) := by unfold sendPay; infer_instance
instance recvPay_storable (c : Dev nD) (g : Fin 5) (d : Fin 6) :
    BI.Storable (upEmb : UEmb _ 𝕄) (recvPay I c g d) := by unfold recvPay; infer_instance
instance give_storable (c : Dev nD) (p : GD) : BI.Storable (upEmb : UEmb _ 𝕄) (give (F := F) c p) := by
  unfold give landAny; infer_instance
instance barPay_storable (c : Dev nD) (i : Fin 3) : BI.Storable (upEmb : UEmb _ 𝕄) (barPay (F := F) c i) := by
  unfold barPay
  have (p : GD) : BI.Storable (upEmb : UEmb _ 𝕄) (if dir p.1 p.2 = i then give (F := F) (nbr i c) p else iprop(emp)) := by
    split <;> infer_instance
  infer_instance

/-- The duties of a cell in its only round. -/
def dutiesOf : SemLoc sig → Finset (Fin 3)
  | .reg _ => Finset.univ
  | .dma s => if (decode s).isSome then {0} else ∅

def amountOf : SemLoc sig → ℕ
  | .reg _ => 1
  | .dma s => match decode s with | some (_, g, d) => NN g d | none => 1

def payOf (c : Dev nD) : SemLoc sig → Fin 3 → sProp 𝕄
  | .reg _, i => barPay c i
  | .dma s, _ => match decode s with
    | some (true, g, d) => sendPay c g d
    | some (false, g, d) => recvPay I c g d
    | none => iprop(emp)

def Rd : Rounds.Schedule (GSem nD τ sig) (Fin 3) 𝕄 where
  duties g r := if r = 0 ∧ g.1.2 = .tc then dutiesOf g.2 else ∅
  unitless _ := False
  amount g _ _ := amountOf g.2
  payload g _ i := payOf I g.1.1 g.2 i
  amount_pos g _ _ _ := by
    rcases g with ⟨t, s⟩
    cases s with
    | reg s => exact Nat.one_pos
    | dma s =>
      show 0 < (match decode s with | some (_, g, d) => NN g d | none => 1)
      split
      · exact NN_pos _ _
      · exact Nat.one_pos

instance Rd_payload_storable (g : GSem nD τ sig) (r : ℕ) (i : Fin 3) :
    BI.Storable (upEmb : UEmb _ 𝕄) ((Rd I).payload g r i) := by
  rcases g with ⟨t, s⟩
  cases s with
  | reg s => exact barPay_storable t.1 i
  | dma s =>
    show BI.Storable upEmb (match decode s with
      | some (true, g, d) => sendPay t.1 g d | some (false, g, d) => recvPay I t.1 g d | none => iprop(emp))
    split <;> infer_instance

section Sched

variable (c : Dev nD) (g : Fin 5) (d : Fin 6)

theorem duties_bar : (Rd I).duties (barCell c) 0 = Finset.univ := by
  dsimp only [Rd]; rw [if_pos ⟨rfl, rfl⟩]; rfl
theorem duties_send : (Rd I).duties (sendCell c g d) 0 = {0} := by
  show (if (0 = 0 ∧ (c : Thread nD τ).2 = .tc) then dutiesOf (.dma (sendS g d)) else ∅) = {0}
  rw [if_pos ⟨rfl, rfl⟩]; unfold dutiesOf; dsimp only; rw [decode_sendS]; rfl
theorem duties_recv : (Rd I).duties (recvCell c g d) 0 = {0} := by
  show (if (0 = 0 ∧ (c : Thread nD τ).2 = .tc) then dutiesOf (.dma (recvS g d)) else ∅) = {0}
  rw [if_pos ⟨rfl, rfl⟩]; unfold dutiesOf; dsimp only; rw [decode_recvS]; rfl
theorem duties_later (g : GSem nD τ sig) : ∀ r, 1 ≤ r → (Rd I).duties g r = ∅ :=
  fun r hr => if_neg fun h => by omega

theorem amount_bar (i : Fin 3) : (Rd I).amount (barCell c) 0 i = 1 := rfl
theorem amount_send (i : Fin 3) : (Rd I).amount (sendCell c g d) 0 i = NN g d := by
  show amountOf (.dma (sendS g d)) = _; unfold amountOf; dsimp only; rw [decode_sendS]
theorem amount_recv (i : Fin 3) : (Rd I).amount (recvCell c g d) 0 i = NN g d := by
  show amountOf (.dma (recvS g d)) = _; unfold amountOf; dsimp only; rw [decode_recvS]

theorem expect_bar : (Rd I).expect (barCell c) 0 = 3 := by
  unfold Schedule.expect Schedule.amountOf; rw [duties_bar]; rfl
theorem expect_send : (Rd I).expect (sendCell c g d) 0 = NN g d := by
  unfold Schedule.expect Schedule.amountOf; rw [duties_send, Finset.sum_singleton, amount_send]
theorem expect_recv : (Rd I).expect (recvCell c g d) 0 = NN g d := by
  unfold Schedule.expect Schedule.amountOf; rw [duties_recv, Finset.sum_singleton, amount_recv]

theorem payload_bar (i : Fin 3) : (Rd I).payload (barCell c) 0 i = barPay c i := rfl
theorem payload_send (i : Fin 3) : (Rd I).payload (sendCell c g d) 0 i = sendPay c g d := by
  show payOf I c (.dma (sendS g d)) i = _; unfold payOf; dsimp only; rw [decode_sendS]
theorem payload_recv (i : Fin 3) : (Rd I).payload (recvCell c g d) 0 i = recvPay I c g d := by
  show payOf I c (.dma (recvS g d)) i = _; unfold payOf; dsimp only; rw [decode_recvS]

theorem rest_bar : bigSep ((Rd I).duties (barCell c) 0 \ ∅) (fun i => (Rd I).payload (barCell c) 0 i)
    = bigSep Finset.univ fun i => barPay c i := by
  rw [Finset.sdiff_empty, duties_bar]; rfl
theorem rest_send : bigSep ((Rd I).duties (sendCell c g d) 0 \ ∅) (fun i => (Rd I).payload (sendCell c g d) 0 i)
    = sendPay c g d := by
  rw [Finset.sdiff_empty, duties_send, bigSep_singleton, payload_send]
theorem rest_recv : bigSep ((Rd I).duties (recvCell c g d) 0 \ ∅) (fun i => (Rd I).payload (recvCell c g d) 0 i)
    = recvPay I c g d := by
  rw [Finset.sdiff_empty, duties_recv, bigSep_singleton, payload_recv]

end Sched

/-- A family over the steps, dealt by direction. -/
theorem deal_dir (X : GD → Fin 3 → sProp 𝕄) :
    (bigSep Finset.univ fun i : Fin 3 => bigSep Finset.univ fun p : GD => if dir p.1 p.2 = i then X p i else iprop(emp))
      = bigSep Finset.univ fun p : GD => X p (dir p.1 p.2) := by
  rw [BI.bigSep_univ_comm]
  refine BI.bigSep_congr fun p _ => ?_
  rw [show (fun i : Fin 3 => if dir p.1 p.2 = i then X p i else iprop(emp))
    = fun i : Fin 3 => if i = dir p.1 p.2 then X p i else iprop(emp) from funext fun i => by
      by_cases h : dir p.1 p.2 = i
      · rw [if_pos h, if_pos h.symm]
      · rw [if_neg h, if_neg (Ne.symm h)]]
  refine (BI.bigSep_filter Finset.univ (fun i => i = dir p.1 p.2) (X p)).symm.trans ?_
  rw [Finset.filter_eq', if_pos (Finset.mem_univ _), bigSep_singleton]

/-! ## Levels -/

/-- The cells with a level: those of the devices' cores. -/
def LL (g : GSem nD τ sig) : Finset Unit := if g.1.2 = .tc then {()} else ∅
/-- Barrier cells wait first, then the receiving cells in the order the transfers start. -/
def lvS : SemLoc sig → ℕ
  | .reg _ => 1
  | .dma s => match decode s with | some (false, g, d) => 2 + ord g d | _ => 0
def lv (g : GSem nD τ sig) (_ : Unit) : ℕ := lvS g.2

theorem LL_tc (c : Dev nD) (sm : SemLoc sig) : LL ((c : Thread nD τ), sm) = {()} := if_pos rfl
theorem LL_of_ne (g : GSem nD τ sig) (h : g.1.2 ≠ .tc) : LL g = ∅ := if_neg h
theorem lvS_send (g : Fin 5) (d : Fin 6) : lvS (.dma (sendS g d)) = 0 := by unfold lvS; dsimp only; rw [decode_sendS]
theorem lvS_recv (g : Fin 5) (d : Fin 6) : lvS (.dma (recvS g d)) = 2 + ord g d := by unfold lvS; dsimp only; rw [decode_recvS]

/-! ## The state of a device -/

/-- How far a step is: 0 not stored, 1 stored, 2 in flight, 3 sent, 4 and more received. -/
def rel (q : Fin 5 → ℕ) (p : GD) : ℕ := q p.1 - (1 + 5 * p.2.val)
/-- One operation of a group. -/
def bump (q : Fin 5 → ℕ) (g : Fin 5) : Fin 5 → ℕ := Function.update q g (q g + 1)

theorem bump_self (q : Fin 5 → ℕ) (g : Fin 5) : bump q g g = q g + 1 := Function.update_self ..
theorem bump_ne (q : Fin 5 → ℕ) {g g' : Fin 5} (h : g' ≠ g) : bump q g g' = q g' := Function.update_of_ne h ..

/-- What a device still owes its partners. -/
def owed (q : Fin 5 → ℕ) (c : Dev nD) : CellTallies nD τ sig Unit :=
  ∑ p : GD, if rel q p < 2 then tallyAt (recvCell (peer p.1 p.2 c) p.1 p.2) () (NN p.1 p.2) else 0

/-- What a device holds of a step. -/
def slotRes (c : Dev nD) (p : GD) (n : ℕ) : sProp 𝕄 :=
  if n < 2 then
    iprop(dutyTok ER (sendCell c p.1 p.2) 0 0 ∗ dutyTok ER (recvCell (peer p.1 p.2 c) p.1 p.2) 0 0
      ∗ landAny (peer p.1 p.2 c) p ∗ reached ER (recvCell (peer p.1 p.2 c) p.1 p.2) 0
      ∗ reached ER (sendCell c p.1 p.2) 0 ∗ atPos ER (sendCell c p.1 p.2) 0 ∅ 0 ∗ atPos ER (recvCell c p.1 p.2) 0 ∅ 0
      ∗ cred (tallyAt (recvCell c p.1 p.2) () (NN p.1 p.2)))
  else if n = 2 then
    iprop(cred (tallyAt (sendCell c p.1 p.2) () (NN p.1 p.2)) ∗ atPos ER (sendCell c p.1 p.2) 0 ∅ 0
      ∗ atPos ER (recvCell c p.1 p.2) 0 ∅ 0 ∗ cred (tallyAt (recvCell c p.1 p.2) () (NN p.1 p.2)))
  else if n = 3 then
    iprop(atPos ER (sendCell c p.1 p.2) (0 + 1) ∅ 0
      ∗ atPos ER (recvCell c p.1 p.2) 0 ∅ 0 ∗ cred (tallyAt (recvCell c p.1 p.2) () (NN p.1 p.2)))
  else
    iprop(atPos ER (sendCell c p.1 p.2) (0 + 1) ∅ 0 ∗ atPos ER (recvCell c p.1 p.2) (0 + 1) ∅ 0 ∗ recvPay I c p.1 p.2)

/-- The step of a group at counter `n`. -/
def stepOf (n : ℕ) : Fin 6 := ⟨((n - 1) / 5) % 6, Nat.mod_lt _ (by decide)⟩

/-- What a device holds of a group's send buffer. -/
def sendRes (c : Dev nD) (g : Fin 5) (n : ℕ) : sProp 𝕄 :=
  if (n - 1) % 5 = 1 then
    iprop(∃ f, ⌜(sendSl g (stepOf n)).view.read (Elt F) f = sendV I c g (stepOf n)⌝ ∗ sendPts c g f)
  else if (n - 1) % 5 = 2 then
    iprop(∃ f, (sendM g).view.loc (c : Thread nD τ) ↦[Finset.univ \ (sendSl g (stepOf n)).view.set]{fullShare} f)
  else iprop(∃ f, sendPts c g f)

/-- What the output buffer holds. -/
def OutOK (c : Dev nD) (q : Fin 5 → ℕ) (R : FVec F S2048x1024 .f32) : Prop :=
  ∀ g, 0 < q g → ∀ y : S2048x1024.Idx, gbase g ≤ (y (0 : Fin 2)).val → (y (0 : Fin 2)).val < gend g →
    R y = Rv I g ((q g - 1) / 5) c y

/-- The inputs. -/
def insRes (c : Dev nD) : sProp 𝕄 :=
  iprop((∃ f, ⌜(Memref.whole cc0_stg0_0).view.read (Elt F) f = (I c).x⌝
      ∗ (Memref.whole cc0_stg0_0).view.loc (c : Thread nD τ) ↦{fullShare} f)
    ∗ (∃ f, ⌜(Memref.whole cc0_stg1_0).view.read (Elt F) f = (I c).wq⌝
      ∗ (Memref.whole cc0_stg1_0).view.loc (c : Thread nD τ) ↦{fullShare} f)
    ∗ (∃ f, ⌜(Memref.whole cc0_stg2_0).view.read (Elt F) f = (I c).k⌝
      ∗ (Memref.whole cc0_stg2_0).view.loc (c : Thread nD τ) ↦{fullShare} f)
    ∗ (∃ f, ⌜(Memref.whole cc0_stg3_0).view.read (Elt F) f = (I c).v⌝
      ∗ (Memref.whole cc0_stg3_0).view.loc (c : Thread nD τ) ↦{fullShare} f)
    ∗ (∃ f, ⌜(Memref.whole cc0_stg4_0).view.read (Elt F) f = (I c).wo⌝
      ∗ (Memref.whole cc0_stg4_0).view.loc (c : Thread nD τ) ↦{fullShare} f))

def outRes (c : Dev nD) (q : Fin 5 → ℕ) : sProp 𝕄 :=
  iprop(∃ f, ⌜OutOK I c q (outM.view.read (Elt F) f)⌝ ∗ outPts c f)

theorem take {A : Type} [DecidableEq A] {s : Finset A} {a : A} (h : a ∈ s) {Φ : A → sProp 𝕄} : bigSep s Φ ⊢ Φ a :=
  BI.bigSep_elim h

/-- The cells' invariants, at the names `K`. -/
def records (K : GSem nD τ sig → ℕ) : sProp 𝕄 :=
  bigSep Finset.univ fun c : Dev nD =>
    iprop(cellInv ER (Rd I) (K (barCell c)) (barCell c)
      ∗ bigSep Finset.univ fun p : GD =>
        iprop(cellInv ER (Rd I) (K (sendCell c p.1 p.2)) (sendCell c p.1 p.2)
          ∗ cellInv ER (Rd I) (K (recvCell c p.1 p.2)) (recvCell c p.1 p.2)))

instance records_persistent (K : GSem nD τ sig → ℕ) : BI.Persistent (records I K) := by unfold records; infer_instance

theorem records_send (K : GSem nD τ sig → ℕ) (c : Dev nD) (g : Fin 5) (d : Fin 6) :
    records I K ⊢ cellInv ER (Rd I) (K (sendCell c g d)) (sendCell c g d) := by
  unfold records
  iintro H
  ihave H := (take (Finset.mem_univ c)) $$ H
  icases H with ⟨-, H⟩
  ihave H := (take (Finset.mem_univ (g, d))) $$ H
  icases H with ⟨H, -⟩
  iexact H
theorem records_recv (K : GSem nD τ sig → ℕ) (c : Dev nD) (g : Fin 5) (d : Fin 6) :
    records I K ⊢ cellInv ER (Rd I) (K (recvCell c g d)) (recvCell c g d) := by
  unfold records
  iintro H
  ihave H := (take (Finset.mem_univ c)) $$ H
  icases H with ⟨-, H⟩
  ihave H := (take (Finset.mem_univ (g, d))) $$ H
  icases H with ⟨-, H⟩
  iexact H
theorem records_bar (K : GSem nD τ sig → ℕ) (c : Dev nD) :
    records I K ⊢ cellInv ER (Rd I) (K (barCell c)) (barCell c) := by
  unfold records
  iintro H
  ihave H := (take (Finset.mem_univ c)) $$ H
  icases H with ⟨H, -⟩
  iexact H

/-- The state of device `c` at counters `q`. -/
def St (K : GSem nD τ sig → ℕ) (c : Dev nD) (q : Fin 5 → ℕ) : sProp 𝕄 :=
  iprop(levAts LL lv ∗ records I K ∗ insRes I c ∗ outRes I c q
    ∗ (bigSep Finset.univ fun g => sendRes I c g (q g))
    ∗ (bigSep Finset.univ fun p : GD => slotRes I c p (rel q p))
    ∗ ∃ W, owes (c : Thread nD τ) (owed q c) W)

end Cert.KernelIdeal.Hand

end
-- ==== Proof.Steps.lean ====
/-
  The operations of the kernel on the state of a device: loads leave it alone and read what it says, and every operation
  of a step moves the step's group on by one.
-/
module

public import proofs.«01_k».proof.Proof.Protocol

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- The kernel's programs. -/
abbrev KProg (F : FTy → Type) (α : Type) : Type 1 := Prog (TpuEff nD τ sig (Elt F) Λ₀ .tc) α

variable (I : Dev nD → Ins F) (K : GSem nD τ sig → ℕ) (c : Dev nD)

/-- From counters `q`, program `p` ends at counters and a result that `Post` allows. -/
def Run {α : Type} (q : Fin 5 → ℕ) (p : KProg F α) (Post : α → (Fin 5 → ℕ) → Prop) : Prop :=
  ∀ (Kt : α → sProp 𝕄) (Fr : sProp 𝕄), (∀ a q', Post a q' → (iprop(St I K c q' ∗ Fr) ⊢ Kt a)) →
    (iprop(St I K c q ∗ Fr) ⊢ wp frame (wpE (defs₀ (F := F)) 𝒱₀ (c : Thread nD τ) none) Set.univ p Kt)

variable {I K c} {α β : Type} {q : Fin 5 → ℕ} {Post : α → (Fin 5 → ℕ) → Prop}

theorem Run.pure {a : α} (h : Post a q) : Run I K c q (Pure.pure a) Post := by
  intro Kt Fr hK
  show _ ⊢ wp _ _ _ (Prog.ret a) Kt
  rw [wp_ret]
  iintro H
  imodintro
  iapply (hK a q h)
  iexact H

theorem Run.bind {p : KProg F β} {k : β → KProg F α} {P : β → (Fin 5 → ℕ) → Prop} (hp : Run I K c q p P)
    (hk : ∀ b q', P b q' → Run I K c q' (k b) Post) : Run I K c q (p >>= k) Post := by
  intro Kt Fr hK
  rw [wp_bind]
  exact hp _ Fr fun b q' hb => hk b q' hb Kt Fr hK

theorem Run.mono {p : KProg F α} {P : α → (Fin 5 → ℕ) → Prop} (hp : Run I K c q p P)
    (h : ∀ a q', P a q' → Post a q') : Run I K c q p Post :=
  fun Kt Fr hK => hp Kt Fr fun a q' ha => hK a q' (h a q' ha)

/-! ## Loads -/

theorem Run.load {s : Shape} {e : EltTy} {m : Memref sig .tc .vmem s e} {P : Vec F s e → Prop} {r : Rect s}
    {S : Finset (Idx (m.view.loc (c : Thread nD τ)))} {hl : m.view.LoadsAt r.toLoadRect} {k : _ → KProg F α}
    (hS : m.view.set ⊆ S)
    (acc : St I K c q ⊢ iprop(∃ f, ⌜P (m.view.read (Elt F) f)⌝ ∗ (m.view.loc (c : Thread nD τ) ↦[S]{fullShare} f)
      ∗ ((m.view.loc (c : Thread nD τ) ↦[S]{fullShare} f) -∗ St I K c q)))
    (h : ∀ V, P V → Run I K c q (k (ld V r)) Post) :
    Run I K c q (Prog.lift (.load m r.toLoadRect hl) >>= k) Post := by
  intro Kt Fr hK
  show _ ⊢ wp _ _ _ (Prog.op (.load m r.toLoadRect hl) k) Kt
  iintro ⟨HS, HF⟩
  ihave H := acc $$ HS
  icases H with ⟨%f, %hf, Hp, Hb⟩
  iapply (wp_load 𝒱₀ (c : Thread nD τ) none Set.univ ((View.setOn_subset_set _ _).trans hS)) $$ Hp
  iintro Hp
  rw [show m.view.readAt (Elt F) r.toLoadRect f = ld (m.view.read (Elt F) f) r from rfl]
  iapply (h _ hf Kt Fr hK)
  isplitr [HF]
  · iapply Hb; iexact Hp
  · iexact HF

theorem ld_x {r : Rect S2048x1024} {hl} {k : _ → KProg F α} (h : Run I K c q (k (ld (I c).x r)) Post) :
    Run I K c q (Prog.lift (.load (Memref.whole cc0_stg0_0) r.toLoadRect hl) >>= k) Post := by
  refine Run.load (P := (· = (I c).x)) (Finset.subset_univ _) ?_ (fun V hV => hV ▸ h)
  unfold St insRes
  iintro ⟨Hl, Hr, ⟨⟨%f, %hf, Hx⟩, Hi⟩, Hrest⟩
  iexists f
  isplitr; · ipureintro; exact hf
  isplitl [Hx]; · iexact Hx
  iintro Hx
  isplitl [Hl]; · iexact Hl
  isplitl [Hr]; · iexact Hr
  isplitr [Hrest]
  · isplitl [Hx]
    · iexists f; isplitr; · ipureintro; exact hf
      iexact Hx
    · iexact Hi
  · iexact Hrest

theorem ld_wq {r : Rect S1024x1024} {hl} {k : _ → KProg F α} (h : Run I K c q (k (ld (I c).wq r)) Post) :
    Run I K c q (Prog.lift (.load (Memref.whole cc0_stg1_0) r.toLoadRect hl) >>= k) Post := by
  refine Run.load (P := (· = (I c).wq)) (Finset.subset_univ _) ?_ (fun V hV => hV ▸ h)
  unfold St insRes
  iintro ⟨Hl, Hr, ⟨H0, ⟨%f, %hf, Hx⟩, Hi⟩, Hrest⟩
  iexists f
  isplitr; · ipureintro; exact hf
  isplitl [Hx]; · iexact Hx
  iintro Hx
  isplitl [Hl]; · iexact Hl
  isplitl [Hr]; · iexact Hr
  isplitr [Hrest]
  · isplitl [H0]; · iexact H0
    isplitl [Hx]
    · iexists f; isplitr; · ipureintro; exact hf
      iexact Hx
    · iexact Hi
  · iexact Hrest

theorem ld_k {r : Rect S8x2048x128} {hl} {k : _ → KProg F α} (h : Run I K c q (k (ld (I c).k r)) Post) :
    Run I K c q (Prog.lift (.load (Memref.whole cc0_stg2_0) r.toLoadRect hl) >>= k) Post := by
  refine Run.load (P := (· = (I c).k)) (Finset.subset_univ _) ?_ (fun V hV => hV ▸ h)
  unfold St insRes
  iintro ⟨Hl, Hr, ⟨H0, H1, ⟨%f, %hf, Hx⟩, Hi⟩, Hrest⟩
  iexists f
  isplitr; · ipureintro; exact hf
  isplitl [Hx]; · iexact Hx
  iintro Hx
  isplitl [Hl]; · iexact Hl
  isplitl [Hr]; · iexact Hr
  isplitr [Hrest]
  · isplitl [H0]; · iexact H0
    isplitl [H1]; · iexact H1
    isplitl [Hx]
    · iexists f; isplitr; · ipureintro; exact hf
      iexact Hx
    · iexact Hi
  · iexact Hrest

theorem ld_v {r : Rect S8x2048x128} {hl} {k : _ → KProg F α} (h : Run I K c q (k (ld (I c).v r)) Post) :
    Run I K c q (Prog.lift (.load (Memref.whole cc0_stg3_0) r.toLoadRect hl) >>= k) Post := by
  refine Run.load (P := (· = (I c).v)) (Finset.subset_univ _) ?_ (fun V hV => hV ▸ h)
  unfold St insRes
  iintro ⟨Hl, Hr, ⟨H0, H1, H2, ⟨%f, %hf, Hx⟩, Hi⟩, Hrest⟩
  iexists f
  isplitr; · ipureintro; exact hf
  isplitl [Hx]; · iexact Hx
  iintro Hx
  isplitl [Hl]; · iexact Hl
  isplitl [Hr]; · iexact Hr
  isplitr [Hrest]
  · isplitl [H0]; · iexact H0
    isplitl [H1]; · iexact H1
    isplitl [H2]; · iexact H2
    isplitl [Hx]
    · iexists f; isplitr; · ipureintro; exact hf
      iexact Hx
    · iexact Hi
  · iexact Hrest

theorem ld_wo {r : Rect S1024x1024} {hl} {k : _ → KProg F α} (h : Run I K c q (k (ld (I c).wo r)) Post) :
    Run I K c q (Prog.lift (.load (Memref.whole cc0_stg4_0) r.toLoadRect hl) >>= k) Post := by
  refine Run.load (P := (· = (I c).wo)) (Finset.subset_univ _) ?_ (fun V hV => hV ▸ h)
  unfold St insRes
  iintro ⟨Hl, Hr, ⟨H0, H1, H2, H3, ⟨%f, %hf, Hx⟩⟩, Hrest⟩
  iexists f
  isplitr; · ipureintro; exact hf
  isplitl [Hx]; · iexact Hx
  iintro Hx
  isplitl [Hl]; · iexact Hl
  isplitl [Hr]; · iexact Hr
  isplitr [Hrest]
  · isplitl [H0]; · iexact H0
    isplitl [H1]; · iexact H1
    isplitl [H2]; · iexact H2
    isplitl [H3]; · iexact H3
    iexists f; isplitr; · ipureintro; exact hf
    iexact Hx
  · iexact Hrest

/-- Any rows of the output. -/
theorem ld_out {r : Rect S2048x1024} {hl} {k : _ → KProg F α}
    (h : ∀ V : Vec F S2048x1024 .f32, OutOK I c q V → Run I K c q (k (ld V r)) Post) :
    Run I K c q (Prog.lift (.load outM r.toLoadRect hl) >>= k) Post := by
  refine Run.load (P := fun V => OutOK I c q V) (Finset.subset_univ _) ?_ h
  unfold St outRes
  iintro ⟨Hl, Hr, Hi, ⟨%f, %hf, Hx⟩, Hrest⟩
  iexists f
  isplitr; · ipureintro; exact hf
  isplitl [Hx]; · iexact Hx
  iintro Hx
  isplitl [Hl]; · iexact Hl
  isplitl [Hr]; · iexact Hr
  isplitl [Hi]; · iexact Hi
  isplitl [Hx]
  · iexists f; isplitr; · ipureintro; exact hf
    iexact Hx
  · iexact Hrest

/-- Rows of the output within a group that is at step `d`. -/
theorem ld_rows (g : Fin 5) (d : Fin 6) {off : Fin 2 → ℕ} {n o : ℕ} {inb} {hl} {k : _ → KProg F α} (ho : o + n ≤ 2048)
    (hlo : gbase g ≤ o) (hhi : o + n ≤ gend g) (hq0 : 0 < q g) (hq : (q g - 1) / 5 = d.val) (hoff : off = ![o, 0])
    (h : Run I K c q (k (ld (F := F) (s := S2048x1024) (e := .f32) (Rv I g d.val c) (orect o n ho))) Post) :
    Run I K c q (Prog.lift (.load outM
      (Rect.unit (s := S2048x1024) off (⟨2, ![n, 1024]⟩ : Shape).size inb).toLoadRect hl) >>= k) Post := by
  subst hoff
  refine ld_out fun V hV => ?_
  rw [show ld V (Rect.unit (s := S2048x1024) ![o, 0] (⟨2, ![n, 1024]⟩ : Shape).size inb)
    = ld (F := F) (s := S2048x1024) (e := .f32) (Rv I g d.val c) (orect o n ho) from funext fun x => by
      unfold ld
      have hx : (x (0 : Fin 2)).val < n := (x (0 : Fin 2)).isLt
      have e : (((orect o n ho).toLoadRect.idx x) (0 : Fin 2)).val = o + (x (0 : Fin 2)).val := by
        show o + 1 * (x (0 : Fin 2)).val = _
        omega
      rw [← hq]
      exact hV g hq0 _ (by change gbase g ≤ (((orect o n ho).toLoadRect.idx x) (0 : Fin 2)).val; omega)
        (by change (((orect o n ho).toLoadRect.idx x) (0 : Fin 2)).val < gend g; omega)]
  exact h

/-- The rows a step is about to send, -/
abbrev aV (I : Dev nD → Ins F) (c : Dev nD) (g : Fin 5) (d : Fin 6) : FVec F (Ls g d) .f32 :=
  ld (F := F) (s := S2048x1024) (e := .f32) (Rv I g d.val c) (orect (aoff g d c) (nrow g d) (aoff_le g d c))
/-- and those it is about to update. -/
abbrev bV (I : Dev nD → Ins F) (c : Dev nD) (g : Fin 5) (d : Fin 6) : FVec F (Ls g d) .f32 :=
  ld (F := F) (s := S2048x1024) (e := .f32) (Rv I g d.val c) (orect (boff g d c) (nrow g d) (boff_le g d c))

theorem ld_a (g : Fin 5) (d : Fin 6) {off : Dev nD → Fin 2 → ℕ} {inb} {hl} {k : _ → KProg F α} (hq : q g = 1 + 5 * d.val)
    (hoff : ∀ c, off c = ![aoff g d c, 0]) (h : Run I K c q (k (aV I c g d)) Post) :
    Run I K c q (Prog.lift (.load outM
      (Rect.unit (s := S2048x1024) (off c) (Ls g d).size inb).toLoadRect hl) >>= k) Post :=
  ld_rows g d (aoff_le g d c) (aoff_in g d c).1 (aoff_in g d c).2 (by omega) (by omega) (hoff c) h

theorem ld_b (g : Fin 5) (d : Fin 6) {off : Dev nD → Fin 2 → ℕ} {inb} {hl} {k : _ → KProg F α}
    (hq : q g = 1 + 5 * d.val + 4) (hoff : ∀ c, off c = ![boff g d c, 0]) (h : Run I K c q (k (bV I c g d)) Post) :
    Run I K c q (Prog.lift (.load outM
      (Rect.unit (s := S2048x1024) (off c) (Ls g d).size inb).toLoadRect hl) >>= k) Post :=
  ld_rows g d (boff_le g d c) (boff_in g d c).1 (boff_in g d c).2 (by omega) (by omega) (hoff c) h

end Cert.KernelIdeal.Hand

end
-- ==== Proof.Moves.lean ====
/-
  The operations that move a step of the exchange on: the send buffer filled, the transfer started, the two waits, and the
  update of the output.
-/
module

public import proofs.«01_k».proof.Proof.Steps

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## Counters -/

theorem stepOf_at (d : Fin 6) (s n : ℕ) (hs : s ≤ 4) (hn : n = 1 + 5 * d.val + s) : stepOf n = d := by
  apply Fin.ext
  show ((n - 1) / 5) % 6 = d.val
  have := d.isLt
  omega

theorem rel_at {q : Fin 5 → ℕ} {g : Fin 5} {d : Fin 6} {s : ℕ} (hq : q g = 1 + 5 * d.val + s) : rel q (g, d) = s := by
  show q g - (1 + 5 * d.val) = s
  omega

theorem rel_bump {q : Fin 5 → ℕ} {g : Fin 5} {d : Fin 6} {s : ℕ} (hq : q g = 1 + 5 * d.val + s) :
    rel (bump q g) (g, d) = s + 1 := by
  show bump q g g - (1 + 5 * d.val) = s + 1
  rw [bump_self]; omega

/-- The other steps do not notice: they are where they were, or past the end. -/
theorem rel_other {q : Fin 5 → ℕ} {g : Fin 5} {d : Fin 6} {s : ℕ} (hq : q g = 1 + 5 * d.val + s) (hs : s ≤ 4) (p : GD)
    (hp : p ≠ (g, d)) : rel (bump q g) p = rel q p ∨ (4 ≤ rel (bump q g) p ∧ 4 ≤ rel q p) := by
  obtain ⟨g', d'⟩ := p
  show bump q g g' - (1 + 5 * d'.val) = q g' - (1 + 5 * d'.val)
    ∨ (4 ≤ bump q g g' - (1 + 5 * d'.val) ∧ 4 ≤ q g' - (1 + 5 * d'.val))
  by_cases hg : g' = g
  · subst hg
    rw [bump_self]
    have hd : d'.val ≠ d.val := fun h => hp (by rw [Fin.ext h])
    omega
  · left; rw [bump_ne q hg]

variable {I : Dev nD → Ins F} {K : GSem nD τ sig → ℕ} {c : Dev nD}

theorem slotRes_late {p : GD} {n m : ℕ} (hn : 4 ≤ n) (hm : 4 ≤ m) : slotRes I c p n = slotRes I c p m := by
  unfold slotRes
  rw [if_neg (by omega), if_neg (by omega), if_neg (by omega), if_neg (by omega), if_neg (by omega), if_neg (by omega)]

theorem slotRes_early {p : GD} {n m : ℕ} (hn : n < 2) (hm : m < 2) : slotRes I c p n = slotRes I c p m := by
  unfold slotRes
  rw [if_pos hn, if_pos hm]

theorem slots_step {q : Fin 5 → ℕ} {g : Fin 5} {d : Fin 6} {s : ℕ} (hq : q g = 1 + 5 * d.val + s) (hs : s ≤ 4) :
    (bigSep Finset.univ fun p : GD => slotRes I c p (rel q p))
      ⊢ iprop(slotRes I c (g, d) s ∗ (slotRes I c (g, d) (s + 1) -∗
          bigSep Finset.univ fun p : GD => slotRes I c p (rel (bump q g) p))) := by
  have h := BI.bigSep_univ_update (Φ := fun p : GD => slotRes I c p (rel q p))
    (Ψ := fun p : GD => slotRes I c p (rel (bump q g) p)) (g, d) (fun p hp => by
      rcases rel_other hq hs p hp with h | ⟨h1, h2⟩
      · show slotRes I c p _ = slotRes I c p _; rw [h]
      · exact slotRes_late h1 h2)
  rw [rel_at hq, rel_bump hq] at h
  exact h

theorem sends_step {q : Fin 5 → ℕ} (g : Fin 5) :
    (bigSep Finset.univ fun g' => sendRes I c g' (q g'))
      ⊢ iprop(sendRes I c g (q g) ∗ (sendRes I c g (q g + 1) -∗
          bigSep Finset.univ fun g' => sendRes I c g' (bump q g g'))) := by
  have h := BI.bigSep_univ_update (Φ := fun g' => sendRes I c g' (q g'))
    (Ψ := fun g' => sendRes I c g' (bump q g g')) g (fun g' hg => by
      show sendRes I c g' _ = sendRes I c g' _; rw [bump_ne q hg])
  rw [bump_self] at h
  exact h

theorem sendRes_free {g : Fin 5} {d : Fin 6} {s n : ℕ} (hn : n = 1 + 5 * d.val + s) (hs : s = 0 ∨ s = 3 ∨ s = 4 ∨ s = 5) :
    sendRes I c g n = iprop(∃ f, sendPts c g f) := by
  unfold sendRes
  rw [if_neg (by omega), if_neg (by omega)]
theorem sendRes_full {g : Fin 5} {d : Fin 6} {n : ℕ} (hn : n = 1 + 5 * d.val + 1) :
    sendRes I c g n
      = iprop(∃ f, ⌜(sendSl g d).view.read (Elt F) f = sendV I c g d⌝ ∗ sendPts c g f) := by
  unfold sendRes
  rw [if_pos (by omega), stepOf_at d 1 n (by omega) hn]
theorem sendRes_away {g : Fin 5} {d : Fin 6} {n : ℕ} (hn : n = 1 + 5 * d.val + 2) :
    sendRes I c g n
      = iprop(∃ f, (sendM g).view.loc (c : Thread nD τ) ↦[Finset.univ \ (sendSl g d).view.set]{fullShare} f) := by
  unfold sendRes
  rw [if_neg (by omega), if_pos (by omega), stepOf_at d 2 n (by omega) hn]

/-- Only starting a transfer pays a debt. -/
theorem owed_keep {q : Fin 5 → ℕ} {g : Fin 5} {d : Fin 6} {s : ℕ} (hq : q g = 1 + 5 * d.val + s) (hs : s ≤ 4)
    (h1 : s ≠ 1) : owed (bump q g) c = owed q c := by
  refine Finset.sum_congr rfl fun p _ => ?_
  have : (rel (bump q g) p < 2) = (rel q p < 2) := by
    by_cases hp : p = (g, d)
    · subst hp; rw [rel_at hq, rel_bump hq]; apply propext; omega
    · rcases rel_other hq hs p hp with h | ⟨h1, h2⟩
      · rw [h]
      · apply propext; omega
  simp only [this]

theorem owed_pay {q : Fin 5 → ℕ} {g : Fin 5} {d : Fin 6} (hq : q g = 1 + 5 * d.val + 1) :
    owed q c = owed (bump q g) c + tallyAt (recvCell (peer g d c) g d) () (NN g d) := by
  unfold owed
  rw [← Finset.add_sum_erase _ _ (Finset.mem_univ (g, d)), ← Finset.add_sum_erase _ _ (Finset.mem_univ (g, d)),
    if_pos (by rw [rel_at hq]; omega), if_neg (by rw [rel_bump hq]; omega), zero_add, add_comm]
  congr 1
  refine Finset.sum_congr rfl fun p hp => ?_
  have hp := Finset.ne_of_mem_erase hp
  have : (rel (bump q g) p < 2) = (rel q p < 2) := by
    rcases rel_other hq (by omega) p hp with h | ⟨h1, h2⟩
    · rw [h]
    · apply propext; omega
  simp only [this]

theorem OutOK.keep {q : Fin 5 → ℕ} {g : Fin 5} {d : Fin 6} {s : ℕ} {R : FVec F S2048x1024 .f32}
    (hq : q g = 1 + 5 * d.val + s) (hs : s < 4) (h : OutOK I c q R) : OutOK I c (bump q g) R := by
  intro g' hpos y hlo hhi
  by_cases hg : g' = g
  · subst hg
    rw [bump_self, show (q g' + 1 - 1) / 5 = (q g' - 1) / 5 by omega]
    exact h g' (by omega) y hlo hhi
  · rw [bump_ne q hg] at hpos ⊢
    exact h g' hpos y hlo hhi

/-- What an operation of a step takes out of the state, and what puts the next state together. -/
theorem St_step {q : Fin 5 → ℕ} {g : Fin 5} {d : Fin 6} {s : ℕ} (hq : q g = 1 + 5 * d.val + s) (hs : s < 4) :
    St I K c q ⊢ iprop(levAts LL lv ∗ records I K ∗ sendRes I c g (q g) ∗ slotRes I c (g, d) s
      ∗ (∃ W, owes (c : Thread nD τ) (owed q c) W)
      ∗ (levAts LL lv -∗ records I K -∗ sendRes I c g (q g + 1) -∗ slotRes I c (g, d) (s + 1)
          -∗ (∃ W, owes (c : Thread nD τ) (owed (bump q g) c) W) -∗ St I K c (bump q g))) := by
  unfold St outRes
  iintro ⟨Hl, Hr, Hi, ⟨%f, %hf, Hx⟩, Hs, Hsl, HO⟩
  ihave Hs := (sends_step g) $$ Hs
  icases Hs with ⟨Hs, Hs'⟩
  ihave Hsl := (slots_step hq (by omega)) $$ Hsl
  icases Hsl with ⟨Hsl, Hsl'⟩
  isplitl [Hl]; · iexact Hl
  isplitl [Hr]; · iexact Hr
  isplitl [Hs]; · iexact Hs
  isplitl [Hsl]; · iexact Hsl
  isplitl [HO]; · iexact HO
  iintro Hl Hr Hs Hsl HO
  isplitl [Hl]; · iexact Hl
  isplitl [Hr]; · iexact Hr
  isplitl [Hi]; · iexact Hi
  isplitl [Hx]
  · iexists f; isplitr; · ipureintro; exact hf.keep hq hs
    iexact Hx
  isplitl [Hs Hs']; · iapply Hs'; iexact Hs
  isplitl [Hsl Hsl']; · iapply Hsl'; iexact Hsl
  iexact HO

/-! ## The waits' side condition -/

theorem mayWait {q : Fin 5 → ℕ} (sm : SemLoc sig) (h : ∀ p : GD, rel q p < 2 → lvS sm < 2 + ord p.1 p.2) :
    (levAts LL lv : sProp 𝕄) ⊢ MayWait (c : Thread nD τ) sm () (owed q c) := by
  have key (g : GSem nD τ sig) (u : Unit) (hg : 0 < owed q c g u) :
      ∃ p : GD, rel q p < 2 ∧ g = recvCell (peer p.1 p.2 c) p.1 p.2 := by
    by_contra hne
    have hz : owed q c g u = 0 := by
      unfold owed
      rw [Finset.sum_apply, Finsupp.finset_sum_apply]
      refine Finset.sum_eq_zero fun p _ => ?_
      split
      · rename_i hp
        rw [tallyAt_apply, if_neg fun e => hne ⟨p, hp, e.1⟩]
      · rfl
    omega
  refine MayOwe.of_cut (L := LL) (lev := lv) (lvS sm)
    (fun p hp => by rw [Finset.mem_singleton.mp hp, LL_tc]; exact Finset.mem_singleton_self _) (fun g u hg => ?_)
    (fun p hp => by rw [Finset.mem_singleton.mp hp]; exact le_refl _) (fun g u hg => ?_)
  · obtain ⟨p, -, rfl⟩ := key g u hg
    rw [LL_tc]; exact Finset.mem_singleton_self _
  · obtain ⟨p, hp, rfl⟩ := key g u hg
    show lvS sm < lvS (.dma (recvS p.1 p.2))
    rw [lvS_recv]
    exact h p hp

end Cert.KernelIdeal.Hand

end
-- ==== Proof.Ops.lean ====
/-
  Every operation of a step of the exchange, on the state of a device: the send buffer filled, the transfer started, the
  two waits, the landed rows read, the output updated, and a finished tile of rows written to the output.
-/
module

public import proofs.«01_k».proof.Proof.Moves

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable {I : Dev nD → Ins F} {K : GSem nD τ sig → ℕ} {c : Dev nD} {α : Type} {q : Fin 5 → ℕ}
  {Post : α → (Fin 5 → ℕ) → Prop}

theorem slotRes_start {p : GD} {n : ℕ} (h : n < 2) : slotRes I c p n
    = iprop(dutyTok ER (sendCell c p.1 p.2) 0 0 ∗ dutyTok ER (recvCell (peer p.1 p.2 c) p.1 p.2) 0 0
      ∗ landAny (peer p.1 p.2 c) p ∗ reached ER (recvCell (peer p.1 p.2 c) p.1 p.2) 0
      ∗ reached ER (sendCell c p.1 p.2) 0 ∗ atPos ER (sendCell c p.1 p.2) 0 ∅ 0 ∗ atPos ER (recvCell c p.1 p.2) 0 ∅ 0
      ∗ cred (tallyAt (recvCell c p.1 p.2) () (NN p.1 p.2))) := if_pos h
theorem slotRes_two {p : GD} : slotRes I c p 2
    = iprop(cred (tallyAt (sendCell c p.1 p.2) () (NN p.1 p.2)) ∗ atPos ER (sendCell c p.1 p.2) 0 ∅ 0
      ∗ atPos ER (recvCell c p.1 p.2) 0 ∅ 0 ∗ cred (tallyAt (recvCell c p.1 p.2) () (NN p.1 p.2))) := by
  unfold slotRes; rw [if_neg (by decide), if_pos rfl]
theorem slotRes_three {p : GD} : slotRes I c p 3
    = iprop(atPos ER (sendCell c p.1 p.2) (0 + 1) ∅ 0
      ∗ atPos ER (recvCell c p.1 p.2) 0 ∅ 0 ∗ cred (tallyAt (recvCell c p.1 p.2) () (NN p.1 p.2))) := by
  unfold slotRes; rw [if_neg (by decide), if_neg (by decide), if_pos rfl]
theorem slotRes_done {p : GD} {n : ℕ} (h : 4 ≤ n) : slotRes I c p n
    = iprop(atPos ER (sendCell c p.1 p.2) (0 + 1) ∅ 0 ∗ atPos ER (recvCell c p.1 p.2) (0 + 1) ∅ 0
      ∗ recvPay I c p.1 p.2) := by
  unfold slotRes; rw [if_neg (by omega), if_neg (by omega), if_neg (by omega)]
theorem slotRes_0 {p : GD} : slotRes I c p 0 = slotRes I c p (0 + 1) := slotRes_early (by decide) (by decide)

/-- The send buffer before it is filled: the value read is not used. -/
theorem ld_send (g : Fin 5) (d : Fin 6) {hl} {k : _ → KProg F α} (hq : q g = 1 + 5 * d.val)
    (h : ∀ V : Vec F (Ls g d) .bf16, Run I K c q (k V) Post) :
    Run I K c q (Prog.lift (.load (sendM g) (srect g d).toLoadRect hl) >>= k) Post := by
  refine Run.load (P := fun _ => True) (S := Finset.univ) (Finset.subset_univ _) ?_ (fun V _ => h _)
  unfold St
  iintro ⟨Hl, Hr, Hi, Hx, Hs, Hrest⟩
  ihave Hs := (BI.bigSep_univ_update (Φ := fun g' => sendRes I c g' (q g')) (Ψ := fun g' => sendRes I c g' (q g')) g
    (fun _ _ => rfl)) $$ Hs
  rw [sendRes_free (s := 0) hq (Or.inl rfl)]
  icases Hs with ⟨⟨%f, Hf⟩, Hb⟩
  iexists f
  isplitr; · ipureintro; trivial
  isplitl [Hf]; · iexact Hf
  iintro Hf
  isplitl [Hl]; · iexact Hl
  isplitl [Hr]; · iexact Hr
  isplitl [Hi]; · iexact Hi
  isplitl [Hx]; · iexact Hx
  isplitl [Hf Hb]
  · iapply Hb; iexists f; iexact Hf
  · iexact Hrest

/-- The send buffer filled. -/
theorem st_send (g : Fin 5) (d : Fin 6) {w : (srect g d).shape.Idx → Elt F .bf16} {hx hm} {k : _ → KProg F α}
    (hq : q g = 1 + 5 * d.val) (hw : w = sendV I c g d) (h : Run I K c (bump q g) (k ⟨⟩) Post) :
    Run I K c q (Prog.lift (.store (sendM g) (srect g d) w Finset.univ hx hm) >>= k) Post := by
  intro Kt Fr hK
  show _ ⊢ wp _ _ _ (Prog.op (.store (sendM g) (srect g d) w Finset.univ hx hm) k) Kt
  iintro ⟨HS, HF⟩
  ihave H := (St_step (s := 0) hq (by omega)) $$ HS
  rw [sendRes_free (s := 0) hq (Or.inl rfl), sendRes_full (d := d) (by omega), ← slotRes_0,
    owed_keep (s := 0) hq (by omega) (by omega)]
  icases H with ⟨Hl, Hr, ⟨%f, Hf⟩, Hsl, HO, Hb⟩
  iapply (wp_store 𝒱₀ (c : Thread nD τ) none Set.univ (m := sendM g) (r := srect g d) (f := f) (S := Finset.univ) (Finset.subset_univ _)) $$ Hf
  iintro Hf
  iapply (h Kt Fr hK)
  isplitr [HF]
  · iapply Hb $$ [Hl] [Hr] [Hf] [Hsl] [HO]
    · iexact Hl
    · iexact Hr
    · iexists (((sendM g).access (srect g d)).write (Elt F) f w Finset.univ)
      isplitr
      · ipureintro
        rw [← hw]
        exact View.read_write_univ ..
      · iexact Hf
    · iexact Hsl
    · iexact HO
  · iexact HF

/-- The transfer started. -/
theorem st_enq (g : Fin 5) (d : Fin 6) {c' : Dev nD → Dev nD} {sS sR : DmaSem sig} {hsc hsrc hdst hsem} {k : _ → KProg F α}
    (hq : q g = 1 + 5 * d.val + 1) (hc : ∀ c, c' c = peer g d c) (hs : sS = sendS g d) (hr : sR = recvS g d)
    (h : Run I K c (bump q g) (k ⟨⟩) Post) :
    Run I K c q (Prog.lift (.enqueueDma (sendSl g d) (.remote (Dev.tc (c' c)) (landM g d) (.dma sS) hsc) (.dma sR)
      hsrc hdst hsem) >>= k) Post := by
  obtain rfl : c' = peer g d := funext hc
  subst hs hr
  intro Kt Fr hK
  show _ ⊢ wp _ _ _ (Prog.op (.enqueueDma (sendSl g d) (.remote (Dev.tc (peer g d c)) (landM g d) (.dma (sendS g d)) hsc)
    (.dma (recvS g d)) hsrc hdst hsem) k) Kt
  iintro ⟨HS, HF⟩
  ihave H := (St_step (s := 1) hq (by omega)) $$ HS
  rw [sendRes_full hq, sendRes_away (d := d) (by omega)]
  rw [slotRes_start (n := 1) (by decide), show 1 + 1 = 2 from rfl, slotRes_two]
  unfold landAny
  icases H with ⟨Hl, #Hr, ⟨%f, %hf, Hf⟩, ⟨HdS, HdR, ⟨%fd, Hd⟩, #HrR, #HrS, HaS, HaR, Hcr⟩, ⟨%W, HO⟩, Hb⟩
  ihave Hf := ((pointsTo_split_subset (Finset.subset_univ (sendSl g d).view.set)).1) $$ Hf
  icases Hf with ⟨Hf, Hrest⟩
  iapply (Rounds.wp_send_pointsTo 𝒱₀ ER (Rd I) (c : Thread nD τ) none (c' := (peer g d c : Thread nD τ)) (src := sendSl g d)
      (dst := landM g d) (sS := .dma (sendS g d)) (sem := .dma (recvS g d)) (q := fullShare) (fs := f)
      (κ₁ := K (sendCell c g d)) (κ₂ := K (recvCell (peer g d c) g d)) (r₁ := 0) (r₂ := 0) (d₁ := 0) (d₂ := 0) (fd := fd)
      (by rw [duties_send]; exact Finset.mem_singleton_self _) (by rw [duties_recv]; exact Finset.mem_singleton_self _)
      () () (NN g d) rfl (amount_send ..) (amount_recv ..) (owed (bump q g) c) (owed_pay hq) (W := W)
      (by rw [payload_send]; unfold sendPay; iintro H; iexists f; iexact H)
      (by
        rw [payload_recv]; unfold recvPay
        iintro H
        iexists _
        isplitr; rotate_left
        · iexact H
        · ipureintro
          rw [View.read_write_univ, hf]
          unfold landV
          rw [peer_peer])) $$ [Hf Hd HO HdS HdR]
  · isplitr; · iapply (records_send I K c g d); iexact Hr
    isplitr; · iapply (records_recv I K (peer g d c) g d); iexact Hr
    isplitl [Hf]; · iexact Hf
    isplitl [Hd]; · iexact Hd
    isplitl [HO]; · iexact HO
    isplitl [HdS]; · iexact HdS
    isplitr; · iexact HrS
    isplitl [HdR]; · iexact HdR
    iexact HrR
  iintro ⟨HcS, HO⟩
  iapply (h Kt Fr hK)
  isplitr [HF]
  · iapply Hb $$ [Hl] [] [Hrest] [HcS HaS HaR Hcr] [HO]
    · iexact Hl
    · iexact Hr
    · iexists f; iexact Hrest
    · isplitl [HcS]; · iexact HcS
      isplitl [HaS]; · iexact HaS
      isplitl [HaR]; · iexact HaR
      iexact Hcr
    · iexists W; iexact HO
  · iexact HF

/-- The rows sent count as many bytes as the buffer they land in. -/
theorem credit_eq (g : Fin 5) (d : Fin 6) : (sendSl g d).view.dmaCredit = NN g d := by
  fin_cases g <;> fin_cases d <;> rfl

/-- The wait for the send buffer. -/
theorem st_ws (g : Fin 5) (d : Fin 6) {sS : DmaSem sig} {s' : Shape} {e' : EltTy} {src : Memref sig .tc .vmem s' e'}
    {hsrc hdst} {k : _ → KProg F α} (hq : q g = 1 + 5 * d.val + 2) (hs : sS = sendS g d)
    (h : Run I K c (bump q g) (k ⟨⟩) Post) :
    Run I K c q (Prog.lift (.waitDma2 sS src (sendSl g d) hsrc hdst) >>= k) Post := by
  subst hs
  intro Kt Fr hK
  show _ ⊢ wp _ _ _ (Prog.op (.waitDma2 (sendS g d) src (sendSl g d) hsrc hdst) k) Kt
  iintro ⟨HS, HF⟩
  ihave H := (St_step (s := 2) hq (by omega)) $$ HS
  rw [sendRes_away hq, sendRes_free (s := 3) (d := d) (by omega) (by omega), owed_keep (s := 2) hq (by omega) (by omega)]
  rw [slotRes_two, show 2 + 1 = 3 from rfl, slotRes_three]
  icases H with ⟨#Hl, #Hr, ⟨%f, Hf⟩, ⟨HcS, HaS, HaR, Hcr⟩, ⟨%W, HO⟩, Hb⟩
  iapply (Rounds.wp_wait_rest_token 𝒱₀ ER (Rd I) (c : Thread nD τ) none (κ := K (sendCell c g d))
      (k' := NN g d)
      (fun Kq => (wpE_waitDma2_eq (dst := sendSl g d) 𝒱₀ (c : Thread nD τ) none Set.univ Kq).trans (by rw [credit_eq])) (Set.mem_univ _) () (O := owed q c) (W := W) (R := 0) (m := 0)
      (T := ∅) ((Nat.zero_add _).trans (expect_send ..).symm)) $$ [HcS HO HaS]
  · isplitr; · iapply (records_send I K c g d); iexact Hr
    isplitl [HcS]; · iexact HcS
    isplitl [HO]; · iexact HO
    isplitr
    · iapply (mayWait (q := q) (c := c) (.dma (sendS g d)) (fun p _ => by rw [lvS_send]; omega)); iexact Hl
    iexact HaS
  iintro ⟨HO, HaS, -, Hpay⟩
  ihave Hp := (Entails.of_eq ((rest_send ..).trans (by unfold sendPay; rfl))) $$ Hpay
  icases Hp with ⟨%f', Hp⟩
  ihave Hj := (pointsTo_join_subset (ℓ := (sendM g).view.loc (c : Thread nD τ)) (f := f) (g := f') (S := Finset.univ)
    (Finset.subset_univ (sendSl g d).view.set)) $$ [Hp Hf]
  · isplitl [Hp]; · iexact Hp
    iexact Hf
  iapply (h Kt Fr hK)
  isplitr [HF]
  · iapply Hb $$ [] [] [Hj] [HaS HaR Hcr] [HO]
    · iexact Hl
    · iexact Hr
    · iexists _; iexact Hj
    · isplitl [HaS]; · iexact HaS
      isplitl [HaR]; · iexact HaR
      iexact Hcr
    · iexists _; iexact HO
  · iexact HF

/-- The wait for the partner's rows. -/
theorem st_wr (g : Fin 5) (d : Fin 6) {sR : DmaSem sig} {s' : Shape} {e' : EltTy} {src : Memref sig .tc .vmem s' e'}
    {hsrc hdst} {k : _ → KProg F α} (hq : q g = 1 + 5 * d.val + 3) (hr : sR = recvS g d)
    (hl : ∀ p : GD, rel q p < 2 → ord g d < ord p.1 p.2)
    (h : Run I K c (bump q g) (k ⟨⟩) Post) :
    Run I K c q (Prog.lift (.waitDma2 sR src (landM g d) hsrc hdst) >>= k) Post := by
  subst hr
  intro Kt Fr hK
  show _ ⊢ wp _ _ _ (Prog.op (.waitDma2 (recvS g d) src (landM g d) hsrc hdst) k) Kt
  iintro ⟨HS, HF⟩
  ihave H := (St_step (s := 3) hq (by omega)) $$ HS
  rw [sendRes_free hq (by omega), sendRes_free (s := 4) (d := d) (by omega) (by omega),
    owed_keep (s := 3) hq (by omega) (by omega)]
  rw [slotRes_three, slotRes_done (n := 3 + 1) (by decide)]
  icases H with ⟨#Hl, #Hr, Hf, ⟨HaS, HaR, Hcr⟩, ⟨%W, HO⟩, Hb⟩
  iapply (Rounds.wp_wait_rest_token 𝒱₀ ER (Rd I) (c : Thread nD τ) none (κ := K (recvCell c g d))
      (wpE_waitDma2_eq 𝒱₀ (c : Thread nD τ) none Set.univ) (Set.mem_univ _) () (O := owed q c) (W := W) (R := 0) (m := 0)
      (T := ∅) ((Nat.zero_add _).trans (expect_recv ..).symm)) $$ [Hcr HO HaR]
  · isplitr; · iapply (records_recv I K c g d); iexact Hr
    isplitl [Hcr]; · iexact Hcr
    isplitl [HO]; · iexact HO
    isplitr
    · iapply (mayWait (q := q) (c := c) (.dma (recvS g d)) (fun p hp => by
        rw [lvS_recv]; have := hl p hp; omega)); iexact Hl
    iexact HaR
  iintro ⟨HO, HaR, -, Hpay⟩
  ihave Hp := (Entails.of_eq (rest_recv ..)) $$ Hpay
  iapply (h Kt Fr hK)
  isplitr [HF]
  · iapply Hb $$ [] [] [Hf] [HaS HaR Hp] [HO]
    · iexact Hl
    · iexact Hr
    · iexact Hf
    · isplitl [HaS]; · iexact HaS
      isplitl [HaR]; · iexact HaR
      iexact Hp
    · iexists _; iexact HO
  · iexact HF

/-- All of a landing buffer. -/
abbrev lrect (g : Fin 5) (d : Fin 6) : Rect (Ls g d) :=
  Rect.unit (s := Ls g d) ![0, 0] (Ls g d).size (Fin.forall_fin_two.mpr
    ⟨show 0 + nrow g d ≤ nrow g d by omega, show 0 + 1024 ≤ 1024 by omega⟩)

theorem ld_lrect (g : Fin 5) (d : Fin 6) (V : Vec F (Ls g d) .bf16) : ld V (lrect g d) = V :=
  funext fun x => congrArg V (funext fun a => Fin.ext (by
    rw [LoadRect.idx_apply]
    show ![0, 0] a + 1 * (x a).val = (x a).val
    fin_cases a <;> simp))

/-- The rows that arrived. -/
theorem ld_land (g : Fin 5) (d : Fin 6) {hl} {k : _ → KProg F α} (hq : q g = 1 + 5 * d.val + 4)
    (h : Run I K c q (k (landV I c g d)) Post) :
    Run I K c q (Prog.lift (.load (landM g d) (lrect g d).toLoadRect hl) >>= k) Post := by
  refine Run.load (P := (· = landV I c g d)) (S := (landM g d).view.set) (Finset.Subset.refl _) ?_
    (fun V hV => by rw [ld_lrect, hV]; exact h)
  unfold St
  iintro ⟨Hl, Hr, Hi, Hx, Hs, Hsl, HO⟩
  ihave Hsl := (BI.bigSep_univ_update (Φ := fun p : GD => slotRes I c p (rel q p))
    (Ψ := fun p : GD => slotRes I c p (rel q p)) (g, d) (fun _ _ => rfl)) $$ Hsl
  rw [rel_at (s := 4) hq, slotRes_done (n := 4) (by decide)]
  unfold recvPay
  icases Hsl with ⟨⟨HaS, HaR, ⟨%f, %hf, Hf⟩⟩, Hb⟩
  iexists f
  isplitr; · ipureintro; exact hf
  isplitl [Hf]; · iexact Hf
  iintro Hf
  isplitl [Hl]; · iexact Hl
  isplitl [Hr]; · iexact Hr
  isplitl [Hi]; · iexact Hi
  isplitl [Hx]; · iexact Hx
  isplitl [Hs]; · iexact Hs
  isplitr [HO]
  · iapply Hb
    isplitl [HaS]; · iexact HaS
    isplitl [HaR]; · iexact HaR
    iexists f; isplitr; · ipureintro; exact hf
    iexact Hf
  · iexact HO

/-! ## The output -/

theorem groups_apart {g g' : Fin 5} (h : g' ≠ g) : gend g ≤ gbase g' ∨ gend g' ≤ gbase g := by
  revert g g'; decide

theorem OutOK.step {g : Fin 5} {d : Fin 6} {R R' : FVec F S2048x1024 .f32} (hq : q g = 1 + 5 * d.val + 4)
    (h : OutOK I c q R)
    (hR : ∀ y : S2048x1024.Idx, R' y =
      if hy : boff g d c ≤ (y (0 : Fin 2)).val ∧ (y (0 : Fin 2)).val < boff g d c + nrow g d then
        updF g d (ld (F := F) (s := S2048x1024) (e := .f32) (Rv I g d.val c)
          (orect (boff g d c) (nrow g d) (boff_le g d c))) (landV I c g d)
          (Rect.unitLocal (s := S2048x1024) (off := ![boff g d c, 0]) (size := (Ls g d).size) y
            (Rect.unit_rows_mem (d := ![2048, 1024]) y (W := nrow g d) rfl rfl hy))
      else R y) : OutOK I c (bump q g) R' := by
  intro g' hpos y hlo hhi
  have hb := boff_in g d c
  rw [hR]
  by_cases hg : g' = g
  · subst hg
    rw [bump_self, show (q g' + 1 - 1) / 5 = d.val + 1 by omega, Rv_succ]
    unfold stepR
    split
    · rfl
    · rw [h g' (by omega) y hlo hhi, show (q g' - 1) / 5 = d.val by omega]
  · rw [bump_ne q hg] at hpos ⊢
    rw [dif_neg, h g' hpos y hlo hhi]
    rintro ⟨h1, h2⟩
    rcases groups_apart hg with h3 | h3 <;> omega

/-- The counters after the last operation of a step: the rest of the state is where it was. -/
theorem St_last {g : Fin 5} {d : Fin 6} (hq : q g = 1 + 5 * d.val + 4) :
    St I K c q ⊢ iprop(outRes I c q ∗ (outRes I c (bump q g) -∗ St I K c (bump q g))) := by
  unfold St
  iintro ⟨Hl, Hr, Hi, Hx, Hs, Hsl, HO⟩
  ihave Hs := (sends_step g) $$ Hs
  rw [sendRes_free hq (by omega), sendRes_free (s := 5) (n := q g + 1) (d := d) (by omega) (by omega)]
  icases Hs with ⟨Hs, Hs'⟩
  ihave Hsl := (slots_step hq (by omega)) $$ Hsl
  rw [slotRes_late (p := (g, d)) (n := 4 + 1) (m := 4) (by decide) (by decide)]
  icases Hsl with ⟨Hsl, Hsl'⟩
  isplitl [Hx]; · iexact Hx
  iintro Hx
  isplitl [Hl]; · iexact Hl
  isplitl [Hr]; · iexact Hr
  isplitl [Hi]; · iexact Hi
  isplitl [Hx]; · iexact Hx
  isplitl [Hs Hs']; · iapply Hs'; iexact Hs
  isplitl [Hsl Hsl']; · iapply Hsl'; iexact Hsl
  rw [owed_keep hq (by omega) (by omega)]
  iexact HO

/-- The output updated with the rows that arrived. -/
theorem st_out (g : Fin 5) (d : Fin 6) {off : Dev nD → Fin 2 → ℕ} {inb} {w : (Ls g d).Idx → Elt F .f32} {hx hm}
    {k : _ → KProg F α} (hq : q g = 1 + 5 * d.val + 4) (hoff : ∀ c, off c = ![boff g d c, 0])
    (hw : w = updF g d (bV I c g d) (landV I c g d))
    (h : Run I K c (bump q g) (k ⟨⟩) Post) :
    Run I K c q (Prog.lift (.store outM (Rect.unit (s := S2048x1024) (off c) (Ls g d).size inb) w Finset.univ hx hm) >>= k)
      Post := by
  obtain rfl : off = fun c => ![boff g d c, 0] := funext hoff
  intro Kt Fr hK
  show _ ⊢ wp _ _ _ (Prog.op (.store outM (Rect.unit (s := S2048x1024) ![boff g d c, 0] (Ls g d).size inb) w
    Finset.univ hx hm) k) Kt
  iintro ⟨HS, HF⟩
  ihave H := (St_last hq) $$ HS
  unfold outRes
  icases H with ⟨⟨%f, %hf, Hf⟩, Hb⟩
  iapply (wp_store 𝒱₀ (c : Thread nD τ) none Set.univ (m := outM) (r := Rect.unit (s := S2048x1024) ![boff g d c, 0] (Ls g d).size inb) (f := f) (S := Finset.univ) (Finset.subset_univ _)) $$ Hf
  iintro Hf
  iapply (h Kt Fr hK)
  isplitr [HF]
  · iapply Hb
    iexists _
    isplitr; rotate_left
    · iexact Hf
    · ipureintro
      refine hf.step hq fun y => ?_
      rw [← hw]
      exact View.read_writes_cons_rows outM.view f inb w [] y (d := ![2048, 1024]) (o := boff g d c) (W := nrow g d) rfl rfl rfl
  · iexact HF

/-- The tile a group's rows belong to. -/
def gtile : Fin 5 → Fin 4 := ![0, 1, 2, 3, 3]
/-- The counters when a tile has been written: its groups start. -/
def startT (q : Fin 5 → ℕ) (t : Fin 4) : Fin 5 → ℕ := fun g => if gtile g = t then 1 else q g

theorem gtile_lo (g : Fin 5) : 512 * (gtile g).val ≤ gbase g := by revert g; decide
theorem gtile_hi (g : Fin 5) : gend g ≤ 512 * (gtile g).val + 512 := by revert g; decide

theorem tile_le (t : Fin 4) : 512 * t.val + 512 ≤ 2048 := by omega

theorem rel_start {t : Fin 4} (h0 : ∀ g, gtile g = t → q g = 0) (p : GD) : rel (startT q t) p = rel q p := by
  unfold rel startT
  by_cases h : gtile p.1 = t
  · rw [if_pos h, h0 _ h]; omega
  · rw [if_neg h]

theorem sendRes_start {t : Fin 4} (h0 : ∀ g, gtile g = t → q g = 0) (g : Fin 5) :
    sendRes I c g (startT q t g) = sendRes I c g (q g) := by
  unfold startT
  by_cases h : gtile g = t
  · rw [if_pos h, h0 _ h]; rfl
  · rw [if_neg h]

theorem OutOK.start {t : Fin 4} {R R' : FVec F S2048x1024 .f32} (h0 : ∀ g, gtile g = t → q g = 0) (h : OutOK I c q R)
    (hR : ∀ y : S2048x1024.Idx, R' y =
      if hy : 512 * t.val ≤ (y (0 : Fin 2)).val ∧ (y (0 : Fin 2)).val < 512 * t.val + 512 then
        tileV t (I c) (Rect.unitLocal (s := S2048x1024) (off := ![512 * t.val, 0]) (size := S512x1024.size) y
            (Rect.unit_rows_mem (d := ![2048, 1024]) y (W := 512) rfl rfl hy))
      else R y) : OutOK I c (startT q t) R' := by
  intro g hpos y hlo hhi
  have h1 := gtile_lo g
  have h2 := gtile_hi g
  rw [hR]
  by_cases hg : gtile g = t
  · subst hg
    have e : startT q (gtile g) g = 1 := if_pos rfl
    rw [e, dif_pos (by omega)]
    have ht : gtile g = tileOf y := Fin.ext (by
      show (gtile g).val = (y (0 : Fin 2)).val / 512
      omega)
    show _ = own (I c) y
    unfold own
    rw! [ht]
    rfl
  · have e : startT q t g = q g := if_neg hg
    have : (gtile g).val ≠ t.val := fun h => hg (Fin.ext h)
    rw [e] at hpos ⊢
    rw [dif_neg (by omega), h g hpos y hlo hhi]

/-- A tile's rows written to the output: every device's own part of them. -/
theorem st_tile (t : Fin 4) {off : Fin 2 → ℕ} {inb} {w : (⟨2, ![512, 1024]⟩ : Shape).Idx → Elt F .f32} {hx hm}
    {k : _ → KProg F α} (h0 : ∀ g, gtile g = t → q g = 0) (hoff : off = ![512 * t.val, 0]) (hw : w = tileV t (I c))
    (h : Run I K c (startT q t) (k ⟨⟩) Post) :
    Run I K c q (Prog.lift (.store outM (Rect.unit (s := S2048x1024) off (⟨2, ![512, 1024]⟩ : Shape).size inb) w
      Finset.univ hx hm) >>= k) Post := by
  subst hoff
  intro Kt Fr hK
  show _ ⊢ wp _ _ _ (Prog.op (.store outM (Rect.unit (s := S2048x1024) ![512 * t.val, 0] (⟨2, ![512, 1024]⟩ : Shape).size inb)
    w Finset.univ hx hm) k) Kt
  unfold St outRes
  iintro ⟨⟨Hl, Hr, Hi, ⟨%f, %hf, Hf⟩, Hs, Hsl, HO⟩, HF⟩
  iapply (wp_store 𝒱₀ (c : Thread nD τ) none Set.univ (m := outM)
    (r := Rect.unit (s := S2048x1024) ![512 * t.val, 0] (⟨2, ![512, 1024]⟩ : Shape).size inb) (f := f) (S := Finset.univ)
    (Finset.subset_univ _)) $$ Hf
  iintro Hf
  iapply (h Kt Fr hK)
  isplitr [HF]
  · unfold St outRes
    isplitl [Hl]; · iexact Hl
    isplitl [Hr]; · iexact Hr
    isplitl [Hi]; · iexact Hi
    isplitl [Hf]
    · iexists _
      isplitr; rotate_left
      · iexact Hf
      · ipureintro
        exact OutOK.start h0 hf (fun y => by
          rw [← hw]
          exact View.read_writes_cons_rows outM.view f inb w [] y (d := ![2048, 1024]) (o := 512 * t.val) (W := 512)
            rfl rfl rfl)
    isplitl [Hs]
    · rw [show (fun g => sendRes I c g (startT q t g)) = fun g => sendRes I c g (q g) from
        funext fun g => sendRes_start h0 g]
      iexact Hs
    isplitl [Hsl]
    · rw [show (fun p : GD => slotRes I c p (rel (startT q t) p)) = fun p => slotRes I c p (rel q p) from
        funext fun p => by rw [rel_start h0]]
      iexact Hsl
    rw [show owed (startT q t) c = owed q c from Finset.sum_congr rfl fun p _ => by rw [rel_start h0]]
    iexact HO
  · iexact HF

end Cert.KernelIdeal.Hand

end
-- ==== Proof.Args.lean ====
/-
  The buffers and semaphores the kernel is called with.
-/
module

public import proofs.«01_k».proof.Proof.Ops

@[expose] public section

noncomputable section

namespace Cert.KernelIdeal.Hand

open Idealize.ShloMosaic Idealize.ShloMosaic.TcCoe
open Cert.KernelIdeal Cert.KernelIdeal.Gen

variable {F : FTy → Type} [FloatOps F] [Named F]

/-- A program of the kernel at the buffers and semaphores it is called with. -/
abbrev withArgs {β : Type 1} (k : (arg0 : Memref sig .tc .vmem S2048x1024 .bf16) → arg0.IsWhole → (arg1 : Memref sig
    .tc .vmem S1024x1024 .bf16) → arg1.IsWhole → (arg2 : Memref sig .tc .vmem S8x2048x128 .bf16) → arg2.IsWhole →
    (arg3 : Memref sig .tc .vmem S8x2048x128 .bf16) → arg3.IsWhole → (arg4 : Memref sig .tc .vmem S1024x1024 .bf16) →
    arg4.IsWhole → (arg5 : Memref sig .tc .vmem S2048x1024 .f32) → arg5.IsWhole → (arg6 : Memref sig .tc .vmem
    S256x1024 .bf16) → arg6.IsWhole → (arg7 : Memref sig .tc .vmem S256x1024 .bf16) → arg7.IsWhole → (arg8 : Memref
    sig .tc .vmem S128x1024 .bf16) → arg8.IsWhole → (arg9 : Memref sig .tc .vmem S64x1024 .bf16) → arg9.IsWhole →
    (arg10 : Memref sig .tc .vmem S64x1024 .bf16) → arg10.IsWhole → (arg11 : Memref sig .tc .vmem S128x1024 .bf16) →
    arg11.IsWhole → (arg12 : Memref sig .tc .vmem S256x1024 .bf16) → arg12.IsWhole → (arg13 : Memref sig .tc .vmem
    S256x1024 .bf16) → arg13.IsWhole → (arg14 : Memref sig .tc .vmem S256x1024 .bf16) → arg14.IsWhole → (arg15 :
    Memref sig .tc .vmem S128x1024 .bf16) → arg15.IsWhole → (arg16 : Memref sig .tc .vmem S64x1024 .bf16) →
    arg16.IsWhole → (arg17 : Memref sig .tc .vmem S64x1024 .bf16) → arg17.IsWhole → (arg18 : Memref sig .tc .vmem
    S128x1024 .bf16) → arg18.IsWhole → (arg19 : Memref sig .tc .vmem S256x1024 .bf16) → arg19.IsWhole → (arg20 :
    Memref sig .tc .vmem S256x1024 .bf16) → arg20.IsWhole → (arg21 : Memref sig .tc .vmem S256x1024 .bf16) →
    arg21.IsWhole → (arg22 : Memref sig .tc .vmem S128x1024 .bf16) → arg22.IsWhole → (arg23 : Memref sig .tc .vmem
    S64x1024 .bf16) → arg23.IsWhole → (arg24 : Memref sig .tc .vmem S64x1024 .bf16) → arg24.IsWhole → (arg25 : Memref
    sig .tc .vmem S128x1024 .bf16) → arg25.IsWhole → (arg26 : Memref sig .tc .vmem S256x1024 .bf16) → arg26.IsWhole →
    (arg27 : Memref sig .tc .vmem S128x1024 .bf16) → arg27.IsWhole → (arg28 : Memref sig .tc .vmem S128x1024 .bf16) →
    arg28.IsWhole → (arg29 : Memref sig .tc .vmem S64x1024 .bf16) → arg29.IsWhole → (arg30 : Memref sig .tc .vmem
    S32x1024 .bf16) → arg30.IsWhole → (arg31 : Memref sig .tc .vmem S32x1024 .bf16) → arg31.IsWhole → (arg32 : Memref
    sig .tc .vmem S64x1024 .bf16) → arg32.IsWhole → (arg33 : Memref sig .tc .vmem S128x1024 .bf16) → arg33.IsWhole →
    (arg34 : Memref sig .tc .vmem S128x1024 .bf16) → arg34.IsWhole → (arg35 : Memref sig .tc .vmem S128x1024 .bf16) →
    arg35.IsWhole → (arg36 : Memref sig .tc .vmem S64x1024 .bf16) → arg36.IsWhole → (arg37 : Memref sig .tc .vmem
    S32x1024 .bf16) → arg37.IsWhole → (arg38 : Memref sig .tc .vmem S32x1024 .bf16) → arg38.IsWhole → (arg39 : Memref
    sig .tc .vmem S64x1024 .bf16) → arg39.IsWhole → (arg40 : Memref sig .tc .vmem S128x1024 .bf16) → arg40.IsWhole →
    DmaSems sig S5x3 → DmaSems sig S5x3 → DmaSems sig S5x3 → DmaSems sig S5x3 → β) : β :=
k (Memref.whole cc0_stg0_0) (Memref.isWhole_whole _) (Memref.whole cc0_stg1_0) (Memref.isWhole_whole _) (Memref.whole
    cc0_stg2_0) (Memref.isWhole_whole _) (Memref.whole cc0_stg3_0) (Memref.isWhole_whole _) (Memref.whole cc0_stg4_0)
    (Memref.isWhole_whole _) (Memref.whole cc0_stg5_0) (Memref.isWhole_whole _) (Memref.whole cc0_scratch0)
    (Memref.isWhole_whole _) (Memref.whole cc0_scratch1) (Memref.isWhole_whole _) (Memref.whole cc0_scratch2)
    (Memref.isWhole_whole _) (Memref.whole cc0_scratch3) (Memref.isWhole_whole _) (Memref.whole cc0_scratch4)
    (Memref.isWhole_whole _) (Memref.whole cc0_scratch5) (Memref.isWhole_whole _) (Memref.whole cc0_scratch6)
    (Memref.isWhole_whole _) (Memref.whole cc0_scratch7) (Memref.isWhole_whole _) (Memref.whole cc0_scratch8)
    (Memref.isWhole_whole _) (Memref.whole cc0_scratch9) (Memref.isWhole_whole _) (Memref.whole cc0_scratch10)
    (Memref.isWhole_whole _) (Memref.whole cc0_scratch11) (Memref.isWhole_whole _) (Memref.whole cc0_scratch12)
    (Memref.isWhole_whole _) (Memref.whole cc0_scratch13) (Memref.isWhole_whole _) (Memref.whole cc0_scratch14)
    (Memref.isWhole_whole _) (Memref.whole cc0_scratch15) (Memref.isWhole_whole _) (Memref.whole cc0_scratch16)
    (Memref.isWhole_whole _) (Memref.whole cc0_scratch17) (Memref.isWhole_whole _) (Memref.whole cc0_scratch18)
    (Memref.isWhole_whole _) (Memref.whole cc0_scratch19) (Memref.isWhole_whole _) (Memref.whole cc0_scratch20)
    (Memref.isWhole_whole _) (Memref.whole cc0_scratch21) (Memref.isWhole_whole _) (Memref.whole cc0_scratch22)
    (Memref.isWhole_whole _) (Memref.whole cc0_scratch23) (Memref.isWhole_whole _) (Memref.whole cc0_scratch24)
    (Memref.isWhole_whole _) (Memref.whole cc0_scratch25) (Memref.isWhole_whole _) (Memref.whole cc0_scratch26)
    (Memref.isWhole_whole _) (Memref.whole cc0_scratch27) (Memref.isWhole_whole _) (Memref.whole cc0_scratch28)
    (Memref.isWhole_whole _) (Memref.whole cc0_scratch29) (Memref.isWhole_whole _) (Memref.whole cc0_scratch30)
    (Memref.isWhole_whole _) (Memref.whole cc0_scratch31) (Memref.isWhole_whole _) (Memref.whole cc0_scratch32)
    (Memref.isWhole_whole _) (Memref.whole cc0_scratch33) (Memref.isWhole_whole _) (Memref.whole cc0_scratch34)
    (Memref.isWhole_whole _) cc0_scratch35 cc0_scratch36 cc0_scratch37 cc0_scratch38

end Cert.KernelIdeal.Hand

end
-- ==== Proof.Walk1.lean ====
/-
  The kernel, in its order: parts 2 to 16. Each part reads and computes what the named values say, and moves the
  groups it works on to the counters stated.
-/
module

public import proofs.«01_k».proof.Proof.Args

@[expose] public section

noncomputable section

namespace Cert.KernelIdeal.Hand

open Idealize.ShloMosaic Idealize.ShloMosaic.TcCoe
open Cert.KernelIdeal Cert.KernelIdeal.Gen

variable {F : FTy → Type} [FloatOps F] [Named F]

attribute [local irreducible] Run

variable {I : Dev nD → Ins F} {K : GSem nD τ sig → ℕ} {c : Dev nD}

theorem part2 {v2 : BitVec 32} : Run I K c ![0, 0, 0, 0, 0] (withArgs (k0_part2 (F := F)) v2) (fun r q' => (∃ v28 v30,
    r = ⟨v28, v30, T.v32 (I c), T.v34 (I c), T.v36 (I c), T.v41 (I c), T.v46 (I c), T.v65 (I c), T.v66 (I c)⟩) ∧ q' =
    ![0, 0, 0, 0, 0]) := by
  rw [k0_part2_eq_skeleton]
  refine ld_x ?_; refine ld_wq ?_; refine ld_wo ?_
  exact Run.pure ⟨⟨_, _, rfl⟩, by decide⟩

theorem part3 : Run I K c ![0, 0, 0, 0, 0] (withArgs (k0_part3 (F := F)) (T.v41 (I c)) (T.v46 (I c)) (T.v65 (I c))
    (T.v66 (I c))) (fun r q' => (r = ⟨T.v75 (I c), T.v93 (I c), T.v98 (I c), T.v102 (I c), T.v104 (I c)⟩) ∧ q' = ![0,
    0, 0, 0, 0]) := by
  rw [k0_part3_eq_skeleton]
  refine ld_k ?_; refine ld_v ?_; refine ld_k ?_; refine ld_v ?_
  exact Run.pure ⟨rfl, by decide⟩

theorem part4 : Run I K c ![0, 0, 0, 0, 0] (withArgs (k0_part4 (F := F)) (T.v41 (I c)) (T.v75 (I c)) (T.v98 (I c))
    (T.v102 (I c)) (T.v104 (I c))) (fun r q' => (r = ⟨T.v111 (I c), T.v129 (I c), T.v134 (I c), T.v140 (I c), T.v141
    (I c), T.cst_75 (I c)⟩) ∧ q' = ![0, 0, 0, 0, 0]) := by
  rw [k0_part4_eq_skeleton]
  refine ld_k ?_; refine ld_v ?_; refine ld_k ?_; refine ld_v ?_
  exact Run.pure ⟨rfl, by decide⟩

theorem part5 : Run I K c ![0, 0, 0, 0, 0] (withArgs (k0_part5 (F := F)) (T.v41 (I c)) (T.v75 (I c)) (T.v134 (I c))
    (T.v140 (I c)) (T.v141 (I c)) (T.cst_75 (I c))) (fun r q' => (r = ⟨T.v147 (I c), T.v165 (I c), T.v176 (I c),
    T.v178 (I c), T.cst_96 (I c)⟩) ∧ q' = ![0, 0, 0, 0, 0]) := by
  rw [k0_part5_eq_skeleton]
  refine ld_k ?_; refine ld_v ?_; refine ld_k ?_; refine ld_v ?_
  exact Run.pure ⟨rfl, by decide⟩

theorem part6 : Run I K c ![0, 0, 0, 0, 0] (withArgs (k0_part6 (F := F)) (T.v41 (I c)) (T.v75 (I c)) (T.v176 (I c))
    (T.v178 (I c)) (T.cst_96 (I c))) (fun r q' => (r = ⟨T.v183 (I c), T.v201 (I c), T.v214 (I c), T.v216 (I c)⟩) ∧ q'
    = ![0, 0, 0, 0, 0]) := by
  rw [k0_part6_eq_skeleton]
  refine ld_k ?_; refine ld_v ?_; refine ld_k ?_; refine ld_v ?_
  exact Run.pure ⟨rfl, by decide⟩

theorem part7 {v8 v13 v22 : BitVec 32} : Run I K c ![0, 0, 0, 0, 0] (withArgs (k0_part7 (F := F)) c v8 v13 v22 (T.v32
    (I c)) (T.v34 (I c)) (T.v36 (I c)) (T.v93 (I c)) (T.v111 (I c)) (T.v129 (I c)) (T.v147 (I c)) (T.v165 (I c))
    (T.v183 (I c)) (T.v201 (I c)) (T.v214 (I c)) (T.v216 (I c))) (fun r q' => (r = ⟨T.v244 (I c), T.v247 (I c),
    T.c64_i32_135 (I c), T.v249 (I c), T.v252 (I c)⟩) ∧ q' = ![3, 0, 0, 0, 0]) := by
  rw [k0_part7_eq_skeleton]
  refine ld_out (fun _ _ => ?_); refine st_tile 0 (by decide) rfl rfl ?_
  refine ld_a 0 0 (by decide) (by decide) ?_; refine ld_send 0 0 (by decide) (fun _ => ?_)
  refine st_send 0 0 (by decide) rfl ?_; apply st_enq 0 0 (by decide) (by decide) (by rfl) (by rfl)
  exact Run.pure ⟨rfl, by decide⟩

theorem part8 : Run I K c ![3, 0, 0, 0, 0] (withArgs (k0_part8 (F := F)) (T.v244 (I c)) (T.v247 (I c)) (T.c64_i32_135
    (I c)) (T.v249 (I c)) (T.v252 (I c))) (fun r q' => (r = ⟨T.v278 (I c), T.v291 (I c), T.v294 (I c)⟩) ∧ q' = ![3, 0,
    0, 0, 0]) := by
  rw [k0_part8_eq_skeleton]
  refine ld_k ?_; refine ld_v ?_
  exact Run.pure ⟨rfl, by decide⟩

theorem part9 {v8 v13 v22 : BitVec 32} : Run I K c ![3, 0, 0, 0, 0] (withArgs (k0_part9 (F := F)) v8 v13 v22 (T.v244
    (I c)) (T.v278 (I c)) (T.v291 (I c)) (T.v294 (I c))) (fun r q' => (∃ v324, r = ⟨T.v296 (I c), T.v314 (I c), v324⟩)
    ∧ q' = ![5, 0, 0, 0, 0]) := by
  rw [k0_part9_eq_skeleton]
  refine ld_k ?_; refine ld_v ?_; refine st_ws 0 0 (by decide) rfl ?_
  refine st_wr 0 0 (by decide) rfl (by decide) ?_
  exact Run.pure ⟨⟨_, rfl⟩, by decide⟩

theorem part10 {v7 v12 v324 : BitVec 32} : Run I K c ![5, 0, 0, 0, 0] (withArgs (k0_part10 (F := F)) c v7 v12 (T.v244
    (I c)) (T.v278 (I c)) v324) (fun r q' => (r = ⟨T.v354 (I c), T.v357 (I c)⟩) ∧ q' = ![8, 0, 0, 0, 0]) := by
  rw [k0_part10_eq_skeleton]
  refine ld_b 0 0 (by decide) (by decide) ?_; refine ld_land 0 0 (by decide) ?_
  refine ld_out (fun _ _ => ?_); refine st_out 0 0 (by decide) (by decide) rfl ?_
  refine ld_a 0 1 (by decide) (by decide) ?_; refine ld_send 0 1 (by decide) (fun _ => ?_)
  refine st_send 0 1 (by decide) rfl ?_; apply st_enq 0 1 (by decide) (by decide) (by rfl) (by rfl)
  refine ld_k ?_; refine ld_v ?_
  exact Run.pure ⟨rfl, by decide⟩

theorem part11 {v12 : BitVec 32} : Run I K c ![8, 0, 0, 0, 0] (withArgs (k0_part11 (F := F)) v12 (T.v244 (I c))
    (T.v278 (I c)) (T.v354 (I c)) (T.v357 (I c))) (fun r q' => (∃ v389, r = ⟨T.v367 (I c), T.v385 (I c), v389,
    T.c0_i32_232 (I c)⟩) ∧ q' = ![9, 0, 0, 0, 0]) := by
  rw [k0_part11_eq_skeleton]
  refine ld_k ?_; refine ld_v ?_; refine st_ws 0 1 (by decide) rfl ?_
  exact Run.pure ⟨⟨_, rfl⟩, by decide⟩

theorem part12 {v6 v7 v9 v324 v389 : BitVec 32} : Run I K c ![9, 0, 0, 0, 0] (withArgs (k0_part12 (F := F)) c v6 v7 v9
    (T.v244 (I c)) v324 v389 (T.c0_i32_232 (I c))) (fun r q' => (∃ v395, r = ⟨v395, T.v421 (I c), T.v422 (I c)⟩) ∧ q'
    = ![13, 0, 0, 0, 0]) := by
  rw [k0_part12_eq_skeleton]
  refine st_wr 0 1 (by decide) rfl (by decide) ?_; refine ld_b 0 1 (by decide) (by decide) ?_
  refine ld_land 0 1 (by decide) ?_; refine ld_out (fun _ _ => ?_)
  refine st_out 0 1 (by decide) (by decide) rfl ?_; refine ld_a 0 2 (by decide) (by decide) ?_
  refine ld_send 0 2 (by decide) (fun _ => ?_); refine st_send 0 2 (by decide) rfl ?_
  apply st_enq 0 2 (by decide) (by decide) (by rfl) (by rfl); refine ld_k ?_
  exact Run.pure ⟨⟨_, rfl⟩, by decide⟩

theorem part13 : Run I K c ![13, 0, 0, 0, 0] (withArgs (k0_part13 (F := F)) (T.v244 (I c)) (T.v278 (I c)) (T.v421 (I
    c)) (T.v422 (I c))) (fun r q' => (r = ⟨T.v438 (I c), T.v456 (I c)⟩) ∧ q' = ![13, 0, 0, 0, 0]) := by
  rw [k0_part13_eq_skeleton]
  refine ld_v ?_; refine ld_k ?_; refine ld_v ?_
  exact Run.pure ⟨rfl, by decide⟩

theorem part14 {v6 v9 v395 : BitVec 32} : Run I K c ![13, 0, 0, 0, 0] (withArgs (k0_part14 (F := F)) c v6 v9 v395)
    (fun r q' => (∃ v466, r = v466) ∧ q' = ![17, 0, 0, 0, 0]) := by
  rw [k0_part14_eq_skeleton]
  refine st_ws 0 2 (by decide) rfl ?_; refine st_wr 0 2 (by decide) rfl (by decide) ?_
  refine ld_b 0 2 (by decide) (by decide) ?_; refine ld_land 0 2 (by decide) ?_
  refine ld_out (fun _ _ => ?_); refine st_out 0 2 (by decide) (by decide) rfl ?_
  refine ld_a 0 3 (by decide) (by decide) ?_; refine ld_send 0 3 (by decide) (fun _ => ?_)
  refine st_send 0 3 (by decide) rfl ?_
  exact Run.pure ⟨⟨_, rfl⟩, by decide⟩

theorem part15 : Run I K c ![17, 0, 0, 0, 0] (withArgs (k0_part15 (F := F)) c (T.v244 (I c)) (T.v278 (I c))) (fun r q'
    => (r = ⟨T.v506 (I c), T.v524 (I c)⟩) ∧ q' = ![18, 0, 0, 0, 0]) := by
  rw [k0_part15_eq_skeleton]
  apply st_enq 0 3 (by decide) (by decide) (by rfl) (by rfl); refine ld_k ?_; refine ld_v ?_; refine ld_k ?_
  refine ld_v ?_
  exact Run.pure ⟨rfl, by decide⟩

theorem part16 {v6 v9 v12 v466 : BitVec 32} : Run I K c ![18, 0, 0, 0, 0] (withArgs (k0_part16 (F := F)) c v6 v9 v12
    v466) (fun r q' => (∃ v542 v550, r = ⟨v542, v550, T.c0_i32_358 (I c)⟩) ∧ q' = ![22, 0, 0, 0, 0]) := by
  rw [k0_part16_eq_skeleton]
  refine st_ws 0 3 (by decide) rfl ?_; refine st_wr 0 3 (by decide) rfl (by decide) ?_
  refine ld_land 0 3 (by decide) ?_; refine ld_out (fun _ _ => ?_)
  refine st_out 0 3 (by decide) (by decide) rfl ?_; refine ld_a 0 4 (by decide) (by decide) ?_
  refine ld_send 0 4 (by decide) (fun _ => ?_); refine st_send 0 4 (by decide) rfl ?_
  exact Run.pure ⟨⟨_, _, rfl⟩, by decide⟩

end Cert.KernelIdeal.Hand

end
-- ==== Proof.Walk2.lean ====
/-
  The kernel, in its order: parts 17 to 28. Each part reads and computes what the named values say, and moves the
  groups it works on to the counters stated.
-/
module

public import proofs.«01_k».proof.Proof.Args

@[expose] public section

noncomputable section

namespace Cert.KernelIdeal.Hand

open Idealize.ShloMosaic Idealize.ShloMosaic.TcCoe
open Cert.KernelIdeal Cert.KernelIdeal.Gen

variable {F : FTy → Type} [FloatOps F] [Named F]

attribute [local irreducible] Run

variable {I : Dev nD → Ins F} {K : GSem nD τ sig → ℕ} {c : Dev nD}

theorem part17 {v6 v9 v24 v550 : BitVec 32} : Run I K c ![22, 0, 0, 0, 0] (withArgs (k0_part17 (F := F)) c v6 v9 v24
    (T.v32 (I c)) (T.v34 (I c)) (T.v36 (I c)) (T.v296 (I c)) (T.v314 (I c)) (T.v367 (I c)) (T.v385 (I c)) (T.v438 (I
    c)) (T.v456 (I c)) (T.v506 (I c)) (T.v524 (I c)) v550 (T.c0_i32_358 (I c))) (fun r q' => (r = ⟨T.v581 (I c),
    T.v584 (I c), T.c64_i32_379 (I c)⟩) ∧ q' = ![23, 3, 0, 0, 0]) := by
  rw [k0_part17_eq_skeleton]
  apply st_enq 0 4 (by decide) (by decide) (by rfl) (by rfl); refine ld_out (fun _ _ => ?_)
  refine st_tile 1 (by decide) rfl rfl ?_; refine ld_a 1 0 (by decide) (by decide) ?_
  refine ld_send 1 0 (by decide) (fun _ => ?_); refine st_send 1 0 (by decide) rfl ?_
  apply st_enq 1 0 (by decide) (by decide) (by rfl) (by rfl)
  exact Run.pure ⟨rfl, by decide⟩

theorem part18 : Run I K c ![23, 3, 0, 0, 0] (withArgs (k0_part18 (F := F)) (T.v581 (I c)) (T.v584 (I c))
    (T.c64_i32_379 (I c))) (fun r q' => (r = ⟨T.v615 (I c), T.v620 (I c), T.v626 (I c), T.v627 (I c)⟩) ∧ q' = ![23, 3,
    0, 0, 0]) := by
  rw [k0_part18_eq_skeleton]
  refine ld_k ?_; refine ld_v ?_
  exact Run.pure ⟨rfl, by decide⟩

theorem part19 {v12 : BitVec 32} : Run I K c ![23, 3, 0, 0, 0] (withArgs (k0_part19 (F := F)) v12 (T.v581 (I c))
    (T.v615 (I c)) (T.v620 (I c)) (T.v626 (I c)) (T.v627 (I c))) (fun r q' => (r = ⟨T.v633 (I c), T.v651 (I c)⟩) ∧ q'
    = ![24, 3, 0, 0, 0]) := by
  rw [k0_part19_eq_skeleton]
  refine ld_k ?_; refine ld_v ?_; refine st_ws 0 4 (by decide) rfl ?_
  exact Run.pure ⟨rfl, by decide⟩

theorem part20 {v7 v13 v542 : BitVec 32} : Run I K c ![24, 3, 0, 0, 0] (withArgs (k0_part20 (F := F)) c v7 v13 v542)
    (fun r q' => (∃ v669, r = v669) ∧ q' = ![28, 4, 0, 0, 0]) := by
  rw [k0_part20_eq_skeleton]
  refine st_wr 0 4 (by decide) rfl (by decide) ?_; refine ld_land 0 4 (by decide) ?_
  refine ld_out (fun _ _ => ?_); refine st_out 0 4 (by decide) (by decide) rfl ?_
  refine ld_a 0 5 (by decide) (by decide) ?_; refine ld_send 0 5 (by decide) (fun _ => ?_)
  refine st_send 0 5 (by decide) rfl ?_; apply st_enq 0 5 (by decide) (by decide) (by rfl) (by rfl)
  refine st_ws 1 0 (by decide) rfl ?_
  exact Run.pure ⟨⟨_, rfl⟩, by decide⟩

theorem part21 {v6 v8 v9 v13 v24 : BitVec 32} : Run I K c ![28, 4, 0, 0, 0] (withArgs (k0_part21 (F := F)) c v6 v8 v9
    v13 v24) (fun r q' => (∃ v693, r = v693) ∧ q' = ![28, 8, 0, 0, 0]) := by
  rw [k0_part21_eq_skeleton]
  refine st_wr 1 0 (by decide) rfl (by decide) ?_; refine ld_b 1 0 (by decide) (by decide) ?_
  refine ld_land 1 0 (by decide) ?_; refine ld_out (fun _ _ => ?_)
  refine st_out 1 0 (by decide) (by decide) rfl ?_; refine ld_a 1 1 (by decide) (by decide) ?_
  refine ld_send 1 1 (by decide) (fun _ => ?_); refine st_send 1 1 (by decide) rfl ?_
  apply st_enq 1 1 (by decide) (by decide) (by rfl) (by rfl)
  exact Run.pure ⟨⟨_, rfl⟩, by decide⟩

theorem part22 : Run I K c ![28, 8, 0, 0, 0] (withArgs (k0_part22 (F := F)) (T.v581 (I c)) (T.v615 (I c))) (fun r q'
    => (r = ⟨T.v736 (I c), T.v754 (I c)⟩) ∧ q' = ![28, 8, 0, 0, 0]) := by
  rw [k0_part22_eq_skeleton]
  refine ld_k ?_; refine ld_v ?_; refine ld_k ?_; refine ld_v ?_
  exact Run.pure ⟨rfl, by decide⟩

theorem part23 {v8 v13 v669 : BitVec 32} : Run I K c ![28, 8, 0, 0, 0] (withArgs (k0_part23 (F := F)) c v8 v13 v669)
    (fun _ q' => True ∧ q' = ![31, 9, 0, 0, 0]) := by
  rw [k0_part23_eq_skeleton]
  refine st_ws 0 5 (by decide) rfl ?_; refine st_wr 0 5 (by decide) rfl (by decide) ?_
  refine ld_land 0 5 (by decide) ?_; refine ld_out (fun _ _ => ?_)
  refine st_out 0 5 (by decide) (by decide) rfl ?_; refine st_ws 1 1 (by decide) rfl ?_
  exact Run.pure ⟨trivial, by decide⟩

theorem part24 {v7 v8 v12 v693 : BitVec 32} : Run I K c ![31, 9, 0, 0, 0] (withArgs (k0_part24 (F := F)) c v7 v8 v12
    (T.v581 (I c)) v693) (fun r q' => (∃ v780, r = ⟨v780, T.v806 (I c), T.v808 (I c)⟩) ∧ q' = ![31, 13, 0, 0, 0]) :=
    by
  rw [k0_part24_eq_skeleton]
  refine st_wr 1 1 (by decide) rfl (by decide) ?_; refine ld_b 1 1 (by decide) (by decide) ?_
  refine ld_land 1 1 (by decide) ?_; refine ld_out (fun _ _ => ?_)
  refine st_out 1 1 (by decide) (by decide) rfl ?_; refine ld_a 1 2 (by decide) (by decide) ?_
  refine ld_send 1 2 (by decide) (fun _ => ?_); refine st_send 1 2 (by decide) rfl ?_
  apply st_enq 1 2 (by decide) (by decide) (by rfl) (by rfl); refine ld_k ?_
  exact Run.pure ⟨⟨_, rfl⟩, by decide⟩

theorem part25 : Run I K c ![31, 13, 0, 0, 0] (withArgs (k0_part25 (F := F)) (T.v581 (I c)) (T.v615 (I c)) (T.v806 (I
    c)) (T.v808 (I c))) (fun r q' => (r = ⟨T.v823 (I c), T.v841 (I c)⟩) ∧ q' = ![31, 14, 0, 0, 0]) := by
  rw [k0_part25_eq_skeleton]
  refine ld_v ?_; refine ld_k ?_; refine ld_v ?_; refine st_ws 1 2 (by decide) rfl ?_
  exact Run.pure ⟨rfl, by decide⟩

theorem part26 {v7 v12 v780 : BitVec 32} : Run I K c ![31, 14, 0, 0, 0] (withArgs (k0_part26 (F := F)) c v7 v12
    (T.v581 (I c)) v780) (fun r q' => (∃ v851, r = ⟨v851, T.v874 (I c)⟩) ∧ q' = ![31, 18, 0, 0, 0]) := by
  rw [k0_part26_eq_skeleton]
  refine st_wr 1 2 (by decide) rfl (by decide) ?_; refine ld_b 1 2 (by decide) (by decide) ?_
  refine ld_land 1 2 (by decide) ?_; refine ld_out (fun _ _ => ?_)
  refine st_out 1 2 (by decide) (by decide) rfl ?_; refine ld_a 1 3 (by decide) (by decide) ?_
  refine ld_send 1 3 (by decide) (fun _ => ?_); refine st_send 1 3 (by decide) rfl ?_
  apply st_enq 1 3 (by decide) (by decide) (by rfl) (by rfl)
  exact Run.pure ⟨⟨_, rfl⟩, by decide⟩

theorem part27 : Run I K c ![31, 18, 0, 0, 0] (withArgs (k0_part27 (F := F)) (T.v581 (I c)) (T.v615 (I c)) (T.v874 (I
    c))) (fun r q' => (r = ⟨T.v891 (I c), T.v909 (I c)⟩) ∧ q' = ![31, 18, 0, 0, 0]) := by
  rw [k0_part27_eq_skeleton]
  refine ld_k ?_; refine ld_v ?_; refine ld_k ?_; refine ld_v ?_
  exact Run.pure ⟨rfl, by decide⟩

theorem part28 {v7 v12 v13 v851 : BitVec 32} : Run I K c ![31, 18, 0, 0, 0] (withArgs (k0_part28 (F := F)) c v7 v12
    v13 v851) (fun r q' => (∃ v927, r = v927) ∧ q' = ![31, 22, 0, 0, 0]) := by
  rw [k0_part28_eq_skeleton]
  refine st_ws 1 3 (by decide) rfl ?_; refine st_wr 1 3 (by decide) rfl (by decide) ?_
  refine ld_land 1 3 (by decide) ?_; refine ld_out (fun _ _ => ?_)
  refine st_out 1 3 (by decide) (by decide) rfl ?_; refine ld_a 1 4 (by decide) (by decide) ?_
  refine ld_send 1 4 (by decide) (fun _ => ?_); refine st_send 1 4 (by decide) rfl ?_
  exact Run.pure ⟨⟨_, rfl⟩, by decide⟩

end Cert.KernelIdeal.Hand

end
-- ==== Proof.Walk3.lean ====
/-
  The kernel, in its order: parts 29 to 40. Each part reads and computes what the named values say, and moves the
  groups it works on to the counters stated.
-/
module

public import proofs.«01_k».proof.Proof.Args

@[expose] public section

noncomputable section

namespace Cert.KernelIdeal.Hand

open Idealize.ShloMosaic Idealize.ShloMosaic.TcCoe
open Cert.KernelIdeal Cert.KernelIdeal.Gen

variable {F : FTy → Type} [FloatOps F] [Named F]

attribute [local irreducible] Run

variable {I : Dev nD → Ins F} {K : GSem nD τ sig → ℕ} {c : Dev nD}

theorem part29 {v7 v12 v26 : BitVec 32} : Run I K c ![31, 22, 0, 0, 0] (withArgs (k0_part29 (F := F)) c v7 v12 v26
    (T.v32 (I c)) (T.v34 (I c)) (T.v36 (I c)) (T.v633 (I c)) (T.v651 (I c)) (T.v736 (I c)) (T.v754 (I c)) (T.v823 (I
    c)) (T.v841 (I c)) (T.v891 (I c)) (T.v909 (I c))) (fun r q' => (r = ⟨T.v966 (I c), T.v969 (I c), T.c64_i32_678 (I
    c), T.v971 (I c), T.v972 (I c)⟩) ∧ q' = ![31, 23, 3, 0, 0]) := by
  rw [k0_part29_eq_skeleton]
  apply st_enq 1 4 (by decide) (by decide) (by rfl) (by rfl); refine ld_out (fun _ _ => ?_)
  refine st_tile 2 (by decide) rfl rfl ?_; refine ld_a 2 0 (by decide) (by decide) ?_
  refine ld_send 2 0 (by decide) (fun _ => ?_); refine st_send 2 0 (by decide) rfl ?_
  apply st_enq 2 0 (by decide) (by decide) (by rfl) (by rfl)
  exact Run.pure ⟨rfl, by decide⟩

theorem part30 : Run I K c ![31, 23, 3, 0, 0] (withArgs (k0_part30 (F := F)) (T.v966 (I c)) (T.v969 (I c))
    (T.c64_i32_678 (I c)) (T.v971 (I c)) (T.v972 (I c))) (fun r q' => (r = ⟨T.v1000 (I c), T.v1011 (I c), T.v1013 (I
    c), T.v1014 (I c)⟩) ∧ q' = ![31, 23, 3, 0, 0]) := by
  rw [k0_part30_eq_skeleton]
  refine ld_k ?_; refine ld_v ?_
  exact Run.pure ⟨rfl, by decide⟩

theorem part31 {v8 v13 : BitVec 32} : Run I K c ![31, 23, 3, 0, 0] (withArgs (k0_part31 (F := F)) v8 v13 (T.v966 (I
    c)) (T.v1000 (I c)) (T.v1011 (I c)) (T.v1013 (I c)) (T.v1014 (I c))) (fun r q' => (∃ v1045, r = ⟨T.v1018 (I c),
    T.v1036 (I c), v1045⟩) ∧ q' = ![31, 25, 3, 0, 0]) := by
  rw [k0_part31_eq_skeleton]
  refine ld_k ?_; refine ld_v ?_; refine st_ws 1 4 (by decide) rfl ?_
  refine st_wr 1 4 (by decide) rfl (by decide) ?_
  exact Run.pure ⟨⟨_, rfl⟩, by decide⟩

theorem part32 {v8 v9 v12 v927 v1045 : BitVec 32} : Run I K c ![31, 25, 3, 0, 0] (withArgs (k0_part32 (F := F)) c v8
    v9 v12 v927 v1045) (fun r q' => (∃ v1054 v1072, r = ⟨v1054, v1072⟩) ∧ q' = ![31, 28, 4, 0, 0]) := by
  rw [k0_part32_eq_skeleton]
  refine ld_land 1 4 (by decide) ?_; refine ld_out (fun _ _ => ?_)
  refine st_out 1 4 (by decide) (by decide) rfl ?_; refine ld_a 1 5 (by decide) (by decide) ?_
  refine ld_send 1 5 (by decide) (fun _ => ?_); refine st_send 1 5 (by decide) rfl ?_
  apply st_enq 1 5 (by decide) (by decide) (by rfl) (by rfl); refine st_ws 2 0 (by decide) rfl ?_
  exact Run.pure ⟨⟨_, _, rfl⟩, by decide⟩

theorem part33 {v6 v7 v9 v26 v1072 : BitVec 32} : Run I K c ![31, 28, 4, 0, 0] (withArgs (k0_part33 (F := F)) c v6 v7
    v9 v26 (T.v966 (I c)) v1072) (fun r q' => (∃ v1078, r = ⟨v1078, T.v1104 (I c)⟩) ∧ q' = ![31, 28, 8, 0, 0]) := by
  rw [k0_part33_eq_skeleton]
  refine st_wr 2 0 (by decide) rfl (by decide) ?_; refine ld_b 2 0 (by decide) (by decide) ?_
  refine ld_land 2 0 (by decide) ?_; refine ld_out (fun _ _ => ?_)
  refine st_out 2 0 (by decide) (by decide) rfl ?_; refine ld_a 2 1 (by decide) (by decide) ?_
  refine ld_send 2 1 (by decide) (fun _ => ?_); refine st_send 2 1 (by decide) rfl ?_
  apply st_enq 2 1 (by decide) (by decide) (by rfl) (by rfl)
  exact Run.pure ⟨⟨_, rfl⟩, by decide⟩

theorem part34 : Run I K c ![31, 28, 8, 0, 0] (withArgs (k0_part34 (F := F)) (T.v966 (I c)) (T.v1000 (I c)) (T.v1104
    (I c))) (fun r q' => (r = ⟨T.v1121 (I c), T.v1139 (I c)⟩) ∧ q' = ![31, 28, 8, 0, 0]) := by
  rw [k0_part34_eq_skeleton]
  refine ld_k ?_; refine ld_v ?_; refine ld_k ?_; refine ld_v ?_
  exact Run.pure ⟨rfl, by decide⟩

theorem part35 {v6 v9 v1054 : BitVec 32} : Run I K c ![31, 28, 8, 0, 0] (withArgs (k0_part35 (F := F)) c v6 v9 v1054)
    (fun r q' => (r = T.c128_i32_833 (I c)) ∧ q' = ![31, 31, 10, 0, 0]) := by
  rw [k0_part35_eq_skeleton]
  refine st_ws 1 5 (by decide) rfl ?_; refine st_wr 1 5 (by decide) rfl (by decide) ?_
  refine ld_land 1 5 (by decide) ?_; refine ld_out (fun _ _ => ?_)
  refine st_out 1 5 (by decide) (by decide) rfl ?_; refine st_ws 2 1 (by decide) rfl ?_
  refine st_wr 2 1 (by decide) rfl (by decide) ?_
  exact Run.pure ⟨rfl, by decide⟩

theorem part36 {v6 v8 v13 v1078 : BitVec 32} : Run I K c ![31, 31, 10, 0, 0] (withArgs (k0_part36 (F := F)) c v6 v8
    v13 (T.v966 (I c)) v1078 (T.c128_i32_833 (I c))) (fun r q' => (∃ v1165, r = ⟨v1165, T.v1195 (I c), T.v1196 (I c)⟩)
    ∧ q' = ![31, 31, 13, 0, 0]) := by
  rw [k0_part36_eq_skeleton]
  refine ld_b 2 1 (by decide) (by decide) ?_; refine ld_land 2 1 (by decide) ?_
  refine ld_out (fun _ _ => ?_); refine st_out 2 1 (by decide) (by decide) rfl ?_
  refine ld_a 2 2 (by decide) (by decide) ?_; refine ld_send 2 2 (by decide) (fun _ => ?_)
  refine st_send 2 2 (by decide) rfl ?_; apply st_enq 2 2 (by decide) (by decide) (by rfl) (by rfl)
  refine ld_k ?_; refine ld_v ?_
  exact Run.pure ⟨⟨_, rfl⟩, by decide⟩

theorem part37 : Run I K c ![31, 31, 13, 0, 0] (withArgs (k0_part37 (F := F)) (T.v966 (I c)) (T.v1000 (I c)) (T.v1195
    (I c)) (T.v1196 (I c))) (fun r q' => (r = ⟨T.v1208 (I c), T.v1226 (I c)⟩) ∧ q' = ![31, 31, 14, 0, 0]) := by
  rw [k0_part37_eq_skeleton]
  refine ld_k ?_; refine ld_v ?_; refine st_ws 2 2 (by decide) rfl ?_
  exact Run.pure ⟨rfl, by decide⟩

theorem part38 {v8 v13 v1165 : BitVec 32} : Run I K c ![31, 31, 14, 0, 0] (withArgs (k0_part38 (F := F)) c v8 v13
    (T.v966 (I c)) v1165) (fun r q' => (∃ v1236, r = ⟨v1236, T.v1259 (I c), T.v1261 (I c)⟩) ∧ q' = ![31, 31, 18, 0,
    0]) := by
  rw [k0_part38_eq_skeleton]
  refine st_wr 2 2 (by decide) rfl (by decide) ?_; refine ld_b 2 2 (by decide) (by decide) ?_
  refine ld_land 2 2 (by decide) ?_; refine ld_out (fun _ _ => ?_)
  refine st_out 2 2 (by decide) (by decide) rfl ?_; refine ld_a 2 3 (by decide) (by decide) ?_
  refine ld_send 2 3 (by decide) (fun _ => ?_); refine st_send 2 3 (by decide) rfl ?_
  apply st_enq 2 3 (by decide) (by decide) (by rfl) (by rfl); refine ld_k ?_
  exact Run.pure ⟨⟨_, rfl⟩, by decide⟩

theorem part39 : Run I K c ![31, 31, 18, 0, 0] (withArgs (k0_part39 (F := F)) (T.v966 (I c)) (T.v1000 (I c)) (T.v1259
    (I c)) (T.v1261 (I c))) (fun r q' => (r = ⟨T.v1276 (I c), T.v1294 (I c)⟩) ∧ q' = ![31, 31, 18, 0, 0]) := by
  rw [k0_part39_eq_skeleton]
  refine ld_v ?_; refine ld_k ?_; refine ld_v ?_
  exact Run.pure ⟨rfl, by decide⟩

theorem part40 {v8 v9 v13 v1236 : BitVec 32} : Run I K c ![31, 31, 18, 0, 0] (withArgs (k0_part40 (F := F)) c v8 v9
    v13 v1236) (fun r q' => (∃ v1312, r = v1312) ∧ q' = ![31, 31, 22, 0, 0]) := by
  rw [k0_part40_eq_skeleton]
  refine st_ws 2 3 (by decide) rfl ?_; refine st_wr 2 3 (by decide) rfl (by decide) ?_
  refine ld_land 2 3 (by decide) ?_; refine ld_out (fun _ _ => ?_)
  refine st_out 2 3 (by decide) (by decide) rfl ?_; refine ld_a 2 4 (by decide) (by decide) ?_
  refine ld_send 2 4 (by decide) (fun _ => ?_); refine st_send 2 4 (by decide) rfl ?_
  exact Run.pure ⟨⟨_, rfl⟩, by decide⟩

end Cert.KernelIdeal.Hand

end
-- ==== Proof.Walk4.lean ====
/-
  The kernel, in its order: parts 41 to 56. Each part reads and computes what the named values say, and moves the
  groups it works on to the counters stated.
-/
module

public import proofs.«01_k».proof.Proof.Args

@[expose] public section

noncomputable section

namespace Cert.KernelIdeal.Hand

open Idealize.ShloMosaic Idealize.ShloMosaic.TcCoe
open Cert.KernelIdeal Cert.KernelIdeal.Gen

variable {F : FTy → Type} [FloatOps F] [Named F]

attribute [local irreducible] Run

variable {I : Dev nD → Ins F} {K : GSem nD τ sig → ℕ} {c : Dev nD}

theorem part41 {v6 v8 v13 v28 v30 : BitVec 32} : Run I K c ![31, 31, 22, 0, 0] (withArgs (k0_part41 (F := F)) c v6 v8
    v13 v28 v30 (T.v36 (I c)) (T.v1018 (I c)) (T.v1036 (I c)) (T.v1121 (I c)) (T.v1139 (I c)) (T.v1208 (I c)) (T.v1226
    (I c)) (T.v1276 (I c)) (T.v1294 (I c))) (fun _ q' => True ∧ q' = ![31, 31, 23, 3, 2]) := by
  rw [k0_part41_eq_skeleton]
  apply st_enq 2 4 (by decide) (by decide) (by rfl) (by rfl); refine ld_out (fun _ _ => ?_)
  refine st_tile 3 (by decide) rfl rfl ?_; refine ld_a 3 0 (by decide) (by decide) ?_
  refine ld_send 3 0 (by decide) (fun _ => ?_); refine st_send 3 0 (by decide) rfl ?_
  apply st_enq 3 0 (by decide) (by decide) (by rfl) (by rfl); refine ld_a 4 0 (by decide) (by decide) ?_
  refine ld_send 4 0 (by decide) (fun _ => ?_); refine st_send 4 0 (by decide) rfl ?_
  exact Run.pure ⟨trivial, by decide⟩

theorem part42 {v6 v9 v1312 : BitVec 32} : Run I K c ![31, 31, 23, 3, 2] (withArgs (k0_part42 (F := F)) c v6 v9 v1312)
    (fun r q' => (∃ v1381, r = ⟨v1381, k0_pay130 (aV I c 2 5)⟩) ∧ q' = ![31, 31, 26, 3, 3]) := by
  rw [k0_part42_eq_skeleton]
  apply st_enq 4 0 (by decide) (by decide) (by rfl) (by rfl); refine st_ws 2 4 (by decide) rfl ?_
  refine st_wr 2 4 (by decide) rfl (by decide) ?_; refine ld_land 2 4 (by decide) ?_
  refine ld_out (fun _ _ => ?_); refine st_out 2 4 (by decide) (by decide) rfl ?_
  refine ld_a 2 5 (by decide) (by decide) ?_
  exact Run.pure ⟨⟨_, rfl⟩, by decide⟩

theorem part43 {v8 v12 v13 v28 : BitVec 32} : Run I K c ![31, 31, 26, 3, 3] (withArgs (k0_part43 (F := F)) c v8 v12
    v13 v28 (k0_pay130 (aV I c 2 5))) (fun r q' => (∃ v1405, r = ⟨v1405, k0_pay132 (bV I c 3 0) (landV I c 3 0)⟩) ∧ q'
    = ![31, 31, 28, 5, 3]) := by
  rw [k0_part43_eq_skeleton]
  refine ld_send 2 5 (by decide) (fun _ => ?_); refine st_send 2 5 (by decide) rfl ?_
  apply st_enq 2 5 (by decide) (by decide) (by rfl) (by rfl); refine st_ws 3 0 (by decide) rfl ?_
  refine st_wr 3 0 (by decide) rfl (by decide) ?_; refine ld_b 3 0 (by decide) (by decide) ?_
  refine ld_land 3 0 (by decide) ?_
  exact Run.pure ⟨⟨_, rfl⟩, by decide⟩

theorem part44 {v7 v9 v12 v1405 : BitVec 32} : Run I K c ![31, 31, 28, 5, 3] (withArgs (k0_part44 (F := F)) c v7 v9
    v12 v1405 (k0_pay132 (bV I c 3 0) (landV I c 3 0))) (fun _ q' => True ∧ q' = ![31, 31, 28, 8, 5]) := by
  rw [k0_part44_eq_skeleton]
  refine ld_out (fun _ _ => ?_); refine st_out 3 0 (by decide) (by decide) rfl ?_
  refine ld_a 3 1 (by decide) (by decide) ?_; refine ld_send 3 1 (by decide) (fun _ => ?_)
  refine st_send 3 1 (by decide) rfl ?_; apply st_enq 3 1 (by decide) (by decide) (by rfl) (by rfl)
  refine st_ws 4 0 (by decide) rfl ?_; refine st_wr 4 0 (by decide) rfl (by decide) ?_
  exact Run.pure ⟨trivial, by decide⟩

theorem part45 {v6 v8 v13 v30 : BitVec 32} : Run I K c ![31, 31, 28, 8, 5] (withArgs (k0_part45 (F := F)) c v6 v8 v13
    v30) (fun r q' => (∃ v1440, r = v1440) ∧ q' = ![31, 31, 29, 8, 8]) := by
  rw [k0_part45_eq_skeleton]
  refine ld_b 4 0 (by decide) (by decide) ?_; refine ld_land 4 0 (by decide) ?_
  refine ld_out (fun _ _ => ?_); refine st_out 4 0 (by decide) (by decide) rfl ?_
  refine ld_a 4 1 (by decide) (by decide) ?_; refine ld_send 4 1 (by decide) (fun _ => ?_)
  refine st_send 4 1 (by decide) rfl ?_; apply st_enq 4 1 (by decide) (by decide) (by rfl) (by rfl)
  refine st_ws 2 5 (by decide) rfl ?_
  exact Run.pure ⟨⟨_, rfl⟩, by decide⟩

theorem part46 {v7 v12 v1381 v1405 : BitVec 32} : Run I K c ![31, 31, 29, 8, 8] (withArgs (k0_part46 (F := F)) c v7
    v12 v1381 v1405) (fun r q' => (∃ v1491, r = ⟨v1491, k0_pay137 (bV I c 3 1)⟩) ∧ q' = ![31, 31, 31, 10, 8]) := by
  rw [k0_part46_eq_skeleton]
  refine st_wr 2 5 (by decide) rfl (by decide) ?_; refine ld_land 2 5 (by decide) ?_
  refine ld_out (fun _ _ => ?_); refine st_out 2 5 (by decide) (by decide) rfl ?_
  refine st_ws 3 1 (by decide) rfl ?_; refine st_wr 3 1 (by decide) rfl (by decide) ?_
  refine ld_b 3 1 (by decide) (by decide) ?_
  exact Run.pure ⟨⟨_, rfl⟩, by decide⟩

theorem part47 {v6 v9 v13 v1491 : BitVec 32} : Run I K c ![31, 31, 31, 10, 8] (withArgs (k0_part47 (F := F)) c v6 v9
    v13 v1491 (k0_pay137 (bV I c 3 1))) (fun _ q' => True ∧ q' = ![31, 31, 31, 13, 9]) := by
  rw [k0_part47_eq_skeleton]
  refine ld_land 3 1 (by decide) ?_; refine ld_out (fun _ _ => ?_)
  refine st_out 3 1 (by decide) (by decide) rfl ?_; refine ld_a 3 2 (by decide) (by decide) ?_
  refine ld_send 3 2 (by decide) (fun _ => ?_); refine st_send 3 2 (by decide) rfl ?_
  apply st_enq 3 2 (by decide) (by decide) (by rfl) (by rfl); refine st_ws 4 1 (by decide) rfl ?_
  exact Run.pure ⟨trivial, by decide⟩

theorem part48 {v7 v8 v12 v1440 : BitVec 32} : Run I K c ![31, 31, 31, 13, 9] (withArgs (k0_part48 (F := F)) c v7 v8
    v12 v1440) (fun r q' => (∃ v1526, r = v1526) ∧ q' = ![31, 31, 31, 13, 13]) := by
  rw [k0_part48_eq_skeleton]
  refine st_wr 4 1 (by decide) rfl (by decide) ?_; refine ld_b 4 1 (by decide) (by decide) ?_
  refine ld_land 4 1 (by decide) ?_; refine ld_out (fun _ _ => ?_)
  refine st_out 4 1 (by decide) (by decide) rfl ?_; refine ld_a 4 2 (by decide) (by decide) ?_
  refine ld_send 4 2 (by decide) (fun _ => ?_); refine st_send 4 2 (by decide) rfl ?_
  apply st_enq 4 2 (by decide) (by decide) (by rfl) (by rfl)
  exact Run.pure ⟨⟨_, rfl⟩, by decide⟩

theorem part49 {v6 v9 v1491 : BitVec 32} : Run I K c ![31, 31, 31, 13, 13] (withArgs (k0_part49 (F := F)) c v6 v9
    v1491) (fun r q' => (∃ v1561, r = v1561) ∧ q' = ![31, 31, 31, 17, 13]) := by
  rw [k0_part49_eq_skeleton]
  refine st_ws 3 2 (by decide) rfl ?_; refine st_wr 3 2 (by decide) rfl (by decide) ?_
  refine ld_b 3 2 (by decide) (by decide) ?_; refine ld_land 3 2 (by decide) ?_
  refine ld_out (fun _ _ => ?_); refine st_out 3 2 (by decide) (by decide) rfl ?_
  refine ld_a 3 3 (by decide) (by decide) ?_; refine ld_send 3 3 (by decide) (fun _ => ?_)
  refine st_send 3 3 (by decide) rfl ?_
  exact Run.pure ⟨⟨_, rfl⟩, by decide⟩

theorem part50 {v7 v12 v1526 : BitVec 32} : Run I K c ![31, 31, 31, 17, 13] (withArgs (k0_part50 (F := F)) c v7 v12
    v1526) (fun r q' => (∃ v1593 v1609, r = ⟨v1593, v1609⟩) ∧ q' = ![31, 31, 31, 18, 17]) := by
  rw [k0_part50_eq_skeleton]
  apply st_enq 3 3 (by decide) (by decide) (by rfl) (by rfl); refine st_ws 4 2 (by decide) rfl ?_
  refine st_wr 4 2 (by decide) rfl (by decide) ?_; refine ld_b 4 2 (by decide) (by decide) ?_
  refine ld_land 4 2 (by decide) ?_; refine ld_out (fun _ _ => ?_)
  refine st_out 4 2 (by decide) (by decide) rfl ?_; refine ld_a 4 3 (by decide) (by decide) ?_
  refine ld_send 4 3 (by decide) (fun _ => ?_); refine st_send 4 3 (by decide) rfl ?_
  exact Run.pure ⟨⟨_, _, rfl⟩, by decide⟩

theorem part51 {v6 v9 v1561 v1609 : BitVec 32} : Run I K c ![31, 31, 31, 18, 17] (withArgs (k0_part51 (F := F)) c v6
    v9 v1561 v1609) (fun r q' => (∃ v1633, r = ⟨v1633, k0_pay147 (aV I c 3 4)⟩) ∧ q' = ![31, 31, 31, 21, 18]) := by
  rw [k0_part51_eq_skeleton]
  apply st_enq 4 3 (by decide) (by decide) (by rfl) (by rfl); refine st_ws 3 3 (by decide) rfl ?_
  refine st_wr 3 3 (by decide) rfl (by decide) ?_; refine ld_land 3 3 (by decide) ?_
  refine ld_out (fun _ _ => ?_); refine st_out 3 3 (by decide) (by decide) rfl ?_
  refine ld_a 3 4 (by decide) (by decide) ?_
  exact Run.pure ⟨⟨_, rfl⟩, by decide⟩

theorem part52 {v7 v12 v1593 : BitVec 32} : Run I K c ![31, 31, 31, 21, 18] (withArgs (k0_part52 (F := F)) c v7 v12
    v1593 (k0_pay147 (aV I c 3 4))) (fun _ q' => True ∧ q' = ![31, 31, 31, 23, 21]) := by
  rw [k0_part52_eq_skeleton]
  refine ld_send 3 4 (by decide) (fun _ => ?_); refine st_send 3 4 (by decide) rfl ?_
  apply st_enq 3 4 (by decide) (by decide) (by rfl) (by rfl); refine st_ws 4 3 (by decide) rfl ?_
  refine st_wr 4 3 (by decide) rfl (by decide) ?_; refine ld_land 4 3 (by decide) ?_
  refine ld_out (fun _ _ => ?_); refine st_out 4 3 (by decide) (by decide) rfl ?_
  exact Run.pure ⟨trivial, by decide⟩

theorem part53 {v7 v12 v13 v1593 : BitVec 32} : Run I K c ![31, 31, 31, 23, 21] (withArgs (k0_part53 (F := F)) c v7
    v12 v13 v1593) (fun r q' => (∃ v1665 v1689 c64_i32_1317, r = ⟨v1665, v1689, c64_i32_1317⟩) ∧ q' = ![31, 31, 31,
    25, 23]) := by
  rw [k0_part53_eq_skeleton]
  refine ld_a 4 4 (by decide) (by decide) ?_; refine ld_send 4 4 (by decide) (fun _ => ?_)
  refine st_send 4 4 (by decide) rfl ?_; apply st_enq 4 4 (by decide) (by decide) (by rfl) (by rfl)
  refine st_ws 3 4 (by decide) rfl ?_; refine st_wr 3 4 (by decide) rfl (by decide) ?_
  exact Run.pure ⟨⟨_, _, _, rfl⟩, by decide⟩

theorem part54 {v7 v13 v1633 v1689 c64_i32_1317 : BitVec 32} : Run I K c ![31, 31, 31, 25, 23] (withArgs (k0_part54 (F
    := F)) c v7 v13 v1633 v1689 c64_i32_1317) (fun r q' => (∃ v1697, r = v1697) ∧ q' = ![31, 31, 31, 28, 24]) := by
  rw [k0_part54_eq_skeleton]
  refine ld_land 3 4 (by decide) ?_; refine ld_out (fun _ _ => ?_)
  refine st_out 3 4 (by decide) (by decide) rfl ?_; refine ld_a 3 5 (by decide) (by decide) ?_
  refine ld_send 3 5 (by decide) (fun _ => ?_); refine st_send 3 5 (by decide) rfl ?_
  apply st_enq 3 5 (by decide) (by decide) (by rfl) (by rfl); refine st_ws 4 4 (by decide) rfl ?_
  exact Run.pure ⟨⟨_, rfl⟩, by decide⟩

theorem part55 {v8 v9 v1665 : BitVec 32} : Run I K c ![31, 31, 31, 28, 24] (withArgs (k0_part55 (F := F)) c v8 v9
    v1665) (fun r q' => (∃ v1729, r = v1729) ∧ q' = ![31, 31, 31, 28, 28]) := by
  rw [k0_part55_eq_skeleton]
  refine st_wr 4 4 (by decide) rfl (by decide) ?_; refine ld_land 4 4 (by decide) ?_
  refine ld_out (fun _ _ => ?_); refine st_out 4 4 (by decide) (by decide) rfl ?_
  refine ld_a 4 5 (by decide) (by decide) ?_; refine ld_send 4 5 (by decide) (fun _ => ?_)
  refine st_send 4 5 (by decide) rfl ?_; apply st_enq 4 5 (by decide) (by decide) (by rfl) (by rfl)
  exact Run.pure ⟨⟨_, rfl⟩, by decide⟩

theorem part56 {v6 v8 v9 v13 v1697 : BitVec 32} : Run I K c ![31, 31, 31, 28, 28] (withArgs (k0_part56 (F := F)) c v6
    v8 v9 v13 v1697) (fun r q' => (∃ v1769 c128_i32_1404, r = ⟨v1769, c128_i32_1404⟩) ∧ q' = ![31, 31, 31, 31, 30]) :=
    by
  rw [k0_part56_eq_skeleton]
  refine st_ws 3 5 (by decide) rfl ?_; refine st_wr 3 5 (by decide) rfl (by decide) ?_
  refine ld_land 3 5 (by decide) ?_; refine ld_out (fun _ _ => ?_)
  refine st_out 3 5 (by decide) (by decide) rfl ?_; refine st_ws 4 5 (by decide) rfl ?_
  refine st_wr 4 5 (by decide) rfl (by decide) ?_
  exact Run.pure ⟨⟨_, _, rfl⟩, by decide⟩

end Cert.KernelIdeal.Hand

end
-- ==== Proof.Body.lean ====
/-
  The kernel's body from the first barrier to its end.
-/
module

public import proofs.«01_k».proof.Proof.Walk1
public import proofs.«01_k».proof.Proof.Walk2
public import proofs.«01_k».proof.Proof.Walk3
public import proofs.«01_k».proof.Proof.Walk4

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Dev nD → Ins F) (K : GSem nD τ sig → ℕ) (c : Dev nD)

/-- `Run` from an assertion `A` that is not yet a state, of which `B` is left over. -/
def RunFrom (A B : sProp 𝕄) {α : Type} (p : KProg F α) (Post : α → (Fin 5 → ℕ) → Prop) : Prop :=
  ∀ (Kt : α → sProp 𝕄) (Fr : sProp 𝕄), (∀ a q', Post a q' → (iprop(St I K c q' ∗ B ∗ Fr) ⊢ Kt a)) →
    (iprop(A ∗ Fr) ⊢ wp frame (wpE (defs₀ (F := F)) 𝒱₀ (c : Thread nD τ) none) Set.univ p Kt)

variable {I K c} in
theorem RunFrom.bind {A B : sProp 𝕄} {α β : Type} {p : KProg F β} {k : β → KProg F α} {P : β → (Fin 5 → ℕ) → Prop}
    {Post : α → (Fin 5 → ℕ) → Prop} (hp : RunFrom I K c A B p P)
    (hk : ∀ b q', P b q' → Run I K c q' (k b) Post) : RunFrom I K c A B (p >>= k) Post := by
  intro Kt Fr hK
  rw [wp_bind]
  exact hp _ Fr fun b q' hb => hk b q' hb Kt (iprop(B ∗ Fr)) hK

/-- Everything before the barrier has been passed. -/
abbrev P1 (r : Σ' (d0 : Dev nD) (v2 : BitVec 32) (v6 : BitVec 32) (v7 : BitVec 32) (v8 : BitVec 32) (v9 : BitVec 32)
    (v12 : BitVec 32) (v13 : BitVec 32) (v22 : BitVec 32) (v24 : BitVec 32), BitVec 32) (q' : Fin 5 → ℕ) : Prop :=
  (∃ v2 v6 v7 v8 v9 v12 v13 v22 v24 v26, r = ⟨c, v2, v6, v7, v8, v9, v12, v13, v22, v24, v26⟩) ∧ q' = ![0, 0, 0, 0, 0]

attribute [local irreducible] Run

theorem parts {A B : sProp 𝕄} (h1 : RunFrom I K c A B (withArgs (k0_part1 (F := F))) (P1 c)) :
    RunFrom I K c A B (withArgs (k0_part57 (F := F))) (fun (r : Σ' (_ : Dev nD), BitVec 32) q' => (∃ v, r = ⟨c, v⟩) ∧ q' = ![31, 31, 31, 31, 30]) := by
  rw [k0_part57_eq_skeleton]
  refine RunFrom.bind h1 ?_; rintro _ _ ⟨⟨_, _, _, _, _, _, _, _, _, _, rfl⟩, rfl⟩
  refine Run.bind part2 ?_; rintro _ _ ⟨⟨_, _, rfl⟩, rfl⟩
  refine Run.bind part3 ?_; rintro _ _ ⟨rfl, rfl⟩
  refine Run.bind part4 ?_; rintro _ _ ⟨rfl, rfl⟩
  refine Run.bind part5 ?_; rintro _ _ ⟨rfl, rfl⟩
  refine Run.bind part6 ?_; rintro _ _ ⟨rfl, rfl⟩
  refine Run.bind part7 ?_; rintro _ _ ⟨rfl, rfl⟩
  refine Run.bind part8 ?_; rintro _ _ ⟨rfl, rfl⟩
  refine Run.bind part9 ?_; rintro _ _ ⟨⟨_, rfl⟩, rfl⟩
  refine Run.bind part10 ?_; rintro _ _ ⟨rfl, rfl⟩
  refine Run.bind part11 ?_; rintro _ _ ⟨⟨_, rfl⟩, rfl⟩
  refine Run.bind part12 ?_; rintro _ _ ⟨⟨_, rfl⟩, rfl⟩
  refine Run.bind part13 ?_; rintro _ _ ⟨rfl, rfl⟩
  refine Run.bind part14 ?_; rintro _ _ ⟨⟨_, rfl⟩, rfl⟩
  refine Run.bind part15 ?_; rintro _ _ ⟨rfl, rfl⟩
  refine Run.bind part16 ?_; rintro _ _ ⟨⟨_, _, rfl⟩, rfl⟩
  refine Run.bind part17 ?_; rintro _ _ ⟨rfl, rfl⟩
  refine Run.bind part18 ?_; rintro _ _ ⟨rfl, rfl⟩
  refine Run.bind part19 ?_; rintro _ _ ⟨rfl, rfl⟩
  refine Run.bind part20 ?_; rintro _ _ ⟨⟨_, rfl⟩, rfl⟩
  refine Run.bind part21 ?_; rintro _ _ ⟨⟨_, rfl⟩, rfl⟩
  refine Run.bind part22 ?_; rintro _ _ ⟨rfl, rfl⟩
  refine Run.bind part23 ?_; rintro _ _ ⟨-, rfl⟩
  refine Run.bind part24 ?_; rintro _ _ ⟨⟨_, rfl⟩, rfl⟩
  refine Run.bind part25 ?_; rintro _ _ ⟨rfl, rfl⟩
  refine Run.bind part26 ?_; rintro _ _ ⟨⟨_, rfl⟩, rfl⟩
  refine Run.bind part27 ?_; rintro _ _ ⟨rfl, rfl⟩
  refine Run.bind part28 ?_; rintro _ _ ⟨⟨_, rfl⟩, rfl⟩
  refine Run.bind part29 ?_; rintro _ _ ⟨rfl, rfl⟩
  refine Run.bind part30 ?_; rintro _ _ ⟨rfl, rfl⟩
  refine Run.bind part31 ?_; rintro _ _ ⟨⟨_, rfl⟩, rfl⟩
  refine Run.bind part32 ?_; rintro _ _ ⟨⟨_, _, rfl⟩, rfl⟩
  refine Run.bind part33 ?_; rintro _ _ ⟨⟨_, rfl⟩, rfl⟩
  refine Run.bind part34 ?_; rintro _ _ ⟨rfl, rfl⟩
  refine Run.bind part35 ?_; rintro _ _ ⟨rfl, rfl⟩
  refine Run.bind part36 ?_; rintro _ _ ⟨⟨_, rfl⟩, rfl⟩
  refine Run.bind part37 ?_; rintro _ _ ⟨rfl, rfl⟩
  refine Run.bind part38 ?_; rintro _ _ ⟨⟨_, rfl⟩, rfl⟩
  refine Run.bind part39 ?_; rintro _ _ ⟨rfl, rfl⟩
  refine Run.bind part40 ?_; rintro _ _ ⟨⟨_, rfl⟩, rfl⟩
  refine Run.bind part41 ?_; rintro _ _ ⟨-, rfl⟩
  refine Run.bind part42 ?_; rintro _ _ ⟨⟨_, rfl⟩, rfl⟩
  refine Run.bind part43 ?_; rintro _ _ ⟨⟨_, rfl⟩, rfl⟩
  refine Run.bind part44 ?_; rintro _ _ ⟨-, rfl⟩
  refine Run.bind part45 ?_; rintro _ _ ⟨⟨_, rfl⟩, rfl⟩
  refine Run.bind part46 ?_; rintro _ _ ⟨⟨_, rfl⟩, rfl⟩
  refine Run.bind part47 ?_; rintro _ _ ⟨-, rfl⟩
  refine Run.bind part48 ?_; rintro _ _ ⟨⟨_, rfl⟩, rfl⟩
  refine Run.bind part49 ?_; rintro _ _ ⟨⟨_, rfl⟩, rfl⟩
  refine Run.bind part50 ?_; rintro _ _ ⟨⟨_, _, rfl⟩, rfl⟩
  refine Run.bind part51 ?_; rintro _ _ ⟨⟨_, rfl⟩, rfl⟩
  refine Run.bind part52 ?_; rintro _ _ ⟨-, rfl⟩
  refine Run.bind part53 ?_; rintro _ _ ⟨⟨_, _, _, rfl⟩, rfl⟩
  refine Run.bind part54 ?_; rintro _ _ ⟨⟨_, rfl⟩, rfl⟩
  refine Run.bind part55 ?_; rintro _ _ ⟨⟨_, rfl⟩, rfl⟩
  refine Run.bind part56 ?_; rintro _ _ ⟨⟨_, _, rfl⟩, rfl⟩
  exact Run.pure ⟨⟨_, rfl⟩, by decide⟩

theorem body {A B : sProp 𝕄} (h1 : RunFrom I K c A B (withArgs (k0_part1 (F := F))) (P1 c)) :
    RunFrom I K c A B (withArgs (cc0__body (F := F))) (fun _ q' => True ∧ q' = ![31, 31, 31, 31, 31]) := by
  rw [cc0__body_eq_skeleton]
  refine RunFrom.bind (parts I K c h1) ?_; rintro _ _ ⟨⟨_, rfl⟩, rfl⟩
  refine ld_land 4 5 (by decide) ?_
  refine ld_out (fun _ _ => ?_)
  refine st_out 4 5 (by decide) (by decide) rfl ?_
  exact Run.pure ⟨trivial, by decide⟩

end Cert.KernelIdeal.Hand

end
-- ==== Proof.Start.lean ====
/-
  The barrier: each device lets its three neighbours write on it and waits until they let it write on them.
-/
module

public import proofs.«01_k».proof.Proof.Body

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

theorem dev1_eq (c : Dev nD) : (⟨k0_dev1 c, k0_dev1_lt c⟩ : Dev nD) = nbr 0 c := by revert c; decide
theorem dev2_eq (c : Dev nD) : (⟨k0_dev2 c, k0_dev2_lt c⟩ : Dev nD) = nbr 1 c := by revert c; decide
theorem dev3_eq (c : Dev nD) : (⟨k0_dev3 c, k0_dev3_lt c⟩ : Dev nD) = nbr 2 c := by revert c; decide

/-- Nothing of the exchange has been done. -/
abbrev q0 : Fin 5 → ℕ := ![0, 0, 0, 0, 0]

/-- One raise of a neighbour's barrier cell. -/
abbrev barDue (c : Dev nD) (i : Fin 3) : CellTallies nD τ sig Unit := tallyAt (barCell (nbr i c)) () 1
/-- What a device owes at launch. -/
def O₀ (c : Dev nD) : CellTallies nD τ sig Unit := owed q0 c + barDue c 2 + barDue c 1 + barDue c 0

variable (I : Dev nD → Ins F) (K : GSem nD τ sig → ℕ) (c : Dev nD)

/-- What a device holds of a step before the barrier, less the buffer it will write on. -/
def early (p : GD) : sProp 𝕄 :=
  iprop(dutyTok ER (sendCell c p.1 p.2) 0 0 ∗ dutyTok ER (recvCell (peer p.1 p.2 c) p.1 p.2) 0 0
    ∗ reached ER (sendCell c p.1 p.2) 0 ∗ atPos ER (sendCell c p.1 p.2) 0 ∅ 0 ∗ atPos ER (recvCell c p.1 p.2) 0 ∅ 0
    ∗ cred (tallyAt (recvCell c p.1 p.2) () (NN p.1 p.2)))

/-- The right to raise a neighbour's barrier cell. -/
def barTok (i : Fin 3) : sProp 𝕄 :=
  iprop(dutyTok ER (barCell (nbr i c)) 0 i ∗ reached ER (barCell (nbr i c)) 0)

/-- Before the barrier. -/
def Before : sProp 𝕄 :=
  iprop(levAts LL lv ∗ records I K ∗ insRes I c ∗ (∃ f, outPts c f) ∗ (bigSep Finset.univ fun g => iprop(∃ f, sendPts c g f))
    ∗ (bigSep Finset.univ fun p : GD => early c p) ∗ (bigSep Finset.univ fun p : GD => give c p)
    ∗ (atPos ER (barCell c) 0 ∅ 0 ∗ cred (tallyAt (barCell c) () 3)) ∗ (barTok c 0 ∗ barTok c 1 ∗ barTok c 2)
    ∗ ∃ W, owes (c : Thread nD τ) (O₀ c) W)

theorem deal_give : (bigSep Finset.univ fun p : GD => (give c p : sProp 𝕄))
    ⊢ iprop(barPay (nbr 0 c) 0 ∗ barPay (nbr 1 c) 1 ∗ barPay (nbr 2 c) 2) := by
  have e : (bigSep Finset.univ fun p : GD => (give c p : sProp 𝕄)) = bigSep Finset.univ fun i : Fin 3 => barPay (nbr i c) i := by
    rw [← deal_dir (fun p _ => give c p)]
    refine BI.bigSep_congr fun i _ => ?_
    unfold barPay
    rw [nbr_nbr]
  rw [e, bigSep_univ_eq_bigSepL [(0 : Fin 3), (1 : Fin 3), (2 : Fin 3)] (by decide) (by decide)]
  exact BI.Entails.refl _

theorem deal_take : (bigSep Finset.univ fun i : Fin 3 => (barPay c i : sProp 𝕄))
    = bigSep Finset.univ fun p : GD => give (peer p.1 p.2 c) p :=
  deal_dir (fun p i => give (nbr i c) p)

theorem slot_of_early (p : GD) : iprop(early c p ∗ give (peer p.1 p.2 c) p) ⊢ slotRes I c p (rel q0 p) := by
  have h : rel q0 p = 0 := by
    obtain ⟨g, d⟩ := p
    show q0 g - _ = 0
    have : q0 g = 0 := by fin_cases g <;> rfl
    omega
  rw [h, slotRes_start (by decide)]
  unfold early give
  iintro ⟨⟨H1, H2, H3, H4, H5, H6⟩, H7, H8⟩
  isplitl [H1]; · iexact H1
  isplitl [H2]; · iexact H2
  isplitl [H7]; · iexact H7
  isplitl [H8]; · iexact H8
  isplitl [H3]; · iexact H3
  isplitl [H4]; · iexact H4
  isplitl [H5]; · iexact H5
  iexact H6

theorem slots_of_early :
    iprop((bigSep Finset.univ fun p : GD => early c p) ∗ bigSep Finset.univ fun p : GD => give (peer p.1 p.2 c) p)
      ⊢ (bigSep Finset.univ fun p : GD => slotRes I c p (rel q0 p) : sProp 𝕄) :=
  (Entails.of_eq (BI.bigSep_sep _ _ _).symm).trans (bigSep_mono fun p _ => slot_of_early I c p)

theorem lt_two_ord (p : GD) : 1 < 2 + ord p.1 p.2 := by omega

theorem part1 : RunFrom I K c (Before I K c) (atPos ER (barCell c) (0 + 1) ∅ 0) (withArgs (k0_part1 (F := F))) (P1 c) := by
  intro Kt Fr hK
  rw [k0_part1_eq_skeleton]
  show _ ⊢ wp _ _ _ (k0_part1_skel _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) Kt
  unfold k0_part1_skel
  simp only [semSignalWord, semWaitWord, Prog.lift, Prog.bind_op, Prog.bind_ret, Prog.pure_eq_ret, wp_deviceId]
  simp only [dev1_eq c, dev2_eq c, dev3_eq c]
  unfold Before barTok O₀
  iintro ⟨⟨#Hlev, #Hrec, Hin, ⟨%fo, Ho⟩, Hs, He, Hg, ⟨HatB, HcB⟩, ⟨⟨Ht0, #Hr0⟩, ⟨Ht1, #Hr1⟩, ⟨Ht2, #Hr2⟩⟩, ⟨%W, HO⟩⟩, HF⟩
  ihave Hg := (deal_give c) $$ Hg
  icases Hg with ⟨Hp0, Hp1, Hp2⟩
  iapply (Rounds.wp_signal 𝒱₀ ER (Rd I) (c : Thread nD τ) none (dst := (nbr 0 c : Thread nD τ)) (sem := barS) (r := 0) (d := (0 : Fin 3))
      (κ := K (barCell (nbr 0 c))) (by rw [duties_bar]; exact Finset.mem_univ _) (amount_bar I (nbr 0 c) 0) ()
      (owed q0 c + barDue c 2 + barDue c 1) rfl) $$ [HO Ht0 Hp0]
  · isplitr; · iapply (records_bar I K (nbr 0 c)); iexact Hrec
    isplitl [HO]; · iexact HO
    isplitl [Ht0]; · iexact Ht0
    isplitl [Hp0]; · rw [payload_bar]; iexact Hp0
    iexact Hr0
  iintro HO
  iapply (Rounds.wp_signal 𝒱₀ ER (Rd I) (c : Thread nD τ) none (dst := (nbr 1 c : Thread nD τ)) (sem := barS) (r := 0) (d := (1 : Fin 3))
      (κ := K (barCell (nbr 1 c))) (by rw [duties_bar]; exact Finset.mem_univ _) (amount_bar I (nbr 1 c) 1) ()
      (owed q0 c + barDue c 2) rfl) $$ [HO Ht1 Hp1]
  · isplitr; · iapply (records_bar I K (nbr 1 c)); iexact Hrec
    isplitl [HO]; · iexact HO
    isplitl [Ht1]; · iexact Ht1
    isplitl [Hp1]; · rw [payload_bar]; iexact Hp1
    iexact Hr1
  iintro HO
  iapply (Rounds.wp_signal 𝒱₀ ER (Rd I) (c : Thread nD τ) none (dst := (nbr 2 c : Thread nD τ)) (sem := barS) (r := 0) (d := (2 : Fin 3))
      (κ := K (barCell (nbr 2 c))) (by rw [duties_bar]; exact Finset.mem_univ _) (amount_bar I (nbr 2 c) 2) ()
      (owed q0 c) rfl) $$ [HO Ht2 Hp2]
  · isplitr; · iapply (records_bar I K (nbr 2 c)); iexact Hrec
    isplitl [HO]; · iexact HO
    isplitl [Ht2]; · iexact Ht2
    isplitl [Hp2]; · rw [payload_bar]; iexact Hp2
    iexact Hr2
  iintro HO
  iapply (Rounds.wp_wait_rest_token 𝒱₀ ER (Rd I) (c : Thread nD τ) none (κ := K (barCell c))
      (wpE_semWait_eq 𝒱₀ (c : Thread nD τ) none Set.univ) (Set.mem_univ _) () (O := owed q0 c) (W := W) (R := 0) (m := 0) (T := ∅)
      ((Nat.zero_add 3).trans (expect_bar I c).symm)) $$ [HcB HO HatB]
  · isplitr; · iapply (records_bar I K c); iexact Hrec
    isplitl [HcB]; · iexact HcB
    isplitl [HO]; · iexact HO
    isplitr; · iapply (mayWait (.reg barS) (fun p _ => lt_two_ord p)); iexact Hlev
    iexact HatB
  iintro ⟨HO, HatB, -, Hpay⟩
  ihave Hp := (Entails.of_eq ((rest_bar I c).trans (deal_take c))) $$ Hpay
  rw [wp_ret]
  imodintro
  iapply (hK _ _ ⟨⟨_, _, _, _, _, _, _, _, _, _, rfl⟩, rfl⟩)
  isplitr [HatB HF]
  · unfold St
    isplitr; · iexact Hlev
    isplitr; · iexact Hrec
    isplitl [Hin]; · iexact Hin
    isplitl [Ho]
    · unfold outRes
      iexists fo
      isplitr
      · ipureintro
        intro g hg
        exact absurd hg (by fin_cases g <;> exact Nat.lt_irrefl 0)
      iexact Ho
    isplitl [Hs]
    · rw [BI.bigSep_congr (Φ := fun g => sendRes I c g (q0 g)) (Ψ := fun g => (iprop(∃ f, sendPts c g f) : sProp 𝕄)) fun g _ => by
        show sendRes I c g (q0 g) = _
        rw [show q0 g = 0 by fin_cases g <;> rfl]
        unfold sendRes
        rw [if_neg (by decide), if_neg (by decide)]]
      iexact Hs
    isplitr [HO]
    · iapply (slots_of_early I c)
      isplitl [He] <;> iassumption
    iexists _; iexact HO
  isplitl [HatB] <;> iassumption

/-- The whole body. -/
theorem wholeBody : RunFrom I K c (Before I K c) (atPos ER (barCell c) (0 + 1) ∅ 0) (withArgs (cc0__body (F := F)))
    (fun _ q' => True ∧ q' = ![31, 31, 31, 31, 31]) :=
  body I K c (part1 I K c)

end Cert.KernelIdeal.Hand

end
-- ==== Proof.Finish.lean ====
/-
  The end of the body: every step's cells are closed, their counters at zero, and the output buffer holds one function of
  the inputs of all devices.
-/
module

public import proofs.«01_k».proof.Proof.Start

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Dev nD → Ins F) (K : GSem nD τ sig → ℕ) (c : Dev nD)

/-- The group an output row belongs to. -/
def grp (y : S2048x1024.Idx) : Fin 5 :=
  if (y (0 : Fin 2)).val < 512 then 0 else if (y (0 : Fin 2)).val < 1024 then 1 else if (y (0 : Fin 2)).val < 1536 then 2
  else if (y (0 : Fin 2)).val < 1792 then 3 else 4

theorem row_lt (y : S2048x1024.Idx) : (y (0 : Fin 2)).val < 2048 := (y (0 : Fin 2)).isLt

theorem grp_in (y : S2048x1024.Idx) : gbase (grp y) ≤ (y (0 : Fin 2)).val ∧ (y (0 : Fin 2)).val < gend (grp y) := by
  have h := row_lt y
  unfold grp
  split
  · exact ⟨Nat.zero_le _, by assumption⟩
  split
  · exact ⟨by show 512 ≤ _; omega, by assumption⟩
  split
  · exact ⟨by show 1024 ≤ _; omega, by assumption⟩
  split
  · exact ⟨by show 1536 ≤ _; omega, by assumption⟩
  · exact ⟨by show 1792 ≤ _; omega, h⟩

/-- What a device's output buffer ends with. -/
def outV : FVec F S2048x1024 .f32 := fun y => Rv I (grp y) 6 c y

/-- Everything of the exchange has been done. -/
abbrev qE : Fin 5 → ℕ := ![31, 31, 31, 31, 31]
theorem qE_eq (g : Fin 5) : qE g = 31 := by fin_cases g <;> rfl

theorem rel_qE (p : GD) : 4 ≤ rel qE p := by
  obtain ⟨g, d⟩ := p
  show 4 ≤ qE g - (1 + 5 * d.val)
  rw [qE_eq]
  have := d.isLt
  omega

theorem owed_qE : owed qE c = 0 :=
  Finset.sum_eq_zero fun p _ => if_neg (by have := rel_qE p; omega)

theorem out_end {R : FVec F S2048x1024 .f32} (h : OutOK I c qE R) : R = outV I c := by
  funext y
  have := h (grp y) (by rw [qE_eq]; decide) y (grp_in y).1 (grp_in y).2
  rw [qE_eq] at this
  exact this

/-- The output buffer, holding the result. -/
def outDone : sProp 𝕄 := iprop(∃ f, ⌜outM.view.read (Elt F) f = outV I c⌝ ∗ outPts c f)

/-- The counters of a step's two cells at zero. -/
def zeros (p : GD) : sProp 𝕄 := iprop(semVal (sendCell c p.1 p.2) 0 ∗ semVal (recvCell c p.1 p.2) 0)

/-- After the body. -/
def After : sProp 𝕄 :=
  iprop(insRes I c ∗ outDone I c ∗ (bigSep Finset.univ fun g => iprop(∃ f, sendPts c g f))
    ∗ (bigSep Finset.univ fun p : GD => landAny c p) ∗ (bigSep Finset.univ fun p : GD => zeros c p)
    ∗ semVal (barCell c) 0 ∗ ∃ W, owes (c : Thread nD τ) (0 : CellTallies nD τ sig Unit) W)

theorem slot_close (p : GD) : iprop(records I K ∗ slotRes I c p (rel qE p))
    ⊢ (|={Set.univ}=> iprop(landAny c p ∗ zeros c p) : sProp 𝕄) := by
  rw [slotRes_done (rel_qE p)]
  unfold zeros recvPay
  iintro ⟨#Hrec, HatS, HatR, ⟨%f, -, Hf⟩⟩
  imod (Rounds.cell_close ER (Rd I) (Set.mem_univ (K (sendCell c p.1 p.2))) id (duties_later I (sendCell c p.1 p.2))) $$ [HatS] with HzS
  · isplitr; · iapply (records_send I K c p.1 p.2); iexact Hrec
    iexact HatS
  imod (Rounds.cell_close ER (Rd I) (Set.mem_univ (K (recvCell c p.1 p.2))) id (duties_later I (recvCell c p.1 p.2))) $$ [HatR] with HzR
  · isplitr; · iapply (records_recv I K c p.1 p.2); iexact Hrec
    iexact HatR
  imodintro
  isplitl [Hf]
  · unfold landAny; iexists f; iexact Hf
  isplitl [HzS] <;> iassumption

theorem slots_close : iprop(records I K ∗ bigSep Finset.univ fun p : GD => slotRes I c p (rel qE p))
    ⊢ (|={Set.univ}=> iprop((bigSep Finset.univ fun p : GD => landAny c p) ∗ bigSep Finset.univ fun p : GD => zeros c p) : sProp 𝕄) :=
  (bigSep_with_persistent fun p _ => slot_close I K c p).trans
    ((bigSep_fupd _ _).trans (BI.fupd_mono (Entails.of_eq (BI.bigSep_sep _ _ _))))

theorem sends_end : (bigSep Finset.univ fun g => sendRes I c g (qE g))
    = (bigSep Finset.univ fun g => iprop(∃ f, sendPts c g f) : sProp 𝕄) :=
  BI.bigSep_congr fun g _ => by rw [qE_eq]; exact sendRes_free (d := 5) (s := 5) rfl (by decide)

theorem close : iprop(St I K c qE ∗ atPos ER (barCell c) (0 + 1) ∅ 0) ⊢ (|={Set.univ}=> After I c : sProp 𝕄) := by
  unfold St After outRes outDone
  rw [sends_end, owed_qE]
  iintro ⟨⟨-, #Hrec, Hin, ⟨%fo, %ho, Ho⟩, Hs, Hp, HO⟩, HatB⟩
  imod (slots_close I K c) $$ [Hp] with ⟨Hl, Hz⟩
  · isplitr; · iexact Hrec
    iexact Hp
  imod (Rounds.cell_close ER (Rd I) (Set.mem_univ (K (barCell c))) id (duties_later I (barCell c))) $$ [HatB] with HzB
  · isplitr; · iapply (records_bar I K c); iexact Hrec
    iexact HatB
  imodintro
  isplitl [Hin]; · iexact Hin
  isplitl [Ho]
  · iexists fo
    isplitr; · ipureintro; exact out_end I c ho
    iexact Ho
  isplitl [Hs]; · iexact Hs
  isplitl [Hl]; · iexact Hl
  isplitl [Hz]; · iexact Hz
  isplitl [HzB]; · iexact HzB
  iexact HO

/-- The whole body, from before the barrier to after the last cell is closed. -/
theorem bodyRun (Kt : PUnit → sProp 𝕄) (Fr : sProp 𝕄) (hK : iprop(After I c ∗ Fr) ⊢ Kt ⟨⟩) :
    iprop(Before I K c ∗ Fr)
      ⊢ wp frame (wpE (defs₀ (F := F)) 𝒱₀ (c : Thread nD τ) none) Set.univ (withArgs (cc0__body (F := F))) Kt := by
  rw [← bind_pure (withArgs (cc0__body (F := F))), wp_bind]
  refine wholeBody I K c _ Fr ?_
  rintro ⟨⟩ _ ⟨-, rfl⟩
  rw [Prog.pure_eq_ret, wp_ret]
  iintro ⟨HS, HB, HF⟩
  imod (close I K c) $$ [HS HB] with HA
  · isplitl [HS] <;> iassumption
  imodintro
  iapply hK
  isplitl [HA] <;> iassumption

end Cert.KernelIdeal.Hand

end
-- ==== Proof.Region.lean ====
/-
  The kernel as one region of the program: what enters it, what leaves it, and its body between the two.
-/
module

public import proofs.«01_k».proof.Proof.Finish
public import proofs.«01_k».proof.Proof.Gen.KernelIdeal.Points
public import proofs.«01_k».proof.Proof.Gen.KernelIdeal.Regions
public import Idealize.ShloMosaic.Lib.Pipeline.RegionTalk

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

/-! ## The scratch buffers and the exchange's counters -/

def sendRef (g : Fin 5) : Ref sig .tc := (sendM g).view.ref
def landRef (p : GD) : Ref sig .tc := (landM p.1 p.2).view.ref

theorem scratch_eq : (Finset.univ.filter fun b : Ref sig .tc => b.isScoped) \ Finset.univ.image (Pipeline.stageRef spec0)
    = Finset.univ.image sendRef ∪ Finset.univ.image landRef := by decide
theorem sendRef_inj : Function.Injective sendRef := by decide
theorem landRef_inj : Function.Injective landRef := by decide
theorem scratch_apart : Disjoint (Finset.univ.image sendRef) (Finset.univ.image landRef) := by decide

theorem landAny_eq (c : Dev nD) (p : GD) : (landAny c p : sProp 𝕄)
    = iprop(∃ f : Buf (Elt F) ((c : Thread nD τ).loc (landRef p)), ((c : Thread nD τ).loc (landRef p)) ↦{fullShare} f) := by
  unfold landAny
  simp only [landPts, (landM_whole p.1 p.2).set_eq_univ]
  rfl

theorem scratch (c : Dev nD) : (Pipeline.scopedRest (Ix := Unit) (Name := ℕ) (U := UU) (Lvl := ℕ) (Val := Elt F) spec0 c : sProp 𝕄)
    = iprop((bigSep Finset.univ fun g => iprop(∃ f, sendPts c g f)) ∗ bigSep Finset.univ fun p : GD => landAny c p) := by
  unfold Pipeline.scopedRest
  rw [scratch_eq, BI.bigSep_union scratch_apart, bigSep_image_of_injOn sendRef_inj.injOn, bigSep_image_of_injOn landRef_inj.injOn,
    BI.bigSep_congr (Ψ := fun p : GD => (landAny c p : sProp 𝕄)) fun p _ => (landAny_eq c p).symm]
  rfl

/-- The counters of the exchange. -/
def osem (k : GD × Fin 2) : SemLoc sig := if k.2 = 0 then .dma (sendS k.1.1 k.1.2) else .dma (recvS k.1.1 k.1.2)

theorem osem_facts : Pipeline.OwnSemFacts spec0 osem := by decide

theorem ownSems (c : Dev nD) : (Pipeline.ownSems0 osem c : sProp 𝕄) = bigSep Finset.univ fun p : GD => zeros c p := by
  unfold Pipeline.ownSems0
  rw [bigSep_univ_prod]
  exact BI.bigSep_congr fun p _ => BI.bigSep_fin_two (fun k : Fin 2 => (semVal ((c : Thread nD τ), osem (p, k)) 0 : sProp 𝕄))

/-! ## The data of the region -/

variable (m : (ℓ : Loc nD τ sig) → Buf (Elt F) ℓ)

/-- What a device's kernel reads. -/
def ins (c : Dev nD) : Ins F where
  x := (win0_0.blk (0 : Fin 1)).view.read (Elt F) (V1 m c main_v5)
  wq := (win0_1.blk (0 : Fin 1)).view.read (Elt F) (V1 m c main_v14)
  k := (win0_2.blk (0 : Fin 1)).view.read (Elt F) (V1 m c main_v7)
  v := (win0_3.blk (0 : Fin 1)).view.read (Elt F) (V1 m c main_v9)
  wo := (win0_4.blk (0 : Fin 1)).view.read (Elt F) (V1 m c main_v19)

/-- What the region leaves in its output. -/
def outs : Outs (F := F) := fun _ r c => Function.update (V1 m c) main_v20 (outV (ins m) c) r

theorem outs_v20 (c : Dev nD) : outs m 2 main_v20 c = outV (ins m) c := Function.update_self ..

/-- What a device holds of a step before its cells are opened. -/
def tok (c : Dev nD) (p : GD) : sProp 𝕄 :=
  iprop(dutyTok ER (sendCell c p.1 p.2) 0 0 ∗ dutyTok ER (recvCell (peer p.1 p.2 c) p.1 p.2) 0 0
    ∗ openTok ER (sendCell c p.1 p.2) ∗ openTok ER (recvCell c p.1 p.2) ∗ cred (tallyAt (recvCell c p.1 p.2) () (NN p.1 p.2)))

/-- What concerns the barrier. -/
def barRes (c : Dev nD) : sProp 𝕄 :=
  iprop((atPos ER (barCell c) 0 ∅ 0 ∗ cred (tallyAt (barCell c) () 3)) ∗ (barTok c 0 ∗ barTok c 1 ∗ barTok c 2))

/-- What the launch makes for the region, -/
def Tk (c : Dev nD) : sProp 𝕄 :=
  iprop(∃ K, records (ins m) K ∗ (bigSep Finset.univ fun p : GD => tok c p) ∗ barRes c)
/-- what is made of it once the region's cells are open, -/
def Xk (c : Dev nD) : sProp 𝕄 :=
  iprop(∃ K, levAts LL lv ∗ records (ins m) K
    ∗ (bigSep Finset.univ fun p : GD => iprop(early c p ∗ reached ER (recvCell c p.1 p.2) 0)) ∗ barRes c)
/-- and what the region leaves. -/
def Yk (c : Dev nD) : sProp 𝕄 := semVal (barCell c) 0

theorem open_step (K : GSem nD τ sig → ℕ) (c : Dev nD) (p : GD) :
    iprop(records (ins m) K ∗ (tok c p ∗ zeros c p))
      ⊢ (|={Set.univ}=> iprop(early c p ∗ reached ER (recvCell c p.1 p.2) 0) : sProp 𝕄) := by
  unfold tok zeros early
  iintro ⟨#Hrec, ⟨H1, H2, HoS, HoR, Hc⟩, HzS, HzR⟩
  imod (Rounds.cell_open ER (Rd (ins m)) (g := sendCell c p.1 p.2) (Set.mem_univ (K (sendCell c p.1 p.2)))) $$ [HoS HzS] with ⟨HatS, #HrS⟩
  · isplitr; · iapply (records_send (ins m) K c p.1 p.2); iexact Hrec
    isplitl [HoS] <;> iassumption
  imod (Rounds.cell_open ER (Rd (ins m)) (g := recvCell c p.1 p.2) (Set.mem_univ (K (recvCell c p.1 p.2)))) $$ [HoR HzR] with ⟨HatR, #HrR⟩
  · isplitr; · iapply (records_recv (ins m) K c p.1 p.2); iexact Hrec
    isplitl [HoR] <;> iassumption
  imodintro
  isplitl [H1 H2 Hc HatS HatR]
  · isplitl [H1]; · iexact H1
    isplitl [H2]; · iexact H2
    isplitr; · iexact HrS
    isplitl [HatS]; · iexact HatS
    isplitl [HatR]; · iexact HatR
    iexact Hc
  iexact HrR

theorem open_steps (K : GSem nD τ sig → ℕ) (c : Dev nD) :
    iprop(records (ins m) K ∗ bigSep Finset.univ fun p : GD => iprop(tok c p ∗ zeros c p))
      ⊢ (|={Set.univ}=> bigSep Finset.univ fun p : GD => iprop(early c p ∗ reached ER (recvCell c p.1 p.2) 0) : sProp 𝕄) :=
  (bigSep_with_persistent fun p _ => open_step m K c p).trans (bigSep_fupd _ _)

theorem pair {A : Type} [DecidableEq A] (s : Finset A) (Φ Ψ : A → sProp 𝕄) :
    iprop(bigSep s Φ ∗ bigSep s Ψ) ⊢ (bigSep s fun a => iprop(Φ a ∗ Ψ a) : sProp 𝕄) :=
  Entails.of_eq (BI.bigSep_sep _ _ _).symm
theorem unpair {A : Type} [DecidableEq A] (s : Finset A) (Φ Ψ : A → sProp 𝕄) :
    (bigSep s fun a => iprop(Φ a ∗ Ψ a) : sProp 𝕄) ⊢ iprop(bigSep s Φ ∗ bigSep s Ψ) :=
  Entails.of_eq (BI.bigSep_sep _ _ _)

theorem open_all (c : Dev nD) : iprop(Tk m c ∗ Pipeline.ownSems0 osem c ∗ levAts LL lv) ⊢ (|={Set.univ}=> Xk m c : sProp 𝕄) := by
  rw [ownSems]
  unfold Tk Xk
  iintro ⟨⟨%K, #Hrec, Ht, Hb⟩, Hz, #Hlev⟩
  imod (open_steps m K c) $$ [Ht Hz] with He
  · isplitr; · iexact Hrec
    iapply (pair _ _ _)
    isplitl [Ht] <;> iassumption
  imodintro
  iexists K
  isplitr; · iexact Hlev
  isplitr; · iexact Hrec
  isplitl [He] <;> iassumption

/-- Before the region's only point, -/
def Φ₀ (c : Dev nD) : sProp 𝕄 :=
  iprop(Pipeline.scopedRest spec0 c ∗ Xk m c)
/-- and after it. -/
def Φ₁ (c : Dev nD) : sProp 𝕄 :=
  iprop(Pipeline.scopedRest spec0 c ∗ Pipeline.ownSems0 osem c ∗ Yk c)

def dat (c : Dev nD) : Dat τ (Elt F) Unit ℕ UU ℕ cfg0 c where
  A w := V1 m c (Proc.devRef .tc (Pipeline.arrRef spec0 w))
  after w _ := match w with
    | ⟨0, _⟩ => (ins m c).x
    | ⟨1, _⟩ => (ins m c).wq
    | ⟨2, _⟩ => (ins m c).k
    | ⟨3, _⟩ => (ins m c).v
    | ⟨4, _⟩ => (ins m c).wo
    | ⟨5, _⟩ => outV (ins m) c
  Φ t := match t with
    | ⟨0, _⟩ => iprop(Φ₀ m c ∗ ∃ r, prngReg c r)
    | ⟨_ + 1, _⟩ => iprop(Φ₁ c ∗ ∃ r, prngReg c r)
  q _ := fullShare
  owed t := match t with
    | ⟨0, _⟩ => O₀ c
    | ⟨_ + 1, _⟩ => 0

def pdats : (p : Fin 1) → (c : Dev nD) → Dat τ (Elt F) Unit ℕ UU ℕ (cfgs p) c
  | 0 => dat m

/-! ## The body -/

theorem owesAt_intro (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound
  rw [h, show (dat m c).recorded t = Set.univ from rfl]
  iintro HO; iexists W; isplitr; · ipureintro; exact fun _ _ => Or.inl trivial
  iexact HO
theorem owesAt_elim (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩; iexists W; iexact HO

/-- A staged buffer at contents that read `X`. -/
abbrev stg (c : Dev nD) (b : Ref sig .tc) (X : b.ty.Contents (Elt F)) : sProp 𝕄 :=
  iprop(∃ f, ⌜(Memref.whole b).view.read (Elt F) f = X⌝ ∗ (Memref.whole b).view.loc (c : Thread nD τ) ↦{fullShare} f)

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.set_whole]

theorem in0 (c : Dev nD) (d) : (dat m c).before (0 : Fin 6) t0_0 d = (ins m c).x := by
  unfold Dat.before; rw [if_pos (fetch0_0 t0_0)]; rfl
theorem in1 (c : Dev nD) (d) : (dat m c).before (1 : Fin 6) t0_0 d = (ins m c).wq := by
  unfold Dat.before; rw [if_pos (fetch0_1 t0_0)]; rfl
theorem in2 (c : Dev nD) (d) : (dat m c).before (2 : Fin 6) t0_0 d = (ins m c).k := by
  unfold Dat.before; rw [if_pos (fetch0_2 t0_0)]; rfl
theorem in3 (c : Dev nD) (d) : (dat m c).before (3 : Fin 6) t0_0 d = (ins m c).v := by
  unfold Dat.before; rw [if_pos (fetch0_3 t0_0)]; rfl
theorem in4 (c : Dev nD) (d) : (dat m c).before (4 : Fin 6) t0_0 d = (ins m c).wo := by
  unfold Dat.before; rw [if_pos (fetch0_4 t0_0)]; rfl

/-- The buffers the body finds, -/
def bodyIn (c : Dev nD) : sProp 𝕄 :=
  iprop((∃ d, stg c cc0_stg0_0 ((dat m c).before (0 : Fin 6) t0_0 d)) ∗ (∃ d, stg c cc0_stg1_0 ((dat m c).before (1 : Fin 6) t0_0 d))
    ∗ (∃ d, stg c cc0_stg2_0 ((dat m c).before (2 : Fin 6) t0_0 d)) ∗ (∃ d, stg c cc0_stg3_0 ((dat m c).before (3 : Fin 6) t0_0 d))
    ∗ (∃ d, stg c cc0_stg4_0 ((dat m c).before (4 : Fin 6) t0_0 d)) ∗ (∃ d, stg c cc0_stg5_0 ((dat m c).before (5 : Fin 6) t0_0 d)))
/-- and leaves. -/
def bodyOut (c : Dev nD) : sProp 𝕄 :=
  iprop(owns (c : Thread nD τ) (Memref.whole cc0_stg0_0) fullShare (ins m c).x
    ∗ owns (c : Thread nD τ) (Memref.whole cc0_stg1_0) fullShare (ins m c).wq
    ∗ owns (c : Thread nD τ) (Memref.whole cc0_stg2_0) fullShare (ins m c).k
    ∗ owns (c : Thread nD τ) (Memref.whole cc0_stg3_0) fullShare (ins m c).v
    ∗ owns (c : Thread nD τ) (Memref.whole cc0_stg4_0) fullShare (ins m c).wo
    ∗ owns (c : Thread nD τ) (Memref.whole cc0_stg5_0) fullShare (outV (ins m) c))

theorem bodyIn_elim (c : Dev nD) : bodyIn m c ⊢ iprop(insRes (ins m) c ∗ ∃ f, outPts c f) := by
  unfold bodyIn insRes
  simp only [in0, in1, in2, in3, in4]
  iintro ⟨⟨%_, H0⟩, ⟨%_, H1⟩, ⟨%_, H2⟩, ⟨%_, H3⟩, ⟨%_, H4⟩, ⟨%_, ⟨%f, -, H5⟩⟩⟩
  isplitr [H5]
  · isplitl [H0]; · iexact H0
    isplitl [H1]; · iexact H1
    isplitl [H2]; · iexact H2
    isplitl [H3]; · iexact H3
    iexact H4
  iexists f; iexact H5

theorem bodyOut_intro (c : Dev nD) : iprop(insRes (ins m) c ∗ outDone (ins m) c) ⊢ bodyOut m c := by
  unfold bodyOut insRes outDone
  simp only [owns_stg]
  iintro ⟨⟨H0, H1, H2, H3, H4⟩, H5⟩
  isplitl [H0]; · iexact H0
  isplitl [H1]; · iexact H1
  isplitl [H2]; · iexact H2
  isplitl [H3]; · iexact H3
  isplitl [H4]; · iexact H4
  iexact H5

theorem lands_give (c : Dev nD) :
    iprop((bigSep Finset.univ fun p : GD => landAny c p)
        ∗ bigSep Finset.univ fun p : GD => iprop(early c p ∗ reached ER (recvCell c p.1 p.2) 0))
      ⊢ (iprop((bigSep Finset.univ fun p : GD => early c p) ∗ bigSep Finset.univ fun p : GD => give c p) : sProp 𝕄) := by
  iintro ⟨Hl, He⟩
  ihave He := (unpair _ _ _) $$ He
  icases He with ⟨He, Hr⟩
  isplitl [He]; · iexact He
  unfold give
  iapply (pair _ _ _)
  isplitl [Hl] <;> iassumption

theorem before_intro (c : Dev nD) : iprop(Φ₀ m c ∗ bodyIn m c ∗ ∃ W, owes (c : Thread nD τ) (O₀ c) W)
    ⊢ (iprop(∃ K, Before (ins m) K c) : sProp 𝕄) := by
  unfold Φ₀ Xk barRes Before
  rw [scratch]
  iintro ⟨⟨⟨Hs, Hl⟩, ⟨%K, #Hlev, #Hrec, He, HbA, HbT⟩⟩, Hin, HO⟩
  iexists K
  ihave Hin := (bodyIn_elim m c) $$ Hin
  icases Hin with ⟨Hin, Hout⟩
  ihave He := (lands_give c) $$ [Hl He]
  · isplitl [Hl] <;> iassumption
  icases He with ⟨He, Hg⟩
  isplitr; · iexact Hlev
  isplitr; · iexact Hrec
  isplitl [Hin]; · iexact Hin
  isplitl [Hout]; · iexact Hout
  isplitl [Hs]; · iexact Hs
  isplitl [He]; · iexact He
  isplitl [Hg]; · iexact Hg
  isplitl [HbA]; · iexact HbA
  isplitl [HbT]; · iexact HbT
  iexact HO

theorem after_elim (c : Dev nD) : After (ins m) c
    ⊢ (iprop(Φ₁ c ∗ bodyOut m c ∗ ∃ W, owes (c : Thread nD τ) (0 : CellTallies nD τ sig Unit) W) : sProp 𝕄) := by
  unfold After Φ₁ Yk
  rw [scratch, ownSems]
  iintro ⟨Hin, Hout, Hs, Hl, Hz, Hb, HO⟩
  isplitl [Hs Hl Hz Hb]
  · isplitl [Hs Hl]
    · isplitl [Hs] <;> iassumption
    isplitl [Hz] <;> iassumption
  isplitl [Hin Hout]
  · iapply (bodyOut_intro m c)
    isplitl [Hin] <;> iassumption
  iexact HO

theorem bodyProg (t : Fin cfg0.N) : defs₀ (F := F) .tc cfg0.body (cfg0.bodyArgs t (cfg0.slots t)) = withArgs (cc0__body (F := F)) := by
  rw [fin_N0 t]; rfl

theorem bodyAll (c : Dev nD) : iprop((∃ K, Before (ins m) K c) ∗ ∃ r, prngReg c r)
    ⊢ wp frame (wpE (defs₀ (F := F)) 𝒱₀ (c : Thread nD τ) none) Set.univ (withArgs (cc0__body (F := F)))
        (fun _ => iprop((Φ₁ c ∗ ∃ r, prngReg c r) ∗ (dat m c).owesAt () t0_0.succ ∗ bodyOut m c)) := by
  iintro ⟨⟨%K, HB⟩, Hp⟩
  iapply (bodyRun (ins m) K c _ (iprop(∃ r, prngReg c r)) ?_)
  rotate_left
  · isplitl [HB] <;> iassumption
  · iintro ⟨HA, Hp⟩
    ihave HA := (after_elim m c) $$ HA
    icases HA with ⟨HΦ, Ho, ⟨%W, HO⟩⟩
    isplitl [HΦ Hp]
    · isplitl [HΦ] <;> iassumption
    isplitl [HO]
    · iapply (owesAt_intro m c t0_0.succ 0 rfl W); iexact HO
    iexact Ho

theorem bodyOk (c : Dev nD) : BodyObligation (dat m c) defs₀ 𝒱₀ () Set.univ := fun t => by
  obtain rfl := fin_N0 t
  rw [bodyProg, bigSep_W0, bigSep_W0]
  have hrun := bodyAll m c
  generalize withArgs (cc0__body (F := F)) = prog at hrun ⊢
  refine BI.Entails.trans ?_ (hrun.trans (wp_mono _ _ _ fun _ => ?_))
  rotate_left
  · exact sep_mono .rfl (sep_mono .rfl (sep_mono .rfl (sep_mono .rfl (sep_mono .rfl (sep_mono .rfl (sep_mono .rfl .rfl))))))
  · show iprop((Φ₀ m c ∗ ∃ r, prngReg c r) ∗ (dat m c).owesAt () t0_0.castSucc ∗ _) ⊢ _
    iintro ⟨⟨HΦ, Hp⟩, HO, Hw⟩
    ihave HO := (owesAt_elim m c t0_0.castSucc (O₀ c) rfl) $$ HO
    isplitr [Hp]
    · iapply (before_intro m c)
      isplitl [HΦ]; · iexact HΦ
      isplitl [Hw]
      · unfold bodyIn
        simp only [← owns_stg]
        iexact Hw
      iexact HO
    iexact Hp

end Cert.KernelIdeal.Hand

end
-- ==== Proof.Record.lean ====
/-
  The region's record: its arrays before and after, the order in which cells are waited on, and what the program's run
  gives to it and takes from it.
-/
module

public import proofs.«01_k».proof.Proof.Region
public import Idealize.ShloMosaic.Lib.Pipeline.ValueKit.Geometry

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

/-! ## What is owed at launch -/

theorem owed_q0 (d : Dev nD) (g : GSem nD τ sig) (u : Unit) :
    owed q0 d g u = ∑ p : GD, tallyAt (recvCell (peer p.1 p.2 d) p.1 p.2) () (NN p.1 p.2) g u := by
  unfold owed
  rw [Finset.sum_apply, Finsupp.finsetSum_apply]
  refine Finset.sum_congr rfl fun p _ => ?_
  rw [if_pos (by revert p; decide)]

theorem O₀_at (d : Dev nD) (g : GSem nD τ sig) (u : Unit) :
    O₀ d g u = owed q0 d g u + barDue d 2 g u + barDue d 1 g u + barDue d 0 g u := by
  unfold O₀
  simp only [Pi.add_apply, Finsupp.add_apply]

theorem tally_cell {g g' : GSem nD τ sig} {n : ℕ} {u : Unit} (h : (tallyAt g () n : CellTallies nD τ sig Unit) g' u ≠ 0) : g' = g := by
  by_contra hn
  rw [tallyAt_ne_cell hn] at h
  exact h rfl

theorem O₀_cell {d : Dev nD} {g : GSem nD τ sig} {u : Unit} (h : 0 < O₀ d g u) :
    (∃ p : GD, g = recvCell (peer p.1 p.2 d) p.1 p.2) ∨ ∃ i : Fin 3, g = barCell (nbr i d) := by
  rw [O₀_at] at h
  by_cases h0 : barDue d 0 g u = 0
  · by_cases h1 : barDue d 1 g u = 0
    · by_cases h2 : barDue d 2 g u = 0
      · rw [h0, h1, h2, Nat.add_zero, owed_q0] at h
        obtain ⟨p, -, hp⟩ := Finset.exists_ne_zero_of_sum_ne_zero (Nat.pos_iff_ne_zero.mp h)
        exact Or.inl ⟨p, tally_cell hp⟩
      · exact Or.inr ⟨2, tally_cell h2⟩
    · exact Or.inr ⟨1, tally_cell h1⟩
  · exact Or.inr ⟨0, tally_cell h0⟩

theorem O₀_level {d : Dev nD} {g : GSem nD τ sig} {u : Unit} (h : 0 < O₀ d g u) : u ∈ LL g ∧ 0 < lv g u := by
  rcases O₀_cell h with ⟨p, rfl⟩ | ⟨i, rfl⟩
  · refine ⟨by rw [LL_tc]; exact Finset.mem_singleton_self _, ?_⟩
    show 0 < lvS (.dma (recvS p.1 p.2))
    rw [lvS_recv]; omega
  · exact ⟨by rw [LL_tc]; exact Finset.mem_singleton_self _, Nat.one_pos⟩

variable (m : (ℓ : Loc nD τ sig) → Buf (Elt F) ℓ)

theorem owed_level (c : Dev nD) (t : Fin (cfg0.N + 1)) (g : GSem nD τ sig) (u : Unit) (h : 0 < (dat m c).owed t g u) :
    u ∈ LL g ∧ 0 < lv g u := by
  obtain ⟨t, ht⟩ := t
  cases t with
  | zero => exact O₀_level h
  | succ t => exact absurd h (Nat.lt_irrefl 0)

theorem stage_level : ∀ (w : Fin 6) (s : Fin (spec0 w).nbuf), lvS (.dma ((spec0 w).sem s)) = 0 := by decide

theorem cut : Pipeline.LevelCutOwed (pcfgs (F := F)) adm (pdats m) () LL lv 0 (fun _ => 0) :=
  ⟨fun c w s => by rw [LL_tc]; exact Finset.mem_singleton_self _,
    fun c w s => Nat.le_of_eq (stage_level w s),
    fun c t g i h => owed_level m c t g i h⟩

/-! ## The arrays -/

theorem held_none (c : Dev nD) (W : Valuation τ sig (Elt F)) :
    (StableHlo.held (c.tc : Thread nD τ) ∅ W : sProp 𝕄) = BI.emp := by
  unfold StableHlo.held
  exact BI.bigSep_empty

/-- The unscoped buffers that are none of the region's arrays. -/
def others : Finset (DevRef τ sig) := Pipeline.ucRefs τ sig \ Pipeline.arrRefs (τ := τ) spec0

theorem V2_ne (c : Dev nD) (b : DevRef τ sig) (h : b ≠ Proc.devRef .tc main_v20) : V2 m (outs m) c b = V1 m c b :=
  Function.update_of_ne h _ _

theorem V2_out (c : Dev nD) : V2 m (outs m) c (Proc.devRef .tc main_v20) = outV (ins m) c :=
  (Function.update_self (Proc.devRef (τ := τ) .tc main_v20) (outs m 2 main_v20 c) (V1 m c)).trans (outs_v20 m c)

theorem others_same (c : Dev nD) (b : DevRef τ sig) (h : b ∈ others \ ∅) : V2 m (outs m) c b = V1 m c b :=
  V2_ne m c b fun e => by
    rw [Finset.sdiff_empty] at h
    exact (Finset.mem_sdiff.mp h).2 (e ▸ Finset.mem_map_of_mem ⟨Proc.devRef (sig := sig) .tc, Proc.devRef_injective _⟩
      (Finset.mem_image_of_mem (Pipeline.arrRef spec0) (Finset.mem_univ (5 : Fin 6))))

theorem arr_in (c : Dev nD) (w : Fin 6) (hw : (cfg0.win w).isOut = false)
    (hn : Proc.devRef (τ := τ) .tc (Pipeline.arrRef spec0 w) ≠ Proc.devRef .tc main_v20) :
    (dat m c).arrAt w cfg0.N = V2 m (outs m) c (Proc.devRef .tc (Pipeline.arrRef spec0 w)) :=
  ((dat m c).arrAt_in w hw _).trans (V2_ne m c _ hn).symm

theorem arr_out (c : Dev nD) : (dat m c).arrAt (5 : Fin 6) cfg0.N = outV (ins m) c :=
  (dat m c).arrAt_eq_of_after_last (5 : Fin 6) t0_0 (by decide +kernel) (outV (ins m) c) (fun j => rfl)

theorem arr_end (c : Dev nD) (w : Fin 6) :
    (dat m c).arrAt w cfg0.N = V2 m (outs m) c (Proc.devRef .tc (Pipeline.arrRef spec0 w)) := by
  match w with
  | ⟨0, _⟩ => exact arr_in m c (0 : Fin 6) rfl (by decide)
  | ⟨1, _⟩ => exact arr_in m c (1 : Fin 6) rfl (by decide)
  | ⟨2, _⟩ => exact arr_in m c (2 : Fin 6) rfl (by decide)
  | ⟨3, _⟩ => exact arr_in m c (3 : Fin 6) rfl (by decide)
  | ⟨4, _⟩ => exact arr_in m c (4 : Fin 6) rfl (by decide)
  | ⟨5, _⟩ => exact (arr_out m c).trans (V2_out m c).symm

/-! ## The record -/

theorem region_in (c : Dev nD) : iprop(Pipeline.scopedRest (Pipeline.pin (pcfgs (F := F)) adm 0).spec c ∗ (∃ r, prngReg c r)
      ∗ StableHlo.held (c.tc : Thread nD τ) ∅ (V1 m c) ∗ Xk m c) ⊢ (pdats m 0 c).Φ 0 := by
  show iprop(Pipeline.scopedRest spec0 c ∗ (∃ r, prngReg c r) ∗ StableHlo.held (c.tc : Thread nD τ) ∅ (V1 m c) ∗ Xk m c)
    ⊢ iprop(Φ₀ m c ∗ ∃ r, prngReg c r)
  unfold Φ₀
  iintro ⟨Hs, Hp, -, HX⟩
  isplitr [Hp]
  · isplitl [Hs] <;> iassumption
  iexact Hp

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ Yk c) := by
  rw [held_none]
  show iprop(Φ₁ c ∗ ∃ r, prngReg c r)
    ⊢ iprop(Pipeline.scopedRest spec0 c ∗ (∃ r, prngReg c r) ∗ BI.emp ∗ Pipeline.ownSems0 osem c ∗ Yk c)
  unfold Φ₁
  iintro ⟨⟨Hs, Ho, HY⟩, Hp⟩
  isplitl [Hs]; · iexact Hs
  isplitl [Hp]; · iexact Hp
  isplitr; · iempintro
  isplitl [Ho] <;> iassumption

theorem full (c : Dev nD) (w : Fin 6) : (dat m c).share w = fullShare := by
  unfold Dat.share
  split <;> rfl

set_option backward.isDefEq.respectTransparency.types false in
def region : Pipeline.RegionSeg (pcfgs (F := F)) adm (pdats m) () defs₀ 𝒱₀ LL lv 0 :=
  Pipeline.RegionSeg.ofTalk (pcfgs (F := F)) adm (pdats m) () defs₀ 𝒱₀ LL lv 0 osem osem_facts
    ∅ others (Finset.empty_subset _) launch0.toP rfl (fun c => (bodyOk m c).loose)
    (fun _ => 0) O₀ (fun c => (zero_add _).symm) (fun c => rfl) (fun _ => rfl) (full m)
    (V1 m) (V2 m (outs m)) (fun c b hb => others_same m c b hb)
    (Tk m) Yk (Xk m) Yk (open_all m) (region_in m) (region_out m) (fun c => by iintro H; imodintro; iexact H)
    (fun _ => 0) (cut m) (fun _ => iprop(emp)) (fun _ _ => rfl) (fun c w => arr_end m c w)

/-! ## Entering and leaving -/

/-- What a device holds besides its buffers before the kernel, -/
def E₀ (c : Dev nD) : sProp 𝕄 := iprop(Tk m c ∗ (∃ r, prngReg c r) ∗ ∃ W, owes (c : Thread nD τ) (O₀ c) W)
/-- and after it. -/
def E₁ (c : Dev nD) : sProp 𝕄 := iprop(semVal (barCell c) 0 ∗ ∃ W, owes (c : Thread nD τ) (0 : CellTallies nD τ sig Unit) W)

theorem arr_sub : Pipeline.arrRefs (τ := τ) spec0 ⊆ Pipeline.ucRefs τ sig := Pipeline.arrRefs_sub_ucRefs spec0 (by decide)

theorem enter (c : Dev nD) :
    iprop(StableHlo.held (c : Thread nD τ) (Pipeline.ucRefs τ sig) (V1 m c) ∗ E₀ m c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [zero_add, StableHlo.held_sub_split (c.tc : Thread nD τ) arr_sub (V1 m c)]
  unfold E₀ others
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem leave (c : Dev nD) :
    (region m).post c ⊢ iprop(StableHlo.held (c : Thread nD τ) (Pipeline.ucRefs τ sig) (V2 m (outs m) c) ∗ E₁ c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c
    ∗ ∃ Wd, owes (c : Thread nD τ) (0 : CellTallies nD τ sig Unit) Wd) ⊢ _
  rw [StableHlo.held_sub_split (c.tc : Thread nD τ) arr_sub (V2 m (outs m) c)]
  unfold E₁ others Yk
  iintro ⟨Ha, -, ⟨Hr, -⟩, Hb, HO⟩
  isplitl [Ha Hr]
  · isplitl [Ha] <;> iassumption
  isplitl [Hb] <;> iassumption

end Cert.KernelIdeal.Hand

end
-- ==== Proof.Launch.lean ====
/-
  The launch and the run: the cells of all devices are funded at once, their tokens dealt to the devices that pay the
  duties, and the program is run on all eight.
-/
module

public import proofs.«01_k».proof.Proof.Record

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)
open Cert.KernelIdeal Cert.KernelIdeal.Gen

variable {F : FTy → Type} [FloatOps F] [Named F]

local notation "𝕄" => MT nD τ sig Unit (Elt F) ℕ UU ℕ

/-! ## Cells and tokens -/

theorem osem_inj : Function.Injective osem := by decide
theorem osem_ne_bar : ∀ k : GD × Fin 2, osem k ≠ .reg barS := by decide

def barEmb : Dev nD ↪ GSem nD τ sig := ⟨fun c => barCell c, fun _ _ h => congrArg (fun g : GSem nD τ sig => g.1.1) h⟩
def dmaEmb : Dev nD × (GD × Fin 2) ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev dmaCells : Finset (GSem nD τ sig) := Finset.univ.map dmaEmb

theorem cells_apart : Disjoint (barCells : Finset (GSem nD τ sig)) dmaCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem nbr_inj (i : Fin 3) : Function.Injective (nbr i) := fun a b h => by rw [← nbr_nbr i a, h, nbr_nbr]

/-- The right to raise the barrier cell of the neighbour in direction `i`. -/
def barTokEmb : Dev nD × Fin 3 ↪ GSem nD τ sig × ℕ × Fin 3 :=
  ⟨fun ci => (barCell (nbr ci.2 ci.1), 0, ci.2), fun a b h => by
    have h2 : a.2 = b.2 := congrArg (fun t : GSem nD τ sig × ℕ × Fin 3 => t.2.2) h
    have h1 : nbr a.2 a.1 = nbr b.2 b.1 := congrArg (fun t : GSem nD τ sig × ℕ × Fin 3 => t.1.1.1) h
    rw [h2] at h1
    exact Prod.ext (nbr_inj _ h1) h2⟩

/-- The device at which a step's cell of either kind is. -/
def holder (k : GD × Fin 2) (c : Dev nD) : Dev nD := if k.2 = 0 then c else peer k.1.1 k.1.2 c
theorem holder_inj (k : GD × Fin 2) : Function.Injective (holder k) := fun a b h => by
  unfold holder at h
  split at h
  · exact h
  · exact nbr_inj _ h

/-- The right to credit a sending cell of the device itself and a receiving cell of its partner. -/
def dmaTokEmb : Dev nD × (GD × Fin 2) ↪ GSem nD τ sig × ℕ × Fin 3 :=
  ⟨fun ck => (((holder ck.2 ck.1 : Thread nD τ), osem ck.2), 0, 0), fun a b h => by
    have h2 : a.2 = b.2 := osem_inj (congrArg (fun t : GSem nD τ sig × ℕ × Fin 3 => t.1.2) h)
    have h1 : holder a.2 a.1 = holder b.2 b.1 := congrArg (fun t : GSem nD τ sig × ℕ × Fin 3 => t.1.1.1) h
    rw [h2] at h1
    exact Prod.ext (holder_inj _ h1) h2⟩

def tokens : Finset (GSem nD τ sig × ℕ × Fin 3) := Finset.univ.map barTokEmb ∪ Finset.univ.map dmaTokEmb

theorem tokens_apart : Disjoint (Finset.univ.map barTokEmb) (Finset.univ.map dmaTokEmb) := by
  rw [Finset.disjoint_left]
  rintro g h₁ h₂
  obtain ⟨c, -, rfl⟩ := Finset.mem_map.mp h₁
  obtain ⟨ck, -, h⟩ := Finset.mem_map.mp h₂
  exact osem_ne_bar ck.2 (congrArg (fun t : GSem nD τ sig × ℕ × Fin 3 => t.1.2) h)

/-- The launch element: the pipeline's cells and the exchange's. -/
def u₀ : UU :=
  (initOf (Pipeline.cells (Pipeline.pin (pcfgs (F := F)) adm) cellOf_inj) (Pipeline.launchToks (Pipeline.pin (pcfgs (F := F)) adm) cellOf_inj),
    launchOf barCells dmaCells tokens)

/-- The exchange's launch element, kept on device 0 until the launch deals it out. -/
def G (c : Dev nD) : sProp 𝕄 := if c = 0 then BI.own (ER (launchOf barCells dmaCells tokens)) else iprop(emp)

theorem G_all : (bigSep Finset.univ (G (F := F)) : sProp 𝕄) = BI.own (ER (launchOf barCells dmaCells tokens)) := by
  rw [bigSep_univ_at _ (0 : Dev nD), BI.bigSep_congr (s := Finset.univ.erase (0 : Dev nD)) (Ψ := fun _ => (BI.emp : sProp 𝕄))
    fun c hc => by unfold G; rw [if_neg (Finset.ne_of_mem_erase hc)]; rfl, BI.bigSep_emp_const]
  unfold G
  rw [if_pos rfl]
  exact BI.equiv_iff.mp sep_emp

/-! ## Dealing the tokens -/

variable (m : (ℓ : Loc nD τ sig) → Buf (Elt F) ℓ) (ρ : Dev nD → PrngReg)

/-- The three rights to raise a neighbour's barrier cell. -/
def barToks (c : Dev nD) : sProp 𝕄 := bigSep Finset.univ fun i : Fin 3 => dutyTok ER (barCell (nbr i c)) 0 i
/-- A step's rights to credit, -/
def stepToks (c : Dev nD) (p : GD) : sProp 𝕄 :=
  iprop(dutyTok ER (sendCell c p.1 p.2) 0 0 ∗ dutyTok ER (recvCell (peer p.1 p.2 c) p.1 p.2) 0 0)
/-- and to open its cells. -/
def stepOpen (c : Dev nD) (p : GD) : sProp 𝕄 := iprop(openTok ER (sendCell c p.1 p.2) ∗ openTok ER (recvCell c p.1 p.2))

theorem tokens_deal : bigSep tokens (fun x => (dutyTok ER x.1 x.2.1 x.2.2 : sProp 𝕄))
    = iprop((bigSep Finset.univ fun c : Dev nD => barToks c) ∗ bigSep Finset.univ fun c : Dev nD => bigSep Finset.univ fun p : GD => stepToks c p) := by
  unfold tokens
  rw [BI.bigSep_union tokens_apart, BI.bigSep_map, BI.bigSep_map, bigSep_univ_prod, bigSep_univ_prod]
  refine congrArg₂ _ rfl ?_
  refine BI.bigSep_congr fun c _ => ?_
  rw [bigSep_univ_prod]
  exact BI.bigSep_congr fun p _ =>
    BI.bigSep_fin_two (fun k : Fin 2 => (dutyTok ER ((holder (p, k) c : Thread nD τ), osem (p, k)) 0 0 : sProp 𝕄))

theorem open_deal : bigSep dmaCells (fun g => (openTok ER g : sProp 𝕄))
    = bigSep Finset.univ fun c : Dev nD => bigSep Finset.univ fun p : GD => stepOpen c p := by
  rw [BI.bigSep_map, bigSep_univ_prod]
  refine BI.bigSep_congr fun c _ => ?_
  rw [bigSep_univ_prod]
  exact BI.bigSep_congr fun p _ => BI.bigSep_fin_two (fun k : Fin 2 => (openTok ER ((c : Thread nD τ), osem (p, k)) : sProp 𝕄))

theorem records_make (K : GSem nD τ sig → ℕ) :
    bigSep (barCells ∪ dmaCells) (fun g => (cellInv ER (Rd (ins m)) (K g) g : sProp 𝕄)) = records (ins m) K := by
  unfold records
  rw [BI.bigSep_union cells_apart, BI.bigSep_map, BI.bigSep_map, bigSep_univ_prod, ← BI.bigSep_sep]
  refine BI.bigSep_congr fun c _ => ?_
  rw [bigSep_univ_prod]
  exact congrArg₂ _ rfl (BI.bigSep_congr fun p _ => BI.bigSep_fin_two
    (fun k : Fin 2 => (cellInv ER (Rd (ins m)) (K ((c : Thread nD τ), osem (p, k))) ((c : Thread nD τ), osem (p, k)) : sProp 𝕄)))

/-! ## The credit given at launch -/

theorem owed_bar (d c : Dev nD) : O₀ d (barCell c) () = (if d = nbr 2 c then 1 else 0) + (if d = nbr 1 c then 1 else 0) + (if d = nbr 0 c then 1 else 0) := by
  have h0 : owed q0 d (barCell c) () = 0 := by
    rw [owed_q0]
    exact Finset.sum_eq_zero fun p _ => by
      rw [tallyAt_ne_cell fun h => by have := congrArg Prod.snd h; cases this]; rfl
  have hb (i : Fin 3) : barDue d i (barCell c) () = if d = nbr i c then 1 else 0 := by
    unfold barDue
    rw [tallyAt_apply]
    by_cases h : d = nbr i c
    · subst h; rw [nbr_nbr, if_pos ⟨rfl, rfl⟩, if_pos rfl]
    · rw [if_neg (fun ⟨h1, _⟩ => h (by
        rw [show c = nbr i d from congrArg (fun g : GSem nD τ sig => g.1.1) h1, nbr_nbr])), if_neg h]
  rw [O₀_at, h0, hb, hb, hb, Nat.zero_add]

theorem owed_recv (d c : Dev nD) (p : GD) : O₀ d (recvCell c p.1 p.2) () = if d = peer p.1 p.2 c then NN p.1 p.2 else 0 := by
  have hb (i : Fin 3) : barDue d i (recvCell c p.1 p.2) () = 0 := by
    unfold barDue
    rw [tallyAt_ne_cell fun h => by have := congrArg Prod.snd h; cases this]; rfl
  rw [O₀_at, hb, hb, hb, Nat.add_zero, owed_q0]
  rw [Finset.sum_eq_single p]
  · rw [tallyAt_apply]
    by_cases h : d = peer p.1 p.2 c
    · subst h; rw [peer_peer, if_pos ⟨rfl, rfl⟩, if_pos rfl]
    · rw [if_neg (fun ⟨h1, _⟩ => h (by
        rw [show c = peer p.1 p.2 d from congrArg (fun g : GSem nD τ sig => g.1.1) h1, peer_peer])), if_neg h]
  · intro p' _ hp
    rw [tallyAt_ne_cell fun h => hp (by
      have e : osem (p, 1) = osem (p', 1) := congrArg Prod.snd h
      exact (congrArg Prod.fst (osem_inj e)).symm)]
    rfl
  · exact fun h => absurd (Finset.mem_univ p) h

theorem credit_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed_bar d c]
  revert c
  decide

theorem credit_recv (c : Dev nD) (p : GD) :
    tallyOn (recvCell c p.1 p.2) (launchCredit (Pipeline.owing O₀) 0 (recvCell c p.1 p.2))
      = (tallyAt (recvCell c p.1 p.2) () (NN p.1 p.2) : CellTallies nD τ sig Unit) := by
  unfold tallyAt
  refine congrArg _ (Finsupp.ext fun u => ?_)
  cases u
  rw [Pipeline.launchCredit_owing, Finsupp.single_eq_same, Finset.sum_congr rfl fun d _ => owed_recv d c p,
    Finset.sum_ite_eq' Finset.univ (peer p.1 p.2 c) fun _ => NN p.1 p.2, if_pos (Finset.mem_univ _)]

theorem recv_inj : Function.Injective fun p : GD => (SemLoc.dma (recvS p.1 p.2) : SemLoc sig) := fun a b h =>
  congrArg Prod.fst (osem_inj (show osem (a, 1) = osem (b, 1) from h))

theorem credits (c : Dev nD) :
    (Pipeline.launchCred O₀ c : sProp 𝕄)
      ⊢ iprop(cred (tallyAt (barCell c) () 3) ∗ bigSep Finset.univ fun p : GD => cred (tallyAt (recvCell c p.1 p.2) () (NN p.1 p.2))) := by
  unfold Pipeline.launchCred
  rw [bigSep_univ_at _ (SemLoc.reg barS), credit_bar]
  refine sep_mono_right ?_
  refine (BI.bigSep_subset (t := Finset.univ.image fun p : GD => (SemLoc.dma (recvS p.1 p.2) : SemLoc sig)) ?_).trans ?_
  · intro s hs
    obtain ⟨p, -, rfl⟩ := Finset.mem_image.mp hs
    exact Finset.mem_erase.mpr ⟨osem_ne_bar (p, 1), Finset.mem_univ _⟩
  · rw [bigSep_image_of_injOn recv_inj.injOn]
    exact Entails.of_eq (BI.bigSep_congr fun p _ => by rw [credit_recv])

/-! ## What each device is given -/

/-- What of a device's holdings at launch is not the exchange's. -/
def bundle (c : Dev nD) : sProp 𝕄 :=
  iprop(StableHlo.held (c : Thread nD τ) (Pipeline.ucRefs τ sig) (V0 m c) ∗ cred (tallyAt (barCell c) () 3)
    ∗ (bigSep Finset.univ fun p : GD => cred (tallyAt (recvCell c p.1 p.2) () (NN p.1 p.2)))
    ∗ owes (c : Thread nD τ) (O₀ c) ∅ ∗ ∃ r, prngReg c r)

/-- What of the exchange is given to a device. -/
def linear (c : Dev nD) : sProp 𝕄 :=
  iprop(atPos ER (barCell c) 0 ∅ 0 ∗ (bigSep Finset.univ fun p : GD => stepOpen c p) ∗ barToks c
    ∗ bigSep Finset.univ fun p : GD => stepToks c p)

/-- What every device may read. -/
def shared (K : GSem nD τ sig → ℕ) : sProp 𝕄 :=
  iprop(records (ins m) K ∗ bigSep Finset.univ fun c : Dev nD => reached ER (barCell c) 0)

instance shared_persistent (K : GSem nD τ sig → ℕ) : BI.Persistent (shared m K) := by unfold shared; infer_instance

theorem tok_join (c : Dev nD) :
    iprop((bigSep Finset.univ fun p : GD => stepOpen c p) ∗ (bigSep Finset.univ fun p : GD => stepToks c p)
        ∗ bigSep Finset.univ fun p : GD => cred (tallyAt (recvCell c p.1 p.2) () (NN p.1 p.2)))
      ⊢ (bigSep Finset.univ fun p : GD => tok c p : sProp 𝕄) := by
  have hone (p : GD) : iprop(stepOpen c p ∗ (stepToks c p ∗ cred (tallyAt (recvCell c p.1 p.2) () (NN p.1 p.2)))) ⊢ (tok c p : sProp 𝕄) := by
    unfold stepOpen stepToks tok
    iintro ⟨⟨H1, H2⟩, ⟨H3, H4⟩, H5⟩
    isplitl [H3]; · iexact H3
    isplitl [H4]; · iexact H4
    isplitl [H1]; · iexact H1
    isplitl [H2]; · iexact H2
    iexact H5
  refine (sep_mono .rfl (pair _ _ _)).trans ((pair _ _ _).trans (BI.bigSep_mono fun p _ => hone p))

theorem reached_bar (c : Dev nD) : (bigSep Finset.univ fun c : Dev nD => (reached ER (barCell c) 0 : sProp 𝕄)) ⊢ reached ER (barCell c) 0 :=
  bigSep_elim (Finset.mem_univ c)

theorem bar_join (c : Dev nD) : iprop((bigSep Finset.univ fun c : Dev nD => reached ER (barCell c) 0) ∗ barToks c)
    ⊢ (iprop(barTok c 0 ∗ barTok c 1 ∗ barTok c 2) : sProp 𝕄) := by
  unfold barToks barTok
  rw [bigSep_univ_eq_bigSepL [(0 : Fin 3), (1 : Fin 3), (2 : Fin 3)] (by decide) (by decide)]
  show iprop(_ ∗ (dutyTok ER (barCell (nbr 0 c)) 0 0 ∗ dutyTok ER (barCell (nbr 1 c)) 0 1 ∗ dutyTok ER (barCell (nbr 2 c)) 0 2)) ⊢ _
  iintro ⟨#Hr, H0, H1, H2⟩
  isplitl [H0]
  · isplitl [H0]; · iexact H0
    iapply (reached_bar (F := F) (nbr 0 c)); iexact Hr
  isplitl [H1]
  · isplitl [H1]; · iexact H1
    iapply (reached_bar (F := F) (nbr 1 c)); iexact Hr
  isplitl [H2]; · iexact H2
  iapply (reached_bar (F := F) (nbr 2 c)); iexact Hr

/-- A device at the start of the program. -/
abbrev T₀ (c : Dev nD) : sProp 𝕄 := iprop(StableHlo.held (c : Thread nD τ) (Pipeline.ucRefs τ sig) (V0 m c) ∗ E₀ m c)

theorem T₀_intro (K : GSem nD τ sig → ℕ) (c : Dev nD) : iprop(shared m K ∗ (linear c ∗ bundle m c)) ⊢ T₀ m c := by
  unfold bundle linear shared T₀ E₀ Tk barRes
  iintro ⟨⟨#HR, #Hr⟩, ⟨Hat, Ho, Hb, Hs⟩, Hh, H3, HN, HO, Hp⟩
  isplitl [Hh]; · iexact Hh
  isplitl [Hat Ho Hb Hs H3 HN]
  · iexists K
    isplitr; · iexact HR
    isplitl [Ho Hs HN]
    · iapply (tok_join c)
      isplitl [Ho]; · iexact Ho
      isplitl [Hs] <;> iassumption
    isplitl [Hat H3]
    · isplitl [Hat] <;> iassumption
    iapply (bar_join c)
    isplitr; · iexact Hr
    iexact Hb
  isplitl [Hp]; · iexact Hp
  iexists ∅; iexact HO

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem core_split (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), sems_eq]
  unfold bundle
  iintro ⟨Hh, Hus, HO, Hcr, Hp, HG⟩
  ihave Hc := (credits (F := F) c) $$ Hcr
  icases Hc with ⟨H3, HN⟩
  isplitl [Hh H3 HN HO Hp]
  · isplitl [Hh]; · iexact Hh
    isplitl [H3]; · iexact H3
    isplitl [HN]; · iexact HN
    isplitl [HO]; · iexact HO
    iexists (ρ c); iexact Hp
  isplitl [Hus] <;> iassumption

theorem cores_split : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c))
    ⊢ (iprop((bigSep Finset.univ fun c : Dev nD => bundle m c) ∗ bigSep barCells (fun g => semVal g 0)
        ∗ BI.own (ER (launchOf barCells dmaCells tokens))) : sProp 𝕄) := by
  refine (BI.bigSep_mono fun c _ => core_split m ρ c).trans ((unpair _ _ _).trans (BI.sep_mono (BI.Entails.refl _) ((unpair _ _ _).trans (BI.sep_mono ?_ ?_))))
  · exact Entails.of_eq (BI.bigSep_map (s := Finset.univ) barEmb (Φ := fun g : GSem nD τ sig => (semVal g 0 : sProp 𝕄))).symm
  · exact Entails.of_eq G_all

theorem linear_join :
    iprop(bigSep barCells (fun g => atPos ER g 0 ∅ 0) ∗ bigSep dmaCells (fun g => openTok ER g)
        ∗ bigSep tokens (fun x => dutyTok ER x.1 x.2.1 x.2.2))
      ⊢ (bigSep Finset.univ fun c : Dev nD => linear c : sProp 𝕄) := by
  rw [tokens_deal, open_deal, BI.bigSep_map]
  unfold linear
  refine (sep_mono .rfl ((sep_mono .rfl (pair _ _ _)).trans (pair _ _ _))).trans (pair _ _ _)

/-- Every device's share at launch. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts LL lv)
      ⊢ (|={Set.univ}=> bigSep Finset.univ (T₀ m) : sProp 𝕄) := by
  iintro ⟨H, -⟩
  ihave H := (cores_split m ρ) $$ H
  icases H with ⟨HB, Hv, Hu⟩
  imod (Rounds.fund_launch ER (Rd (ins m)) cells_apart (fun g _ h => h) tokens) $$ [Hv Hu] with ⟨%K, -, #Hinv, #Hr, Hat, Hopen, Htok⟩
  · isplitl [Hv] <;> iassumption
  imodintro
  iapply (bigSep_with_persistent (R := shared m K) (Φ := fun c => iprop(linear c ∗ bundle m c)) fun c _ => T₀_intro m K c)
  isplitr
  · unfold shared
    isplitr
    · iapply (Entails.of_eq (records_make m K)); iexact Hinv
    iapply (Entails.of_eq (BI.bigSep_map (s := Finset.univ) barEmb (Φ := fun g : GSem nD τ sig => (reached ER g 0 : sProp 𝕄))))
    iexact Hr
  iapply (pair _ _ _)
  isplitr [HB]
  · iapply (linear_join (F := F))
    isplitl [Hat]; · iexact Hat
    isplitl [Hopen] <;> iassumption
  iexact HB

/-! ## The run -/

theorem unscoped_eq : ∀ sm : SemLoc sig, sm.isScoped .tc = false → sm = .reg barS := by decide

/-- What a device holds besides its buffers, before and after the kernel. -/
def EE : Fin 2 → Dev nD → sProp 𝕄
  | 0 => E₀ m
  | 1 => E₁

/-- Every buffer a device keeps ends at its last value. -/
abbrev EndsAt (c : Dev nD) (s : MemSt nD τ sig (Elt F)) : Prop :=
  ∀ b ∈ Pipeline.ucRefs τ sig, s.mem ((c : Thread nD τ).1, b) = V3 m (outs m) c b

theorem kept (r : Ref sig .tc) (h : r.isScoped = false) : Proc.devRef (τ := τ) .tc r ∈ Pipeline.ucRefs τ sig :=
  Finset.mem_filter.mpr ⟨StableHlo.devRef_mem_tcRefs r, fun h' => Bool.false_ne_true (h.symm.trans h')⟩

set_option backward.isDefEq.respectTransparency.types false in
/-- The program terminates on every device; each buffer it keeps ends at its last value and every counter at zero. -/
theorem run_all : θ_run defs (onTc (τ := τ) (main (F := F))) ⟨m, fun _ => 0, ρ⟩
    (fun r => (∀ c : Dev nD, EndsAt m c r.2) ∧ r.2.sem = fun _ => 0) := by
  refine Pipeline.θ_run_regions_kit_dev_sems (pcfgs (F := F)) adm (pdats m) () cellOf_inj EP defs₀ 𝒱₀ LL lv m ρ main
    (segs m (outs m) 𝒱₀ LL lv (EE m) () (pdats m) (region m))
    (fun c Q => by
      rewrite [main_chain c, Seg.run_eq_chain,
        show (segs m (outs m) 𝒱₀ LL lv (EE m) () (pdats m) (region m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ LL_of_ne (G (F := F)) (u₀ (F := F))
    (by
      unfold u₀
      rw [G_all]
      iintro Hu
      ihave H := (ownU_pair _ _) $$ Hu
      icases H with ⟨HP, HX⟩
      imodintro
      isplitl [HP] <;> iassumption)
    (T₀ := T₀ m)
    (Tₙ := fun c => iprop(StableHlo.held (c : Thread nD τ) (Pipeline.ucRefs τ sig) (V3 m (outs m) c) ∗ semVal (barCell c) 0))
    (hch := fun c => ⟨.rfl, enter m c, leave m c, ?_⟩)
    (hinit := init m ρ) (QY := fun c s => EndsAt m c s ∧ s.sem (barCell c) = 0)
    (hfin := fun c s' => ?_) (hQ := fun s h hs => ?_)
  · show iprop(StableHlo.held (c : Thread nD τ) (Pipeline.ucRefs τ sig) (V3 m (outs m) c) ∗ E₁ c) ⊢ _
    unfold E₁
    iintro ⟨Hh, Hb, HO⟩
    isplitr [HO]
    · isplitl [Hh] <;> iassumption
    iexact HO
  · unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨h, by simpa using hb⟩
    iexact HSI
  · exact ⟨fun c => (h c).1, sem_eq_zero hs fun c sm hsm => by
      obtain rfl := unscoped_eq sm hsm
      exact (h c).2⟩

end Cert.KernelIdeal.Hand

end
-- ==== Proof.Frames.lean ====
/-
  The frames: each program ends with its arguments unchanged and every counter at zero. The kernel as printed is
  the program with the named constant read as its own word.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem
open Cert.KernelIdeal.Hand Cert.KernelIdeal.Gen

variable {F : FTy → Type} [FloatOps F] [Named F]

open Cert.KernelIdeal in
/-- The final state holds the arguments it began with. -/
theorem args_kept (m : (ℓ : Loc nD τ sig) → Buf (Elt F) ℓ) (c : Dev nD) (s : MemSt nD τ sig (Elt F)) (h : EndsAt m c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4) :=
  ⟨(h _ (kept main_arg0 rfl)).trans (V3_main_arg0 m (outs m) c), (h _ (kept main_arg1 rfl)).trans (V3_main_arg1 m (outs m) c),
    (h _ (kept main_arg2 rfl)).trans (V3_main_arg2 m (outs m) c), (h _ (kept main_arg3 rfl)).trans (V3_main_arg3 m (outs m) c),
    (h _ (kept main_arg4 rfl)).trans (V3_main_arg4 m (outs m) c)⟩

/-- At the words a named constant is the word it was printed with. -/
local instance namedBits : Named Bits where
  named _ _ {φ} b := Scalar.ofBits φ b

theorem frame_kernelIdeal : Cert.quiescent_KernelIdeal := fun m ρ _ =>
  (θ_run Cert.KernelIdeal.defs _ _).mono (fun r h => ⟨fun c => args_kept m c r.2 (h.1 c), h.2⟩) (run_all m ρ)

/-- The two printings of the kernel's body agree at the words, -/
theorem same_body : @Cert.KernelIdeal.cc0__body Bits _ _ _ = @Cert.Kernel.cc0__body Bits _ _ := rfl

/-- so do the tables of the bodies, -/
theorem same_defs₀ : @Cert.KernelIdeal.defs₀ Bits _ _ _ = @Cert.Kernel.defs₀ Bits _ _ := by
  unfold Cert.KernelIdeal.defs₀ Cert.Kernel.defs₀
  refine congrArg Defs.onTc (funext fun l => funext fun x => ?_)
  match l, x with
  | 0, (t, s) => rfl

/-- the tables with the pipelines' regions, -/
theorem same_defs : @Cert.KernelIdeal.defs Bits _ _ _ = @Cert.Kernel.defs Bits _ _ :=
  congrArg (Pipeline.defs (Cert.Kernel.pcfgs (F := Bits))) same_defs₀

/-- and the programs. -/
theorem same_main : Cert.KernelIdeal.main (F := Bits) = Cert.Kernel.main (F := Bits) := rfl

theorem frame_kernel : Cert.quiescent_Kernel := fun m ρ _ => by
  have h := (θ_run (Cert.KernelIdeal.defs (F := Bits)) _ _).mono
    (fun r h => (⟨fun c => args_kept (F := Bits) m c r.2 (h.1 c), h.2⟩ : (∀ c, _) ∧ _)) (run_all (F := Bits) m ρ)
  rw [same_defs, same_main] at h
  exact h

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xCE6E6B28#32 ⊥ rfl

end Cert.Proof

end
-- ==== Proof.Spec.lean ====
/-
  The attention block over the real numbers: what both programs compute from finite inputs. The queries, the scaled scores,
  the weights of the columns a row looks at, a head's normalized sum and the output row.
-/
module

public import Idealize.ShloMosaic.PureOps.Ideal.Laws
public import Idealize.ShloMosaic.Lib.IdealHost

@[expose] public section

noncomputable section

namespace Cert.Hand

open Idealize.ShloMosaic
open scoped BigOperators

/-- Real inputs: the rows, the query projection, keys and values by position, head and feature, the output projection. -/
structure Reals where
  x : Fin 2048 → Fin 1024 → ℝ
  wq : Fin 1024 → Fin 8192 → ℝ
  k : Fin 2048 → Fin 64 → Fin 128 → ℝ
  v : Fin 2048 → Fin 64 → Fin 128 → ℝ
  wo : Fin 8192 → Fin 1024 → ℝ

namespace Reals

variable (A : Reals)

/-- The factor of the scores. -/
def scale : ℝ := (Ideal.ofBits .f32 0x3DB504F3#32).toReal

def query (i : Fin 2048) (n : Fin 8192) : ℝ := ∑ m : Fin 1024, A.x i m * A.wq m n

/-- A feature of a head. -/
abbrev feat (h : Fin 64) (e : Fin 128) : Fin 8192 := ⟨128 * h.val + e.val, by omega⟩

def score (h : Fin 64) (i t : Fin 2048) : ℝ := (∑ e : Fin 128, A.query i (feat h e) * A.k t h e) * scale

def weight (h : Fin 64) (i t : Fin 2048) : ℝ := if t.val / 64 ≤ i.val / 64 then Real.exp (A.score h i t) else 0

def head (h : Fin 64) (i : Fin 2048) (d : Fin 128) : ℝ :=
  (∑ t, A.weight h i t * A.v t h d) * (1 / ∑ t, A.weight h i t)

def out (i : Fin 2048) (j : Fin 1024) : ℝ :=
  ∑ n : Fin 8192, A.head ⟨n.val / 128, by omega⟩ i ⟨n.val % 128, by omega⟩ * A.wo n j

theorem weight_nonneg (h : Fin 64) (i t : Fin 2048) : 0 ≤ A.weight h i t := by
  unfold weight; split
  · exact (Real.exp_pos _).le
  · exact le_rfl

theorem weight_self_pos (h : Fin 64) (i : Fin 2048) : 0 < A.weight h i i := by
  unfold weight; rw [if_pos le_rfl]; exact Real.exp_pos _

theorem total_pos (h : Fin 64) (i : Fin 2048) : 0 < ∑ t, A.weight h i t :=
  Finset.sum_pos' (fun t _ => A.weight_nonneg h i t) ⟨i, Finset.mem_univ _, A.weight_self_pos h i⟩

end Reals

/-- A real pattern is the real it denotes. -/
theorem scale_coe : Ideal.ofBits .f32 0x3DB504F3#32 = (Reals.scale : EReal) := by
  refine (EReal.coe_toReal ?_ ?_).symm <;> simp [Ideal.ofBits, Ideal.ieee, -EReal.coe_mul]

theorem negInf_f32 : Ideal.ofBits .f32 0xFF800000#32 = (⊥ : EReal) := by simp [Ideal.ofBits, Ideal.ieee]
theorem posInf_f32 : Ideal.ofBits .f32 0x7F800000#32 = (⊤ : EReal) := by simp [Ideal.ofBits, Ideal.ieee]

/-- A finite sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing two reals by a divisor that is not zero. -/
theorem div_real (a b : ℝ) (h : b ≠ 0) : Ideal.div (a : EReal) (b : EReal) = ((a * (1 / b) : ℝ) : EReal) := by
  rw [Ideal.div_coe h, EReal.coe_mul]

/-- The largest of some reals and minus infinities, at least one a real, is a real. -/
theorem fold_max_real {ι : Type} [DecidableEq ι] (f : ι → EReal) (s : Finset ι) (hf : ∀ i, f i ≠ ⊤) :
    ∀ i₀ ∈ s, f i₀ ≠ ⊥ → ∃ M : ℝ, s.fold max (⊥ : EReal) f = (M : EReal) := by
  intro i₀ hi hb
  have top : ∀ s : Finset ι, s.fold max (⊥ : EReal) f ≠ ⊤ := by
    intro s
    induction s using Finset.induction_on with
    | empty => simp
    | insert a s ha ih =>
      rw [Finset.fold_insert ha]
      rcases max_choice (f a) (s.fold max (⊥ : EReal) f) with h | h <;> rw [h]
      · exact hf a
      · exact ih
  have bot : s.fold max (⊥ : EReal) f ≠ ⊥ := by
    rw [← Finset.insert_erase hi, Finset.fold_insert (Finset.notMem_erase _ _)]
    intro h
    exact hb (le_bot_iff.mp (h ▸ le_max_left _ _))
  exact ⟨_, (EReal.coe_toReal (top s) bot).symm⟩

/-- Subtracting any real from the kept scores before the exponentials leaves the normalized weights unchanged. -/
theorem softmax_shift {ι : Type} [Fintype ι] (s : ι → ℝ) (keep : ι → Prop) [DecidablePred keep] (M : ℝ) (t : ι) :
    (if keep t then Real.exp (s t - M) else 0) * (1 / ∑ t, if keep t then Real.exp (s t - M) else 0)
      = (if keep t then Real.exp (s t) else 0) * (1 / ∑ t, if keep t then Real.exp (s t) else 0) := by
  have e : ∀ t, (if keep t then Real.exp (s t - M) else 0) = (if keep t then Real.exp (s t) else 0) * Real.exp (-M) := by
    intro t
    split
    · rw [sub_eq_add_neg, Real.exp_add]
    · rw [zero_mul]
  rw [Finset.sum_congr rfl fun t _ => e t, e t, ← Finset.sum_mul, one_div, one_div, mul_inv]
  have := (Real.exp_pos (-M)).ne'
  field_simp

end Cert.Hand

end
-- ==== Proof.Finite.lean ====
/-
  The precondition read back: every element of every argument is a real number.
-/
module

public import proofs.«01_k».proof.Pre_finite_KernelIdeal
public import proofs.«01_k».proof.Pre_finite_ReferenceIdeal
public import proofs.«01_k».proof.Proof.Spec
public import Idealize.ShloMosaic.Lib.ReduceAll

@[expose] public section

noncomputable section

namespace Cert.Hand

open Idealize.ShloMosaic

theorem facts_kernel : Cert.Pre_finite_KernelIdeal.Facts := by constructor <;> decide
theorem facts_reference : Cert.Pre_finite_ReferenceIdeal.Facts := by constructor <;> decide

/-- An extended real whose absolute value is below `⊤` is a real number. -/
theorem real_of_abs {a : EReal} (h : Ideal.cmp .olt (max a (-a)) ⊤ = 1#1) : (a.toReal : EReal) = a := by
  have hlt : max a (-a) < ⊤ := by
    by_contra hn
    rw [show Ideal.cmp .olt (max a (-a)) ⊤ = BitVec.ofBool (decide (max a (-a) < ⊤)) from rfl, decide_eq_false hn] at h
    exact absurd h (by decide)
  refine EReal.coe_toReal (fun ht => ?_) (fun hb => ?_)
  · rw [ht] at hlt
    exact absurd hlt (by simp)
  · rw [hb] at hlt
    exact absurd hlt (by simp)

open Cert.Pre_finite_KernelIdeal

/-- An argument all of whose elements are below `⊤` in absolute value has real elements. -/
theorem real_of_all {s : Shape} {axes : List (Fin s.rank)} (x : FVec Ideal s .bf16) (hf : FTy.bits .bf16 < FTy.bits .f32)
    (hb : S_.BroadcastsInDim s (![] : Fin 0 → Fin s.rank)) (hr : s.ReducesTo axes S_) (hu : 0 < S_.numel) (j : S_.Idx)
    (h : Host.reduce IntOp.andi (cmpf .olt (Host.absf (extf .f32 x hf))
      (broadcastInDim s ![] hb (constant (F := Ideal) S_ .f32 0x7F800000#32))) (constantI S_ 1 1#1) hr hu j = 1#1) (i : s.Idx) :
    ((x i : EReal).toReal : EReal) = x i := by
  haveI : Subsingleton S_.Idx := ⟨fun a b => funext fun k => k.elim0⟩
  have h1 := Host.reduce_andi_all _ _ hr hu j h i
  refine real_of_abs (Eq.trans ?_ h1)
  show Ideal.cmp .olt (max (x i : EReal) (-(x i : EReal))) ⊤
    = Ideal.cmp .olt (max (x i : EReal) (-(x i : EReal))) (Ideal.ofBits .f32 0x7F800000#32)
  rw [posInf_f32]

theorem finite_args [Facts] (x : FVec Ideal S1x2048x1024 .bf16) (wq : FVec Ideal S1024x8192 .bf16)
    (k v : FVec Ideal S1x2048x8x128 .bf16) (wo : FVec Ideal S8192x1024 .bf16) (h : fn (F := Ideal) x wq k v wo = fun _ => 1#1) :
    (∀ i, ((x i : EReal).toReal : EReal) = x i) ∧ (∀ i, ((wq i : EReal).toReal : EReal) = wq i)
      ∧ (∀ i, ((k i : EReal).toReal : EReal) = k i) ∧ (∀ i, ((v i : EReal).toReal : EReal) = v i)
      ∧ (∀ i, ((wo i : EReal).toReal : EReal) = wo i) := by
  have h0 := congrFun h (Shape.Idx.first Facts.h_S_)
  obtain ⟨h1, ho⟩ := IntOp.andi_eq_one.1 h0
  obtain ⟨h2, hv⟩ := IntOp.andi_eq_one.1 h1
  obtain ⟨h3, hk⟩ := IntOp.andi_eq_one.1 h2
  obtain ⟨h4, hq⟩ := IntOp.andi_eq_one.1 h3
  obtain ⟨-, hx⟩ := IntOp.andi_eq_one.1 h4
  exact ⟨real_of_all x _ _ _ _ _ hx, real_of_all wq _ _ _ _ _ hq, real_of_all k _ _ _ _ _ hk, real_of_all v _ _ _ _ _ hv,
    real_of_all wo _ _ _ _ _ ho⟩

end Cert.Hand

end
-- ==== Proof.Exchange.lean ====
/-
  What the exchange leaves in the output, over the extended reals: every element is a sum of the devices' own
  contributions, each counted a number of times; a step adds or copies these counts, and after the six steps of a row's
  group every device's contribution is counted once.
-/
module

public import proofs.«01_k».proof.Proof.Finish
public import Idealize.ShloMosaic.Lib.ValueIdx
public import Idealize.ShloMosaic.Lib.Pipeline.Value

@[expose] public section

noncomputable section

namespace Cert.KernelIdeal.Hand

open Idealize.ShloMosaic Idealize.ShloMosaic.TcCoe Idealize.ShloMosaic.ValueIdx
open Cert.KernelIdeal Cert.KernelIdeal.Gen
open scoped BigOperators

/-- The element of a rectangle of rows at the place an index has in it. -/
theorem ld_local (R : FVec Ideal S2048x1024 .f32) (o o' n : ℕ) (h : o + n ≤ 2048) (y : S2048x1024.Idx)
    (hy : ∀ a : Fin 2, (![o', 0] : Fin 2 → ℕ) a ≤ (y a).val ∧ (y a).val < (![o', 0] : Fin 2 → ℕ) a + (![n, 1024] : Fin 2 → ℕ) a)
    (e : o = o') :
    ld (F := Ideal) (s := S2048x1024) (e := .f32) R (orect o n h)
      (Rect.unitLocal (s := S2048x1024) (off := ![o', 0]) (size := ![n, 1024]) y hy) = R y := by
  subst e
  refine congrArg R (funext fun a => Fin.ext ?_)
  have := hy a
  show (![o, 0] : Fin 2 → ℕ) a + 1 * ((y a).val - (![o, 0] : Fin 2 → ℕ) a) = (y a).val
  omega

/-- One step, at an element: a halving step adds the partner's number, a doubling step takes it over. -/
theorem stepR_apply (g : Fin 5) (d : Fin 6) (R : Dev nD → FVec Ideal S2048x1024 .f32) (c : Dev nD) (y : S2048x1024.Idx) :
    stepR g d R c y = if boff g d c ≤ (y (0 : Fin 2)).val ∧ (y (0 : Fin 2)).val < boff g d c + nrow g d then
      (if d.val < 3 then (R c y + R (peer g d c) y : EReal) else R (peer g d c) y) else R c y := by
  unfold stepR
  by_cases h : boff g d c ≤ (y (0 : Fin 2)).val ∧ (y (0 : Fin 2)).val < boff g d c + nrow g d
  · rw [dif_pos h, if_pos h]
    have hy := Rect.unit_rows_mem (d := ![2048, 1024]) (size := ![nrow g d, 1024]) y (W := nrow g d) rfl rfl h
    have e1 : ∀ X : FVec Ideal S2048x1024 .f32, sendF g d (peer g d c) X
        (Rect.unitLocal (s := S2048x1024) (off := ![boff g d c, 0]) (size := (Ls g d).size) y hy) = (X y : EReal) := fun X => by
      unfold sendF
      rw [shapeCast_self, truncf_apply, shapeCast_self]
      exact ld_local X _ _ _ _ y hy (aoff_peer g d c)
    unfold updF
    by_cases hd : d.val < 3
    · rw [if_pos hd, if_pos hd, shapeCast_self, addf_apply, extf_apply, e1]
      exact congrArg (· + _) (ld_local (R c) _ _ _ _ y hy rfl)
    · rw [if_neg hd, if_neg hd, extf_apply, e1]
  · rw [dif_neg h, if_neg h]

/-- The rows of a group's smallest blocks. -/
def unitRows (g : Fin 5) : ℕ := nrow g 2

/-- How often each device's contribution is counted after some steps, in a block of a group's rows, on a device. -/
def count (g : Fin 5) (b : ℕ) : ℕ → Dev nD → Dev nD → ℕ
  | 0 => fun c c' => if c = c' then 1 else 0
  | n + 1 => fun c c' =>
    if h : n < 6 then
      if (boff g ⟨n, h⟩ c - gbase g) / unitRows g ≤ b ∧ b < (boff g ⟨n, h⟩ c - gbase g) / unitRows g + nrow g ⟨n, h⟩ / unitRows g then
        if n < 3 then count g b n c c' + count g b n (peer g ⟨n, h⟩ c) c' else count g b n (peer g ⟨n, h⟩ c) c'
      else count g b n c c'
    else count g b n c c'

theorem count_all : ∀ (g : Fin 5) (b : Fin 8) (c c' : Dev nD), count g b.val 6 c c' = 1 := by decide +kernel

/-- A step's rows are whole blocks. -/
theorem blocks_whole : ∀ (g : Fin 5) (d : Fin 6) (c : Dev nD),
    boff g d c = gbase g + unitRows g * ((boff g d c - gbase g) / unitRows g) ∧ nrow g d = unitRows g * (nrow g d / unitRows g) := by
  decide +kernel

theorem unit_cases : ∀ g : Fin 5, unitRows g = 64 ∨ unitRows g = 32 := by decide

theorem in_blocks (g : Fin 5) (d : Fin 6) (c : Dev nD) (r : ℕ) (hr : gbase g ≤ r) :
    (boff g d c ≤ r ∧ r < boff g d c + nrow g d)
      ↔ ((boff g d c - gbase g) / unitRows g ≤ (r - gbase g) / unitRows g
        ∧ (r - gbase g) / unitRows g < (boff g d c - gbase g) / unitRows g + nrow g d / unitRows g) := by
  obtain ⟨h1, h2⟩ := blocks_whole g d c
  generalize (boff g d c - gbase g) / unitRows g = k at h1 ⊢
  generalize nrow g d / unitRows g = l at h2 ⊢
  rcases unit_cases g with hu | hu <;> rw [hu] at h1 h2 ⊢ <;> omega

/-- The output after some steps as a sum of contributions. -/
theorem Rv_sum (I : Dev nD → Ins Ideal) (g : Fin 5) (y : S2048x1024.Idx) (hy : gbase g ≤ (y (0 : Fin 2)).val) :
    ∀ (n : ℕ) (c : Dev nD), Rv I g n c y
      = ∑ c' : Dev nD, count g (((y (0 : Fin 2)).val - gbase g) / unitRows g) n c c' • (own (I c') y : EReal)
  | 0, c => by
    show own (I c) y = ∑ c' : Dev nD, (if c = c' then 1 else 0) • (own (I c') y : EReal)
    simp only [ite_smul, one_smul, zero_smul, Finset.sum_ite_eq, Finset.mem_univ, if_true]
  | n + 1, c => by
    by_cases h : n < 6
    · have ih := Rv_sum I g y hy n
      rw [Rv_succ I g ⟨n, h⟩, stepR_apply]
      simp only [count, dif_pos h, in_blocks g ⟨n, h⟩ c _ hy]
      split
      · split
        · rw [ih, ih, ← Finset.sum_add_distrib]
          exact Finset.sum_congr rfl fun c' _ => (add_nsmul _ _ _).symm
        · exact ih _
      · exact ih _
    · show (if h : n < 6 then stepR g ⟨n, h⟩ (Rv I g n) else Rv I g n) c y = _
      simp only [count, dif_neg h]
      exact Rv_sum I g y hy n c

theorem gend_eq : ∀ g : Fin 5, gend g = gbase g + 8 * unitRows g := by decide

theorem block_lt (g : Fin 5) (r : ℕ) (h : gbase g ≤ r) (h' : r < gend g) : (r - gbase g) / unitRows g < 8 := by
  have e : gend g = gbase g + 8 * unitRows g := gend_eq g
  rcases unit_cases g with hu | hu <;> rw [hu] at e ⊢ <;> omega

/-- At the end every element of the output, on every device, is the sum of all devices' contributions. -/
theorem outV_sum (I : Dev nD → Ins Ideal) (c : Dev nD) (y : S2048x1024.Idx) :
    outV I c y = ∑ c' : Dev nD, (own (I c') y : EReal) := by
  obtain ⟨h, h'⟩ := grp_in y
  refine (Rv_sum I (grp y) y h 6 c).trans (Finset.sum_congr rfl fun c' _ => ?_)
  rw [count_all (grp y) ⟨_, block_lt _ _ h h'⟩, one_smul]

end Cert.KernelIdeal.Hand

end
-- ==== Proof.Heads.lean ====
/-
  One head of the attention block on one tile of queries, as a function of the number of columns the tile looks at: the
  masked scores' exponentials, their row sums, the weighted sum of the values and the normalization. The kernel's four
  tiles of eight heads are thirty-two instances of it.
-/
module

public import proofs.«01_k».proof.Proof.Values
public import Idealize.ShloMosaic.Lib.MatmulPlain
public import Idealize.ShloMosaic.Lib.IdealHost
public import Idealize.ShloMosaic.Lib.Pipeline.Value

@[expose] public section

noncomputable section

namespace Cert.KernelIdeal.Hand

open Idealize.ShloMosaic Idealize.ShloMosaic.TcCoe Idealize.ShloMosaic.ValueIdx
open Cert.KernelIdeal Cert.KernelIdeal.Gen
open scoped BigOperators

/-- The scores of a tile against `n` columns, -/
abbrev SQ (n : ℕ) : Shape := ⟨2, ![512, n]⟩
/-- the `n` columns of one head -/
abbrev SK (n : ℕ) : Shape := ⟨2, ![n, 128]⟩
/-- and the same as a block of all heads. -/
abbrev SB (n : ℕ) : Shape := ⟨3, ![1, n, 128]⟩

/-- The exponentials of a tile's masked scores. -/
def expo (n : ℕ) (q : FVec Ideal S512x128 .bf16) (keep : IVec (SQ n) 1) (k : FVec Ideal (SK n) .bf16) :
    FVec Ideal (SQ n) .f32 :=
  exp (select keep (matmul (DotDims.transposedRhs 512 128 n) none q k (constant (SQ n) .f32 0x00000000#32))
    (broadcast (SQ n) (Named.named κ "mask" 0xCE6E6B28#32)))

/-- The normalized weighted sum of the values under given weights. -/
def mix (n : ℕ) (w : FVec Ideal (SQ n) .f32) (v : FVec Ideal (SK n) .bf16) (hr : (SQ n).Reduces [1] S512) :
    FVec Ideal S512x128 .bf16 :=
  truncf .bf16 (mulf
    (matmul (DotDims.plain 512 n 128) none (truncf .bf16 w bitsLt_bf16_f32 : FVec Ideal (SQ n) .bf16) v
      (constant S512x128 .f32 0x00000000#32))
    (broadcastTo S512x128 (divf (broadcast S512x1 (Scalar.ofBits .f32 0x3F800000#32))
      (shapeCast S512x1 (multiReduction .add [1] S512 w 0x00000000#32 hr (.inl rfl) rfl) shapeCasts_S512_S512x1))
      broadcasts_S512x1_S512x128)) bitsLt_bf16_f32

/-- A tile's mask from its first row. -/
def maskOf (b : BitVec 32) (n : ℕ) (hi : (SQ n).Iotas .tc 32 [1]) (hb : S512x1.Broadcasts (SQ n)) : IVec (SQ n) 1 :=
  let x : IVec S512x1 32 := addi (broadcast S512x1 b) (iota .tc S512x1 32 [0] iota_S512x1_d0_w32)
  let c (z : BitVec 32) : IVec S512x1 32 := broadcast S512x1 z
  let sx : IVec S512x1 32 := subi (extui 32 (cmpi .sgt x (c 0#32)) natLt_1_32) (extui 32 (cmpi .slt x (c 0#32)) natLt_1_32)
  let sd : BitVec 32 := Scalar.subi (Scalar.extui (Scalar.cmpi .sgt 64#32 0#32)) (Scalar.extui (Scalar.cmpi .slt 64#32 0#32))
  let fix : IVec S512x1 1 := andi (cmpi .ne sx (c sd)) (cmpi .ne (remsi x (c 64#32)) (c 0#32))
  let fl : IVec S512x1 32 := select fix (subi (divsi x (c 64#32)) (c 1#32)) (divsi x (c 64#32))
  cmpi .slt (iota .tc (SQ n) 32 [1] hi) (broadcastTo (SQ n) (muli (addi fl (c 1#32)) (c 64#32)) hb)

/-- The columns a tile looks at. -/
abbrev cols (g : Fin 4) : ℕ := 512 * (g.val + 1)

/-- A tile's queries, as the kernel computes them, -/
def qT : Fin 4 → Ins Ideal → FVec Ideal S512x1024 .bf16
  | 0 => T.v41 | 1 => T.v244 | 2 => T.v581 | 3 => T.v966
/-- its mask -/
def mT : (g : Fin 4) → Ins Ideal → IVec (SQ (cols g)) 1
  | 0 => T.v75 | 1 => T.v278 | 2 => T.v615 | 3 => T.v1000
/-- and its eight heads. -/
def hT (J : Ins Ideal) : Fin 4 → Fin 8 → FVec Ideal S512x128 .bf16
  | 0 => ![T.v93 J, T.v111 J, T.v129 J, T.v147 J, T.v165 J, T.v183 J, T.v201 J,
      truncf .bf16 (mulf (T.v214 J) (broadcastTo S512x128 (T.v216 J) broadcasts_S512x1_S512x128)) bitsLt_bf16_f32]
  | 1 => ![T.v296 J, T.v314 J, T.v367 J, T.v385 J, T.v438 J, T.v456 J, T.v506 J, T.v524 J]
  | 2 => ![T.v633 J, T.v651 J, T.v736 J, T.v754 J, T.v823 J, T.v841 J, T.v891 J, T.v909 J]
  | 3 => ![T.v1018 J, T.v1036 J, T.v1121 J, T.v1139 J, T.v1208 J, T.v1226 J, T.v1276 J, T.v1294 J]

theorem reduces_cols (g : Fin 4) : (SQ (cols g)).Reduces [1] S512 := by revert g; decide
theorem iotas_cols (g : Fin 4) : (SQ (cols g)).Iotas .tc 32 [1] := by revert g; decide
theorem broadcasts_cols (g : Fin 4) : S512x1.Broadcasts (SQ (cols g)) := by revert g; decide
theorem casts_cols (g : Fin 4) : (SB (cols g)).ShapeCasts (SK (cols g)) := by revert g; decide
theorem slices_head (h : Fin 8) : S512x1024.Slices ![0, 128 * h.val] S512x128 := by revert h; decide
theorem slices_tile (g : Fin 4) : S2048x1024.Slices ![512 * g.val, 0] S512x1024 := by revert g; decide
theorem block_le (g : Fin 4) (h : Fin 8) : ∀ a : Fin 3, (![h.val, 0, 0] : Fin 3 → ℕ) a + (SB (cols g)).size a ≤ S8x2048x128.size a := by
  revert g h; decide

/-- The first columns of one head of the keys or values. -/
def colsOf (R : Vec Ideal S8x2048x128 .bf16) (g : Fin 4) (h : Fin 8) : FVec Ideal (SK (cols g)) .bf16 :=
  shapeCast (SK (cols g)) (ld R (Rect.unit (s := S8x2048x128) ![h.val, 0, 0] (SB (cols g)).size (block_le g h))) (casts_cols g)

theorem mT_eq (g : Fin 4) (J : Ins Ideal) :
    mT g J = maskOf (BitVec.ofNat 32 (512 * g.val)) (cols g) (iotas_cols g) (broadcasts_cols g) := by
  match g with
  | 0 => rfl
  | 1 => rfl
  | 2 => rfl
  | 3 => rfl

theorem qT_eq (g : Fin 4) (J : Ins Ideal) :
    qT g J = truncf .bf16 (mulf (matmul (DotDims.plain 512 1024 1024) none
      (extractStridedSlice S512x1024 ![512 * g.val, 0] (T.v32 J) (slices_tile g)) (T.v34 J)
      (constant S512x1024 .f32 0x00000000#32)) (broadcast S512x1024 (Scalar.ofBits .f32 0x3DB504F3#32))) bitsLt_bf16_f32 := by
  match g with
  | 0 => rfl
  | 1 => rfl
  | 2 => rfl
  | 3 => rfl

/-- Every head of every tile is the same function of its tile's queries and mask and of its keys and values. -/
theorem hT_eq (J : Ins Ideal) (g : Fin 4) (h : Fin 8) :
    hT J g h = mix (cols g) (expo (cols g) (extractStridedSlice S512x128 ![0, 128 * h.val] (qT g J) (slices_head h))
      (mT g J) (colsOf J.k g h)) (colsOf J.v g h) (reduces_cols g) := by
  match g with
  | 0 => fin_cases h <;> rfl
  | 1 => fin_cases h <;> rfl
  | 2 => fin_cases h <;> rfl
  | 3 => fin_cases h <;> rfl

/-- A tile's output is its heads side by side, times the device's rows of the output projection. -/
theorem tileV_eq (g : Fin 4) (J : Ins Ideal) :
    tileV g J = matmul (DotDims.plain 512 1024 1024) none
      (concatenate S512x1024 1 (List.ofFn fun h : Fin 8 => (⟨S512x128, hT J g h⟩ : (s : Shape) × (s.Idx → Ideal .bf16)))
        concatenates_S512x128_S512x128_S512x128_S512x128_S512x128_S512x128_S512x128_S512x128_S512x1024_d1)
      (T.v36 J) (constant S512x1024 .f32 0x00000000#32) := by
  match g with
  | 0 => rfl
  | 1 => rfl
  | 2 => rfl
  | 3 => rfl

end Cert.KernelIdeal.Hand

end
-- ==== Proof.Tiles.lean ====
/-
  The kernel's tiles read at an index, over the extended reals: the queries, the mask, a head's exponentials and its
  normalized sum, and a row of the tile's output.
-/
module

public import proofs.«01_k».proof.Proof.Heads

@[expose] public section

noncomputable section

namespace Cert.KernelIdeal.Hand

open Idealize.ShloMosaic Idealize.ShloMosaic.TcCoe Idealize.ShloMosaic.ValueIdx
open Cert.KernelIdeal Cert.KernelIdeal.Gen
open scoped BigOperators

theorem mask_named : (Named.named κ "mask" 0xCE6E6B28#32 : Ideal .f32) = (⊥ : EReal) :=
  IdealRules.named_const.ideal_named_scalar _ _ _ _ rfl

/-- The exponential of a masked score. -/
theorem expo_apply (n : ℕ) (q : FVec Ideal S512x128 .bf16) (keep : IVec (SQ n) 1) (k : FVec Ideal (SK n) .bf16)
    (r : Fin 512) (t : Fin n) :
    expo n q keep k (ix2 r t)
      = Ideal.exp (Scalar.select (keep (ix2 r t)) (∑ e : Fin 128, q (ix2 r e) * k (ix2 t e)) (⊥ : EReal)) := by
  refine congrArg₂ (fun z b : EReal => Ideal.exp (Scalar.select (keep (ix2 r t)) z b)) ?_ mask_named
  refine (Ideal.matmul_transposedRhs_apply none q k _ r t).trans ?_
  rw [show (constant (F := Ideal) (SQ n) .f32 0x00000000#32) (ix2 r t) = (0 : EReal) from Ideal.ofBits_zero_f32, zero_add]

/-- A head's output. -/
theorem mix_apply (n : ℕ) (w : FVec Ideal (SQ n) .f32) (v : FVec Ideal (SK n) .bf16) (hr : (SQ n).Reduces [1] S512)
    (r : Fin 512) (d : Fin 128) :
    mix n w v hr (ix2 r d) = (∑ t : Fin n, w (ix2 r t) * v (ix2 t d)) * Ideal.div 1 (∑ t : Fin n, w (ix2 r t)) := by
  refine congrArg₂ (fun a b : EReal => a * b) ?_ ?_
  · refine (Ideal.matmul_plain_apply none _ v _ r d).trans ?_
    rw [show (constant (F := Ideal) S512x128 .f32 0x00000000#32) (ix2 r d) = (0 : EReal) from Ideal.ofBits_zero_f32, zero_add]
    rfl
  · refine (broadcastTo_apply _ _ (ix2 r d) (ix2 r 0) (Fin.forall_fin_two.mpr ⟨?_, ?_⟩)).trans ?_
    · rw [if_neg (by decide)]; rfl
    · rw [if_pos (by decide)]; rfl
    · refine congrArg₂ Ideal.div Ideal.ofBits_one_f32 ?_
      refine (shapeCast_apply _ _ (ix2 r 0) (ix1 r) ?_).trans ?_
      · simp [Shape.rowMajor_val_one, Shape.rowMajor_val_two]
      · refine (Ideal.multiReduction_add_single w _ hr _ _ (ix1 r)).trans ?_
        refine Finset.sum_congr rfl fun t _ => congrArg w ?_
        funext a; apply Fin.ext
        match a with
        | ⟨0, _⟩ => rfl
        | ⟨1, _⟩ => rfl

/-- A column of a head of the keys or values. -/
theorem colsOf_apply (R : Vec Ideal S8x2048x128 .bf16) (g : Fin 4) (h : Fin 8) (t : Fin (cols g)) (d : Fin 128) :
    colsOf R g h (ix2 t d) = R (ix3 h ⟨t.val, by have := t.isLt; have := g.isLt; simp only [cols] at *; omega⟩ d) := by
  refine (shapeCast_apply _ _ (ix2 t d) (ix3 0 t d) ?_).trans (congrArg R ?_)
  · rw [Shape.rowMajor_val_three, Shape.rowMajor_val_two]
    show (0 * cols g + t.val) * 128 + d.val = t.val * 128 + d.val
    omega
  · funext a; apply Fin.ext
    match a with
    | ⟨0, _⟩ => rfl
    | ⟨1, _⟩ => show 0 + 1 * t.val = t.val; omega
    | ⟨2, _⟩ => show 0 + 1 * d.val = d.val; omega

theorem v32_eq (J : Ins Ideal) : T.v32 J = J.x := by
  refine (shapeCast_self _ _).trans (funext fun y => congrArg J.x (funext fun a => Fin.ext ?_))
  fin_cases a
  · show 0 + 1 * (y 0).val = (y 0).val; omega
  · show 0 + 1 * (y 1).val = (y 1).val; omega
theorem v34_eq (J : Ins Ideal) : T.v34 J = J.wq := by
  refine (shapeCast_self _ _).trans (funext fun y => congrArg J.wq (funext fun a => Fin.ext ?_))
  fin_cases a
  · show 0 + 1 * (y 0).val = (y 0).val; omega
  · show 0 + 1 * (y 1).val = (y 1).val; omega
theorem v36_eq (J : Ins Ideal) : T.v36 J = J.wo := by
  refine (shapeCast_self _ _).trans (funext fun y => congrArg J.wo (funext fun a => Fin.ext ?_))
  fin_cases a
  · show 0 + 1 * (y 0).val = (y 0).val; omega
  · show 0 + 1 * (y 1).val = (y 1).val; omega

/-- A tile's scaled queries. -/
theorem qT_apply (g : Fin 4) (J : Ins Ideal) (r : Fin 512) (n : Fin 1024) :
    qT g J (ix2 r n) = (∑ m : Fin 1024, J.x (ix2 ⟨512 * g.val + r.val, by omega⟩ m) * J.wq (ix2 m n))
      * Ideal.ofBits .f32 0x3DB504F3#32 := by
  rw [qT_eq]
  refine congrArg (· * Ideal.ofBits .f32 0x3DB504F3#32) ?_
  refine (Ideal.matmul_plain_apply none _ _ _ r n).trans ?_
  rw [show (constant (F := Ideal) S512x1024 .f32 0x00000000#32) (ix2 r n) = (0 : EReal) from Ideal.ofBits_zero_f32, zero_add]
  refine Finset.sum_congr rfl fun m _ => congrArg₂ (fun a b : EReal => a * b) ?_ ?_
  · refine (extractStridedSlice_apply _ _ _ (ix2 r m) (ix2 ⟨512 * g.val + r.val, by omega⟩ m) ?_).trans ?_
    · exact Fin.forall_fin_two.mpr ⟨rfl, (Nat.zero_add _).symm⟩
    · rw [v32_eq]
  · rw [v34_eq]

/-- A row of a tile's output. -/
theorem tileV_apply (g : Fin 4) (J : Ins Ideal) (r : Fin 512) (j : Fin 1024) :
    tileV g J (ix2 r j) = ∑ t : Fin 1024,
      hT J g ⟨t.val / 128, by omega⟩ (ix2 r ⟨t.val % 128, by omega⟩) * J.wo (ix2 t j) := by
  rw [tileV_eq]
  refine (Ideal.matmul_plain_apply none _ _ _ r j).trans ?_
  rw [show (constant (F := Ideal) S512x1024 .f32 0x00000000#32) (ix2 r j) = (0 : EReal) from Ideal.ofBits_zero_f32, zero_add]
  refine Finset.sum_congr rfl fun t _ => congrArg₂ (fun a b : EReal => a * b) ?_ ?_
  · refine concatenate_ofFn_apply (t := S512x1024) (s₁ := S512x128) (1 : Fin 2) (hT J g) _ rfl 128 rfl (ix2 (n0 := 512) (n1 := 1024) r t) ⟨t.val / 128, by omega⟩ rfl
      (ix2 r ⟨t.val % 128, by omega⟩) rfl (Fin.forall_fin_two.mpr ⟨fun _ => rfl, fun h => absurd rfl h⟩)
  · rw [v36_eq]

/-- The first column a row no longer looks at, as the kernel computes it: 64 times one more than the rounded-down quotient by 64. -/
def bound (x : BitVec 32) : BitVec 32 :=
  let sx : BitVec 32 := Scalar.subi (Scalar.extui (Scalar.cmpi .sgt x 0#32)) (Scalar.extui (Scalar.cmpi .slt x 0#32))
  let sd : BitVec 32 := Scalar.subi (Scalar.extui (Scalar.cmpi .sgt 64#32 0#32)) (Scalar.extui (Scalar.cmpi .slt 64#32 0#32))
  let fix : BitVec 1 := IntOp.andi (Scalar.cmpi .ne sx sd) (Scalar.cmpi .ne (IntOp.remsi .vector x 64#32) 0#32)
  let fl : BitVec 32 := Scalar.select fix (IntOp.subi (IntOp.divsi .vector x 64#32) 1#32) (IntOp.divsi .vector x 64#32)
  IntOp.muli (IntOp.addi fl 1#32) 64#32

theorem bound_eq : ∀ x : Fin 2048, bound (BitVec.ofNat 32 x.val) = BitVec.ofNat 32 ((x.val / 64 + 1) * 64) := by
  decide +kernel

/-- Comparing two small numbers as signed words compares the numbers. -/
theorem slt_small (a b : ℕ) (ha : a < 2 ^ 31) (hb : b < 2 ^ 31) :
    (BitVec.ofNat 32 a).slt (BitVec.ofNat 32 b) = decide (a < b) := by
  rw [BitVec.slt_eq_decide, BitVec.toInt_eq_toNat_of_lt (by simp; omega), BitVec.toInt_eq_toNat_of_lt (by simp; omega)]
  simp only [BitVec.toNat_ofNat]
  rw [Nat.mod_eq_of_lt (by omega), Nat.mod_eq_of_lt (by omega)]
  simp

theorem keep_eq (x y : Fin 2048) :
    Scalar.cmpi .slt (BitVec.ofNat 32 y.val) (bound (BitVec.ofNat 32 x.val)) = if y.val / 64 ≤ x.val / 64 then 1#1 else 0#1 := by
  rw [bound_eq]
  show BitVec.ofBool ((BitVec.ofNat 32 y.val).slt _) = _
  rw [slt_small _ _ (by omega) (by omega)]
  by_cases h : y.val / 64 ≤ x.val / 64
  · rw [if_pos h, decide_eq_true (by omega)]; rfl
  · rw [if_neg h, decide_eq_false (by omega)]; rfl

/-- The mask keeps the columns of a row's own block of 64 and of the blocks before it. -/
theorem maskOf_apply (b : ℕ) (n : ℕ) (hi : (SQ n).Iotas .tc 32 [1]) (hb : S512x1.Broadcasts (SQ n)) (hbn : b ≤ 1536)
    (hn : n ≤ 2048) (r : Fin 512) (t : Fin n) :
    maskOf (BitVec.ofNat 32 b) n hi hb (ix2 r t) = if t.val / 64 ≤ (b + r.val) / 64 then 1#1 else 0#1 := by
  refine Eq.trans ?_ (keep_eq ⟨b + r.val, by omega⟩ ⟨t.val, by omega⟩)
  have e : BitVec.ofNat 32 (b + r.val) = IntOp.addi (BitVec.ofNat 32 b) (BitVec.ofNat 32 r.val) := BitVec.ofNat_add _ _
  show _ = Scalar.cmpi .slt (BitVec.ofNat 32 t.val) (bound (BitVec.ofNat 32 (b + r.val)))
  rw [e]
  refine congrArg₂ (Scalar.cmpi .slt) (iota_single_apply _ _ _ _ hi _) ?_
  refine (broadcastTo_apply _ _ (ix2 r t) (ix2 r 0) (Fin.forall_fin_two.mpr ⟨?_, ?_⟩)).trans ?_
  · rw [if_neg (by decide)]; rfl
  · rw [if_pos (by decide)]; rfl
  · have e2 : iota .tc S512x1 32 [0] iota_S512x1_d0_w32 (ix2 r 0) = BitVec.ofNat 32 r.val := iota_single_apply _ _ _ _ _ _
    rw [← e2]
    rfl

end Cert.KernelIdeal.Hand

end
-- ==== Proof.Own.lean ====
/-
  A device's contribution to the output, from finite inputs: the part of the attention block's last sum that runs over the
  device's own heads.
-/
module

public import proofs.«01_k».proof.Proof.Tiles
public import proofs.«01_k».proof.Proof.Spec

@[expose] public section

noncomputable section

namespace Cert.KernelIdeal.Hand

open Idealize.ShloMosaic Idealize.ShloMosaic.TcCoe Idealize.ShloMosaic.ValueIdx
open Cert.KernelIdeal Cert.KernelIdeal.Gen Cert.Hand
open scoped BigOperators

/-- Device `c` reads its own part of the real inputs. -/
structure Reads (A : Reals) (c : Fin 8) (J : Ins Ideal) : Prop where
  x : ∀ i m, J.x (ix2 i m) = (A.x i m : EReal)
  wq : ∀ m (n : Fin 1024), J.wq (ix2 m n) = (A.wq m ⟨1024 * c.val + n.val, by omega⟩ : EReal)
  k : ∀ (h : Fin 8) t e, J.k (ix3 h t e) = (A.k t ⟨8 * c.val + h.val, by omega⟩ e : EReal)
  v : ∀ (h : Fin 8) t e, J.v (ix3 h t e) = (A.v t ⟨8 * c.val + h.val, by omega⟩ e : EReal)
  wo : ∀ (t : Fin 1024) j, J.wo (ix2 t j) = (A.wo ⟨1024 * c.val + t.val, by omega⟩ j : EReal)

/-- The part of an output row a device's heads contribute. -/
def part (A : Reals) (c : Fin 8) (i : Fin 2048) (j : Fin 1024) : ℝ :=
  ∑ t : Fin 1024, A.head ⟨8 * c.val + t.val / 128, by omega⟩ i ⟨t.val % 128, by omega⟩ * A.wo ⟨1024 * c.val + t.val, by omega⟩ j

/-- The devices' parts add up to the output. -/
theorem sum_part (A : Reals) (i : Fin 2048) (j : Fin 1024) : ∑ c, part A c i j = A.out i j := by
  unfold part Reals.out
  rw [← Equiv.sum_comp (finProdFinEquiv (m := 8) (n := 1024)), Fintype.sum_prod_type]
  refine Finset.sum_congr rfl fun c _ => Finset.sum_congr rfl fun t _ => ?_
  refine congrArg₂ (· * ·) (congrArg₂ (A.head · i ·) (Fin.ext ?_) (Fin.ext ?_)) (congrArg (A.wo · j) (Fin.ext ?_)) <;>
  · simp only [finProdFinEquiv_apply_val]
    omega

/-- A sum over the first columns is the sum over all of them where the others contribute nothing. -/
theorem sum_cols (n : ℕ) (hn : n ≤ 2048) (f : Fin 2048 → ℝ) (hf : ∀ t : Fin 2048, n ≤ t.val → f t = 0) :
    ∑ t : Fin n, f ⟨t.val, by omega⟩ = ∑ t, f t := by
  rw [show (∑ t : Fin n, f ⟨t.val, by omega⟩) = ∑ t ∈ Finset.univ.map (Fin.castLEEmb hn), f t by
    rw [Finset.sum_map]; rfl]
  refine Finset.sum_subset (Finset.subset_univ _) fun t _ ht => hf t ?_
  by_contra h
  exact ht (Finset.mem_map.mpr ⟨⟨t.val, by omega⟩, Finset.mem_univ _, rfl⟩)

variable {A : Reals} {c : Fin 8} {J : Ins Ideal}

theorem qT_real (R : Reads A c J) (g : Fin 4) (r : Fin 512) (n : Fin 1024) :
    qT g J (ix2 r n) = ((A.query ⟨512 * g.val + r.val, by omega⟩ ⟨1024 * c.val + n.val, by omega⟩ * Reals.scale : ℝ) : EReal) := by
  rw [qT_apply, scale_coe, EReal.coe_mul]
  refine congrArg (· * (Reals.scale : EReal)) ?_
  unfold Reals.query
  rw [coe_sum]
  refine Finset.sum_congr rfl fun m _ => ?_
  rw [R.x, R.wq, EReal.coe_mul]

theorem expo_real (R : Reads A c J) (g : Fin 4) (h : Fin 8) (r : Fin 512) (t : Fin (cols g)) :
    expo (cols g) (extractStridedSlice S512x128 ![0, 128 * h.val] (qT g J) (slices_head h)) (mT g J) (colsOf J.k g h) (ix2 r t)
      = (A.weight ⟨8 * c.val + h.val, by omega⟩ ⟨512 * g.val + r.val, by omega⟩
          ⟨t.val, by have := t.isLt; have := g.isLt; simp only [cols] at *; omega⟩ : EReal) := by
  have hc : cols g ≤ 2048 := by have := g.isLt; simp only [cols]; omega
  rw [expo_apply, mT_eq, maskOf_apply (512 * g.val) (cols g) _ _ (by omega) hc]
  unfold Reals.weight
  show Ideal.exp (Scalar.select (if t.val / 64 ≤ (512 * g.val + r.val) / 64 then _ else _) _ _)
    = ((if t.val / 64 ≤ (512 * g.val + r.val) / 64 then _ else _ : ℝ) : EReal)
  by_cases hk : t.val / 64 ≤ (512 * g.val + r.val) / 64
  · rw [if_pos hk, if_pos hk, select_one, ← Ideal.exp_coe]
    refine congrArg Ideal.exp ?_
    unfold Reals.score
    rw [Finset.sum_mul, coe_sum]
    refine Finset.sum_congr rfl fun e _ => ?_
    rw [colsOf_apply, R.k, extractStridedSlice_apply _ _ _ (ix2 r e) (ix2 r ⟨128 * h.val + e.val, by omega⟩)
      (Fin.forall_fin_two.mpr ⟨(Nat.zero_add _).symm, rfl⟩), qT_real R, ← EReal.coe_mul]
    refine congrArg _ ?_
    rw [mul_right_comm]
    refine congrArg (A.query _ · * _ * _) (Fin.ext ?_)
    show 1024 * c.val + (128 * h.val + e.val) = 128 * (8 * c.val + h.val) + e.val
    omega
  · rw [if_neg hk, if_neg hk, select_zero, Ideal.exp_bot]; rfl

theorem hT_real (R : Reads A c J) (g : Fin 4) (h : Fin 8) (r : Fin 512) (d : Fin 128) :
    hT J g h (ix2 r d) = (A.head ⟨8 * c.val + h.val, by omega⟩ ⟨512 * g.val + r.val, by omega⟩ d : EReal) := by
  have hc : cols g ≤ 2048 := by have := g.isLt; simp only [cols]; omega
  have z : ∀ t : Fin 2048, cols g ≤ t.val →
      A.weight ⟨8 * c.val + h.val, by omega⟩ ⟨512 * g.val + r.val, by omega⟩ t = 0 := fun t ht => by
    unfold Reals.weight
    simp only [cols] at ht
    exact if_neg (by show ¬ t.val / 64 ≤ (512 * g.val + r.val) / 64; omega)
  rw [hT_eq, mix_apply]
  have s1 : (∑ t : Fin (cols g), expo (cols g) (extractStridedSlice S512x128 ![0, 128 * h.val] (qT g J) (slices_head h)) (mT g J)
      (colsOf J.k g h) (ix2 r t)) = ((∑ t, A.weight ⟨8 * c.val + h.val, by omega⟩ ⟨512 * g.val + r.val, by omega⟩ t : ℝ) : EReal) := by
    rw [← sum_cols (cols g) hc _ z, coe_sum]
    exact Finset.sum_congr rfl fun t _ => expo_real R g h r t
  have s2 : (∑ t : Fin (cols g), expo (cols g) (extractStridedSlice S512x128 ![0, 128 * h.val] (qT g J) (slices_head h)) (mT g J)
      (colsOf J.k g h) (ix2 r t) * colsOf J.v g h (ix2 t d))
      = ((∑ t, A.weight ⟨8 * c.val + h.val, by omega⟩ ⟨512 * g.val + r.val, by omega⟩ t
          * A.v t ⟨8 * c.val + h.val, by omega⟩ d : ℝ) : EReal) := by
    rw [← sum_cols (cols g) hc (fun t => A.weight ⟨8 * c.val + h.val, by omega⟩ ⟨512 * g.val + r.val, by omega⟩ t
          * A.v t ⟨8 * c.val + h.val, by omega⟩ d) (fun t ht => by rw [z t ht, zero_mul]), coe_sum]
    refine Finset.sum_congr rfl fun t _ => ?_
    rw [expo_real R g h r t, colsOf_apply, R.v, ← EReal.coe_mul]
  rw [s1, s2, ← EReal.coe_one, div_real _ _ (A.total_pos _ _).ne', ← EReal.coe_mul, one_mul]
  rfl

theorem tileV_real (R : Reads A c J) (g : Fin 4) (r : Fin 512) (j : Fin 1024) :
    tileV g J (ix2 r j) = (part A c ⟨512 * g.val + r.val, by omega⟩ j : EReal) := by
  rw [tileV_apply]
  unfold part
  rw [coe_sum]
  refine Finset.sum_congr rfl fun t _ => ?_
  rw [hT_real R, R.wo, ← EReal.coe_mul]

/-- What a device computes itself is its part of the output. -/
theorem own_real (R : Reads A c J) (i : Fin 2048) (j : Fin 1024) : own J (ix2 i j) = (part A c i j : EReal) := by
  have b1 : i.val / 512 < 4 := by omega
  have e : own J (ix2 i j) = tileV ⟨i.val / 512, b1⟩ J (ix2 ⟨i.val % 512, by omega⟩ j) := by
    refine congrArg (tileV ⟨i.val / 512, b1⟩ J) ?_
    funext a; apply Fin.ext
    match a with
    | ⟨0, _⟩ => show i.val - 512 * (i.val / 512) = i.val % 512; omega
    | ⟨1, _⟩ => show j.val - 0 = j.val; omega
  rw [e, tileV_real R]
  refine congrArg (fun i => (part A c i j : EReal)) (Fin.ext ?_)
  show 512 * (i.val / 512) + i.val % 512 = i.val
  omega

end Cert.KernelIdeal.Hand

end
-- ==== Proof.Inputs.lean ====
/-
  What a device's kernel is launched on, in terms of the program's arguments: the activations as they are, the device's
  columns of the query weights, its heads of the keys and values, and its rows of the output weights.
-/
module

public import proofs.«01_k».proof.Proof.Region
public import proofs.«01_k».proof.Proof.Own
public import Idealize.ShloMosaic.Lib.DynamicIndex
public import Idealize.ShloMosaic.Lib.Layout
public import Idealize.ShloMosaic.Lib.Pipeline.Value

@[expose] public section

noncomputable section

namespace Cert.KernelIdeal.Hand

open Idealize.ShloMosaic Idealize.ShloMosaic.TcCoe Idealize.ShloMosaic.ValueIdx
open Cert.KernelIdeal Cert.KernelIdeal.Gen Cert.Hand

/-- A device's number as the host computes it. -/
def devNum (c : Dev nD) : IVec S_ 32 :=
  Host.remui (Host.divui (constantI S_ 32 (Dev.word c)) (constantI S_ 32 1#32)) (constantI S_ 32 8#32)

/-- Where a device's slice of the weights starts, as the host computes it: a negative start would count from the end. -/
def sliceAt (c : Dev nD) : IVec S_ 32 :=
  select (cmpi .slt (muli (devNum c) (constantI S_ 32 1024#32)) (constantI S_ 32 0#32))
    (addi (muli (devNum c) (constantI S_ 32 1024#32)) (constantI S_ 32 8192#32)) (muli (devNum c) (constantI S_ 32 1024#32))

theorem slice_word : ∀ c : Dev nD,
    (Scalar.select (IntOp.cmpi .slt (IntOp.muli (IntOp.remui .host (IntOp.divui .host c.word 1#32) 8#32) 1024#32) 0#32)
      (IntOp.addi (IntOp.muli (IntOp.remui .host (IntOp.divui .host c.word 1#32) 8#32) 1024#32) 8192#32)
      (IntOp.muli (IntOp.remui .host (IntOp.divui .host c.word 1#32) 8#32) 1024#32)).toInt = ((1024 * c.val : ℕ) : Int) := by
  decide +kernel

theorem sliceAt_toInt (c : Dev nD) (y : S_.Idx) : (sliceAt c y).toInt = ((1024 * c.val : ℕ) : Int) := slice_word c

variable (m : (ℓ : Loc nD τ sig) → Buf (Elt Ideal) ℓ) (c : Dev nD)

/-- The program's arguments on a device. -/
abbrev argX : S1x2048x1024.Idx → EReal := m ((c.tc : Thread nD τ).loc main_arg0)
abbrev argQ : S1024x8192.Idx → EReal := m ((c.tc : Thread nD τ).loc main_arg1)
abbrev argK : S1x2048x8x128.Idx → EReal := m ((c.tc : Thread nD τ).loc main_arg2)
abbrev argV : S1x2048x8x128.Idx → EReal := m ((c.tc : Thread nD τ).loc main_arg3)
abbrev argO : S8192x1024.Idx → EReal := m ((c.tc : Thread nD τ).loc main_arg4)

theorem V1_v5 : V1 m c main_v5 = shapeCast S2048x1024 (argX m c) shapeCasts_S1x2048x1024_S2048x1024 := by
  simp only [V1, hostOps0]
  after_results_simp <;> rfl

theorem V1_v7 : V1 m c main_v7 = transpose S8x2048x128 [1, 0, 2]
    (shapeCast S2048x8x128 (argK m c) shapeCasts_S1x2048x8x128_S2048x8x128) transposes_S2048x8x128_S8x2048x128_1_0_2 := by
  simp only [V1, hostOps0]
  after_results_simp <;> rfl

theorem V1_v9 : V1 m c main_v9 = transpose S8x2048x128 [1, 0, 2]
    (shapeCast S2048x8x128 (argV m c) shapeCasts_S1x2048x8x128_S2048x8x128) transposes_S2048x8x128_S8x2048x128_1_0_2 := by
  simp only [V1, hostOps0]
  after_results_simp <;> rfl

theorem V1_v14 : V1 m c main_v14 = Host.dynamicSlice S1024x1024 (argQ m c)
    (fun k => ((![constantI S_ 32 0#32, sliceAt c] : Fin 2 → IVec S_ 32) k (Shape.Idx.first h_S_)).toInt)
    sliceFits_S1024x8192_S1024x1024 := by
  simp only [V1, hostOps0]
  after_results_simp
  refine congrArg (fun f => Host.dynamicSlice S1024x1024 (argQ m c) f sliceFits_S1024x8192_S1024x1024)
    (funext fun k => congrArg (fun v : IVec S_ 32 => (v (Shape.Idx.first h_S_)).toInt) ?_)
  fin_cases k
  · dsimp only [Fin.zero_eta, Matrix.cons_val_zero]
    after_results_simp <;> rfl
  · dsimp only [Fin.mk_one, Matrix.cons_val_one]
    after_results_simp <;> rfl

theorem V1_v19 : V1 m c main_v19 = Host.dynamicSlice S1024x1024 (argO m c)
    (fun k => ((![sliceAt c, constantI S_ 32 0#32] : Fin 2 → IVec S_ 32) k (Shape.Idx.first h_S_)).toInt)
    sliceFits_S8192x1024_S1024x1024 := by
  simp only [V1, hostOps0]
  after_results_simp
  refine congrArg (fun f => Host.dynamicSlice S1024x1024 (argO m c) f sliceFits_S8192x1024_S1024x1024)
    (funext fun k => congrArg (fun v : IVec S_ 32 => (v (Shape.Idx.first h_S_)).toInt) ?_)
  fin_cases k
  · dsimp only [Fin.zero_eta, Matrix.cons_val_zero]
    after_results_simp <;> rfl
  · exact StableHlo.nullary_result ..

/-- A window over a whole array reads the array. -/
theorem ins_x : (ins m c).x = V1 m c main_v5 :=
  funext fun _ => congrArg (V1 m c main_v5) (funext fun a => Fin.ext (win0_0.rect_emb_val_of_index_zero (0 : Fin 1) a rfl _))
theorem ins_wq : (ins m c).wq = V1 m c main_v14 :=
  funext fun _ => congrArg (V1 m c main_v14) (funext fun a => Fin.ext (win0_1.rect_emb_val_of_index_zero (0 : Fin 1) a rfl _))
theorem ins_k : (ins m c).k = V1 m c main_v7 :=
  funext fun _ => congrArg (V1 m c main_v7) (funext fun a => Fin.ext (win0_2.rect_emb_val_of_index_zero (0 : Fin 1) a rfl _))
theorem ins_v : (ins m c).v = V1 m c main_v9 :=
  funext fun _ => congrArg (V1 m c main_v9) (funext fun a => Fin.ext (win0_3.rect_emb_val_of_index_zero (0 : Fin 1) a rfl _))
theorem ins_wo : (ins m c).wo = V1 m c main_v19 :=
  funext fun _ => congrArg (V1 m c main_v19) (funext fun a => Fin.ext (win0_4.rect_emb_val_of_index_zero (0 : Fin 1) a rfl _))

theorem ins_x_apply (i : Fin 2048) (n : Fin 1024) : (ins m c).x (ix2 i n) = argX m c (ix3 0 i n) := by
  rw [ins_x, V1_v5]
  refine shapeCast_apply _ _ _ _ ?_
  rw [Shape.rowMajor_val_three, Shape.rowMajor_val_two]
  show (0 * 2048 + i.val) * 1024 + n.val = i.val * 1024 + n.val
  omega

/-- Keys and values, cast to three axes and their heads moved to the front, read at an index. -/
theorem heads_apply (x : S1x2048x8x128.Idx → EReal) (h : Fin 8) (t : Fin 2048) (e : Fin 128) :
    transpose S8x2048x128 [1, 0, 2] (shapeCast S2048x8x128 x shapeCasts_S1x2048x8x128_S2048x8x128)
      transposes_S2048x8x128_S8x2048x128_1_0_2 (ix3 h t e) = x (ix4 0 t h e) := by
  refine (transpose_apply _ _ _ _ (ix3 t h e) fun b => ?_).trans (shapeCast_apply _ _ _ _ ?_)
  · fin_cases b <;> rfl
  · rw [Shape.rowMajor_val_three, Shape.rowMajor_val_four]
    show ((0 * 2048 + t.val) * 8 + h.val) * 128 + e.val = (t.val * 8 + h.val) * 128 + e.val
    omega

theorem ins_k_apply (h : Fin 8) (t : Fin 2048) (e : Fin 128) : (ins m c).k (ix3 h t e) = argK m c (ix4 0 t h e) := by
  rw [ins_k, V1_v7]
  exact heads_apply _ h t e

theorem ins_v_apply (h : Fin 8) (t : Fin 2048) (e : Fin 128) : (ins m c).v (ix3 h t e) = argV m c (ix4 0 t h e) := by
  rw [ins_v, V1_v9]
  exact heads_apply _ h t e

theorem ins_wq_apply (i n : Fin 1024) :
    (ins m c).wq (ix2 i n) = argQ m c (ix2 i ⟨1024 * c.val + n.val, by have : c.val < 8 := c.isLt; omega⟩) := by
  have hc : c.val < 8 := c.isLt
  rw [ins_wq, V1_v14]
  refine (congrFun (Host.dynamicSlice_eq_extractStridedSlice (s := S1024x8192) S1024x1024 _ _ ![0, 1024 * c.val] _
    ⟨rfl, fun a => by fin_cases a <;> simp <;> omega⟩ fun a => ?_) _).trans ?_
  rotate_left
  · refine extractStridedSlice_apply _ _ _ _ _ fun a => ?_
    fin_cases a
    · exact (Nat.zero_add _).symm
    · rfl
  · fin_cases a
    · rfl
    · exact sliceAt_toInt c _

theorem ins_wo_apply (t j : Fin 1024) :
    (ins m c).wo (ix2 t j) = argO m c (ix2 ⟨1024 * c.val + t.val, by have : c.val < 8 := c.isLt; omega⟩ j) := by
  have hc : c.val < 8 := c.isLt
  rw [ins_wo, V1_v19]
  refine (congrFun (Host.dynamicSlice_eq_extractStridedSlice (s := S8192x1024) S1024x1024 _ _ ![1024 * c.val, 0] _
    ⟨rfl, fun a => by fin_cases a <;> simp <;> omega⟩ fun a => ?_) _).trans ?_
  rotate_left
  · refine extractStridedSlice_apply _ _ _ _ _ fun a => ?_
    fin_cases a
    · rfl
    · exact (Nat.zero_add _).symm
  · fin_cases a
    · exact sliceAt_toInt c _
    · rfl

/-- Where the arguments on a device are its part of the real inputs, that part is what its kernel reads. -/
theorem ins_reads (A : Reals) (hx : ∀ i n, argX m c (ix3 0 i n) = (A.x i n : EReal))
    (hq : ∀ n t, argQ m c (ix2 n t) = (A.wq n t : EReal))
    (hk : ∀ t (h : Fin 8) e, argK m c (ix4 0 t h e) = (A.k t ⟨8 * c.val + h.val, by have : c.val < 8 := c.isLt; omega⟩ e : EReal))
    (hv : ∀ t (h : Fin 8) e, argV m c (ix4 0 t h e) = (A.v t ⟨8 * c.val + h.val, by have : c.val < 8 := c.isLt; omega⟩ e : EReal))
    (ho : ∀ t j, argO m c (ix2 t j) = (A.wo t j : EReal)) : Reads A c (ins m c) where
  x i n := (ins_x_apply m c i n).trans (hx i n)
  wq i n := (ins_wq_apply m c i n).trans (hq _ _)
  k h t e := (ins_k_apply m c h t e).trans (hk t h e)
  v h t e := (ins_v_apply m c h t e).trans (hv t h e)
  wo t j := (ins_wo_apply m c t j).trans (ho _ _)

end Cert.KernelIdeal.Hand

end
-- ==== Proof.RefValue.lean ====
/-
  The reference's result read at an index, over the extended reals.
-/
module

public import proofs.«01_k».proof.Proof.Gen.ReferenceIdeal
public import proofs.«01_k».proof.Proof.Gen.ReferenceIdeal.Run
public import proofs.«01_k».proof.Proof.Spec
public import Idealize.ShloMosaic.Lib.MatmulPlain
public import Idealize.ShloMosaic.Lib.IdealHost
public import Idealize.ShloMosaic.Lib.Pipeline.Value

@[expose] public section

noncomputable section

namespace Cert.ReferenceIdeal.Hand

open Idealize.ShloMosaic Idealize.ShloMosaic.TcCoe Idealize.ShloMosaic.ValueIdx
open Cert.ReferenceIdeal Cert.ReferenceIdeal.Gen Cert.Hand
open scoped BigOperators

/-- The block of 64 each position lies in, as the reference computes it. -/
def blk : IVec S2048 32 :=
  let x : IVec S2048 32 := iotaInDim S2048 32 0
  let c (z : BitVec 32) : IVec S2048 32 := broadcastInDim S2048 ![] bcast_S_S2048 (constantI S_ 32 z)
  select (andi (cmpi .ne (signi x) (broadcastInDim S2048 ![] bcast_S_S2048 (signi (constantI S_ 32 64#32))))
    (cmpi .ne (Host.remsi x (c 64#32)) (c 0#32))) (subi (Host.divsi x (c 64#32)) (c 1#32)) (Host.divsi x (c 64#32))

/-- Which columns each row looks at, -/
def keep : IVec S2048x2048 1 :=
  cmpi .sle (broadcastInDim S2048x2048 ![0, 1] bcast_S1x2048_S2048x2048_0_1 (broadcastInDim S1x2048 ![1] bcast_S2048_S1x2048_1 blk))
    (broadcastInDim S2048x2048 ![0, 1] bcast_S2048x1_S2048x2048_0_1 (broadcastInDim S2048x1 ![0] bcast_S2048_S2048x1_0 blk))
/-- and whether it looks at any. -/
def anyKept : IVec S2048 1 := Host.reduce IntOp.ori keep (constantI S_ 1 0#1) reducesTo_S2048x2048_S2048_d1 h_S_

def splat (b : BitVec 32) : FVec Ideal S1x64x2048x2048 .f32 :=
  broadcastInDim S1x64x2048x2048 ![] bcast_S_S1x64x2048x2048 (constant S_ .f32 b)

/-- The queries by head. -/
def queries (x : FVec Ideal S1x2048x1024 .bf16) (wq : FVec Ideal S1024x8192 .bf16) : FVec Ideal S1x2048x64x128 .f32 :=
  shapeCast _ (Host.dotGeneral dot_S1x2048x1024_S1024x8192_S1x2048x8192_2_0_01_1_n_n none (extf .f32 x bitsLt_bf16_f32)
    (extf .f32 wq bitsLt_bf16_f32) : FVec Ideal S1x2048x8192 .f32) shapeCasts_S1x2048x8192_S1x2048x64x128

/-- The masked scaled scores. -/
def scores (q : FVec Ideal S1x2048x64x128 .f32) (k : FVec Ideal S1x2048x64x128 .bf16) : FVec Ideal S1x64x2048x2048 .f32 :=
  select (broadcastInDim S1x64x2048x2048 ![0, 1, 2, 3] bcast_S1x1x2048x2048_S1x64x2048x2048_0_1_2_3
      (broadcastInDim S1x1x2048x2048 ![2, 3] bcast_S2048x2048_S1x1x2048x2048_2_3 keep))
    (mulf (Host.dotGeneral dot_S1x2048x64x128_S1x2048x64x128_S1x64x2048x2048_3_3_1_1_02_02 none q (extf .f32 k bitsLt_bf16_f32))
      (splat 0x3DB504F3#32)) (splat 0xFF800000#32)

/-- A row's number at every column. -/
def spread (r : FVec Ideal S1x64x2048x1 .f32) : FVec Ideal S1x64x2048x2048 .f32 :=
  broadcastInDim S1x64x2048x2048 ![0, 1, 2, 3] bcast_S1x64x2048x1_S1x64x2048x2048_0_1_2_3 r
def column (r : FVec Ideal S1x64x2048 .f32) : FVec Ideal S1x64x2048x1 .f32 :=
  broadcastInDim S1x64x2048x1 ![0, 1, 2] bcast_S1x64x2048_S1x64x2048x1_0_1_2 r

/-- The exponentials of the scores less their row's largest, -/
def expos (s : FVec Ideal S1x64x2048x2048 .f32) : FVec Ideal S1x64x2048x2048 .f32 :=
  Host.exp (subf s (spread (column (Host.reduce FloatOps.maximumf s (constant S_ .f32 0xFF800000#32)
    reducesTo_S1x64x2048x2048_S1x64x2048_d3 h_S_))))
def anyCol : IVec S1x1x2048x1 1 := broadcastInDim S1x1x2048x1 ![2] bcast_S2048_S1x1x2048x1_2 anyKept
/-- their normalized weights. -/
def probs (e : FVec Ideal S1x64x2048x2048 .f32) : FVec Ideal S1x64x2048x2048 .f32 :=
  select (broadcastInDim S1x64x2048x2048 ![0, 1, 2, 3] bcast_S1x1x2048x1_S1x64x2048x2048_0_1_2_3 anyCol)
    (Host.divf e (spread (select (broadcastInDim S1x64x2048x1 ![0, 1, 2, 3] bcast_S1x1x2048x1_S1x64x2048x1_0_1_2_3 anyCol)
      (column (Host.reduceAdd e (constant S_ .f32 0x00000000#32) reducesTo_S1x64x2048x2048_S1x64x2048_d3 h_S_))
      (broadcastInDim S1x64x2048x1 ![] bcast_S_S1x64x2048x1 (constant S_ .f32 0x3F800000#32)))))
    (splat 0x00000000#32)

/-- The heads' outputs side by side. -/
def heads (v : FVec Ideal S1x2048x64x128 .bf16) (p : FVec Ideal S1x64x2048x2048 .f32) : FVec Ideal S1x2048x8192 .f32 :=
  shapeCast _ (transpose S1x2048x64x128 [0, 3, 1, 2]
    (Host.dotGeneral dot_S1x2048x64x128_S1x64x2048x2048_S1x64x128x2048_1_3_3_2_02_01 none (extf .f32 v bitsLt_bf16_f32) p)
    transposes_S1x64x128x2048_S1x2048x64x128_0_3_1_2) shapeCasts_S1x2048x64x128_S1x2048x8192

def result (x : FVec Ideal S1x2048x1024 .bf16) (wq : FVec Ideal S1024x8192 .bf16) (k v : FVec Ideal S1x2048x64x128 .bf16)
    (wo : FVec Ideal S8192x1024 .bf16) : FVec Ideal S1x2048x1024 .f32 :=
  Host.dotGeneral dot_S1x2048x8192_S8192x1024_S1x2048x1024_2_0_01_1_n_n none
    (heads v (probs (expos (scores (queries x wq) k)))) (extf .f32 wo bitsLt_bf16_f32)

theorem res_eq (m : (ℓ : Loc nD τ sig) → Buf (Elt Ideal) ℓ) (c : Dev nD) :
    Value.res_main_v38 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The mask -/

/-- The block of 64 a position lies in. -/
def blkW (x : BitVec 32) : BitVec 32 :=
  let sg (z : BitVec 32) : BitVec 32 := if z = 0 then 0 else if z.msb then -1 else 1
  Scalar.select (IntOp.andi (Scalar.cmpi .ne (sg x) (sg 64#32)) (Scalar.cmpi .ne (IntOp.remsi .host x 64#32) 0#32))
    (IntOp.subi (IntOp.divsi .host x 64#32) 1#32) (IntOp.divsi .host x 64#32)

theorem blkW_eq : ∀ x : Fin 2048, blkW (BitVec.ofNat 32 x.val) = BitVec.ofNat 32 (x.val / 64) := by decide +kernel

theorem blk_apply (x : Fin 2048) : blk (ix1 x) = BitVec.ofNat 32 (x.val / 64) := by
  rw [← blkW_eq]; rfl

theorem sle_small (a b : ℕ) (ha : a < 2 ^ 31) (hb : b < 2 ^ 31) :
    (BitVec.ofNat 32 a).sle (BitVec.ofNat 32 b) = decide (a ≤ b) := by
  rw [BitVec.sle_eq_decide, BitVec.toInt_eq_toNat_of_lt (by simp; omega), BitVec.toInt_eq_toNat_of_lt (by simp; omega)]
  simp only [BitVec.toNat_ofNat]
  rw [Nat.mod_eq_of_lt (by omega), Nat.mod_eq_of_lt (by omega)]
  simp

theorem keep_apply (i t : Fin 2048) : keep (ix2 i t) = if t.val / 64 ≤ i.val / 64 then 1#1 else 0#1 := by
  have e1 : broadcastInDim S2048x2048 ![0, 1] bcast_S1x2048_S2048x2048_0_1 (broadcastInDim S1x2048 ![1] bcast_S2048_S1x2048_1 blk)
      (ix2 i t) = BitVec.ofNat 32 (t.val / 64) := by
    rw [← blk_apply]
    refine (broadcastInDim_apply _ _ _ (ix2 i t) (ix2 0 t) (Fin.forall_fin_two.mpr ⟨rfl, rfl⟩)).trans ?_
    exact broadcastInDim_apply _ _ _ (ix2 0 t) (ix1 t) (fun a => by fin_cases a; rfl)
  have e2 : broadcastInDim S2048x2048 ![0, 1] bcast_S2048x1_S2048x2048_0_1 (broadcastInDim S2048x1 ![0] bcast_S2048_S2048x1_0 blk)
      (ix2 i t) = BitVec.ofNat 32 (i.val / 64) := by
    rw [← blk_apply]
    refine (broadcastInDim_apply _ _ _ (ix2 i t) (ix2 i 0) (Fin.forall_fin_two.mpr ⟨rfl, rfl⟩)).trans ?_
    exact broadcastInDim_apply _ _ _ (ix2 i 0) (ix1 i) (fun a => by fin_cases a; rfl)
  show BitVec.ofBool (BitVec.sle _ _) = _
  rw [e1, e2, sle_small _ _ (by omega) (by omega)]
  by_cases h : t.val / 64 ≤ i.val / 64
  · rw [if_pos h, decide_eq_true h]; rfl
  · rw [if_neg h, decide_eq_false h]; rfl

theorem fold_ori {ι : Type} [DecidableEq ι] (s : Finset ι) (f : ι → BitVec 1) (b : BitVec 1) (i : ι) (hi : i ∈ s) (h : f i = 1#1) :
    s.fold IntOp.ori b f = 1#1 := by
  rw [← Finset.insert_erase hi, Finset.fold_insert (Finset.notMem_erase _ _), h]
  generalize Finset.fold IntOp.ori b f (s.erase i) = z
  revert z; decide

theorem anyKept_apply (i : Fin 2048) : anyKept (ix1 i) = 1#1 := by
  refine (Host.reduce_eq_fold_single (IntOp.ori (w := 1)) keep _ _ (by decide) _ (ix1 i)).trans ?_
  refine fold_ori _ _ _ i (Finset.mem_univ _) ?_
  refine Eq.trans (congrArg keep ?_) ((keep_apply i i).trans (if_pos le_rfl))
  funext a; apply Fin.ext
  match a with
  | ⟨0, _⟩ => rfl
  | ⟨1, _⟩ => rfl

/-! ## The values, from finite inputs -/

variable {A : Reals} {x : FVec Ideal S1x2048x1024 .bf16} {wq : FVec Ideal S1024x8192 .bf16}
  {k v : FVec Ideal S1x2048x64x128 .bf16} {wo : FVec Ideal S8192x1024 .bf16}

theorem queries_apply (hx : ∀ i m, x (ix3 0 i m) = (A.x i m : EReal)) (hq : ∀ m n, wq (ix2 m n) = (A.wq m n : EReal))
    (i : Fin 2048) (h : Fin 64) (e : Fin 128) : queries x wq (ix4 0 i h e) = (A.query i (Reals.feat h e) : EReal) := by
  refine (shapeCast_apply _ _ (ix4 0 i h e) (ix3 0 i (Reals.feat h e)) ?_).trans ?_
  · rw [Shape.rowMajor_val_three, Shape.rowMajor_val_four]
    show (0 * 2048 + i.val) * 8192 + (128 * h.val + e.val) = ((0 * 2048 + i.val) * 64 + h.val) * 128 + e.val
    omega
  · refine (Ideal.dotGeneral_apply _ _ _ _ _ _).trans ?_
    rw [← Equiv.sum_comp (contrEquiv1 dot_S1x2048x1024_S1024x8192_S1x2048x8192_2_0_01_1_n_n 1024 rfl rfl).symm]
    unfold Reals.query
    rw [coe_sum]
    refine Finset.sum_congr rfl fun m _ => ?_
    rw [EReal.coe_mul, ← hx, ← hq]
    refine congrArg₂ (fun a b : EReal => a * b) (congrArg x ?_) (congrArg wq ?_)
    · funext a; apply Fin.ext
      match a with
      | ⟨0, _⟩ => rfl
      | ⟨1, _⟩ => rfl
      | ⟨2, _⟩ => exact contrEquiv1_symm_val dot_S1x2048x1024_S1024x8192_S1x2048x8192_2_0_01_1_n_n 1024 rfl rfl m
    · funext a; apply Fin.ext
      match a with
      | ⟨0, _⟩ => exact contrEquiv1_symm_val dot_S1x2048x1024_S1024x8192_S1x2048x8192_2_0_01_1_n_n 1024 rfl rfl m
      | ⟨1, _⟩ => rfl

theorem scores_apply {q : FVec Ideal S1x2048x64x128 .f32}
    (hq : ∀ i h e, q (ix4 0 i h e) = (A.query i (Reals.feat h e) : EReal)) (hk : ∀ t h e, k (ix4 0 t h e) = (A.k t h e : EReal))
    (h : Fin 64) (i t : Fin 2048) :
    scores q k (ix4 0 h i t) = if t.val / 64 ≤ i.val / 64 then (A.score h i t : EReal) else ⊥ := by
  have e1 : broadcastInDim S1x64x2048x2048 ![0, 1, 2, 3] bcast_S1x1x2048x2048_S1x64x2048x2048_0_1_2_3
      (broadcastInDim S1x1x2048x2048 ![2, 3] bcast_S2048x2048_S1x1x2048x2048_2_3 keep) (ix4 0 h i t) = keep (ix2 i t) := by
    refine (broadcastInDim_apply _ _ _ (ix4 0 h i t) (ix4 0 0 i t) (fun a => by fin_cases a <;> rfl)).trans ?_
    exact broadcastInDim_apply _ _ _ (ix4 0 0 i t) (ix2 i t) (Fin.forall_fin_two.mpr ⟨rfl, rfl⟩)
  have e2 : (Host.dotGeneral dot_S1x2048x64x128_S1x2048x64x128_S1x64x2048x2048_3_3_1_1_02_02 none q
      (extf .f32 k bitsLt_bf16_f32 : FVec Ideal _ .f32) : FVec Ideal _ .f32) (ix4 0 h i t)
        = ((∑ e : Fin 128, A.query i (Reals.feat h e) * A.k t h e : ℝ) : EReal) := by
    refine (Ideal.dotGeneral_apply _ _ _ _ _ _).trans ?_
    rw [← Equiv.sum_comp (contrEquiv1 dot_S1x2048x64x128_S1x2048x64x128_S1x64x2048x2048_3_3_1_1_02_02 128 rfl rfl).symm, coe_sum]
    refine Finset.sum_congr rfl fun e _ => ?_
    rw [EReal.coe_mul, ← hq, ← hk]
    refine congrArg₂ (fun a b : EReal => a * b) (congrArg q ?_) (congrArg k ?_)
    · funext a; apply Fin.ext
      match a with
      | ⟨0, _⟩ => rfl
      | ⟨1, _⟩ => rfl
      | ⟨2, _⟩ => rfl
      | ⟨3, _⟩ => exact contrEquiv1_symm_val dot_S1x2048x64x128_S1x2048x64x128_S1x64x2048x2048_3_3_1_1_02_02 128 rfl rfl e
    · funext a; apply Fin.ext
      match a with
      | ⟨0, _⟩ => rfl
      | ⟨1, _⟩ => rfl
      | ⟨2, _⟩ => rfl
      | ⟨3, _⟩ => exact contrEquiv1_symm_val dot_S1x2048x64x128_S1x2048x64x128_S1x64x2048x2048_3_3_1_1_02_02 128 rfl rfl e
  have e3 : splat 0xFF800000#32 (ix4 0 h i t) = (⊥ : EReal) := (broadcastInDim_scalar_apply _ _ _).trans negInf_f32
  have e4 : splat 0x3DB504F3#32 (ix4 0 h i t) = (Reals.scale : EReal) := (broadcastInDim_scalar_apply _ _ _).trans scale_coe
  show Scalar.select _ _ _ = _
  rw [e1, keep_apply, e3]
  by_cases hc : t.val / 64 ≤ i.val / 64
  · rw [if_pos hc, if_pos hc, select_one]
    refine (congrArg₂ (fun a b : EReal => a * b) e2 e4).trans ?_
    rw [← EReal.coe_mul]; rfl
  · rw [if_neg hc, if_neg hc, select_zero]

theorem spread_column (r : FVec Ideal S1x64x2048 .f32) (h : Fin 64) (i t : Fin 2048) :
    spread (column r) (ix4 0 h i t) = r (ix3 0 h i) := by
  refine (broadcastInDim_apply _ _ _ (ix4 0 h i t) (ix4 0 h i 0) (fun a => by fin_cases a <;> rfl)).trans ?_
  exact broadcastInDim_apply _ _ _ (ix4 0 h i 0) (ix3 0 h i) (fun a => by fin_cases a <;> rfl)

/-- A row's reduced index with a column put back. -/
theorem lift_row (hr : S1x64x2048x2048.Reduces [3] S1x64x2048) (h : Fin 64) (i t : Fin 2048) :
    hr.lift (ix3 0 h i) t = ix4 0 h i t := by
  funext a; apply Fin.ext
  match a with
  | ⟨0, _⟩ => rfl
  | ⟨1, _⟩ => rfl
  | ⟨2, _⟩ => rfl
  | ⟨3, _⟩ => rfl

theorem reduces_row : S1x64x2048x2048.Reduces [3] S1x64x2048 := by decide

theorem expos_apply {s : FVec Ideal S1x64x2048x2048 .f32}
    (hs : ∀ h i t, s (ix4 0 h i t) = if t.val / 64 ≤ i.val / 64 then (A.score h i t : EReal) else ⊥) (h : Fin 64) (i : Fin 2048) :
    ∃ M : ℝ, ∀ t : Fin 2048, expos s (ix4 0 h i t)
      = ((if t.val / 64 ≤ i.val / 64 then Real.exp (A.score h i t - M) else 0 : ℝ) : EReal) := by
  obtain ⟨M, hM⟩ := fold_max_real (fun t : Fin 2048 => s (ix4 0 h i t)) Finset.univ
    (fun t => by rw [hs]; split <;> simp) i (Finset.mem_univ _) (by rw [hs, if_pos le_rfl]; simp)
  refine ⟨M, fun t => ?_⟩
  have e1 : Host.reduce (FloatOps.maximumf (F := Ideal) (φ := .f32)) s (constant S_ .f32 0xFF800000#32)
      reducesTo_S1x64x2048x2048_S1x64x2048_d3 h_S_ (ix3 0 h i) = (M : EReal) := by
    refine (Host.reduce_eq_fold_single _ s _ _ reduces_row _ (ix3 0 h i)).trans (Eq.trans ?_ hM)
    rw [show (constant (F := Ideal) S_ .f32 0xFF800000#32) (Shape.Idx.first h_S_) = (⊥ : EReal) from negInf_f32]
    exact congrArg (Finset.fold max (⊥ : EReal) · Finset.univ) (funext fun t => congrArg s (lift_row _ h i t))
  show Ideal.exp (s (ix4 0 h i t) - spread (column _) (ix4 0 h i t)) = _
  rw [spread_column, e1, hs]
  split
  · rw [← EReal.coe_sub, Ideal.exp_coe]
  · rw [EReal.bot_sub, Ideal.exp_bot]; rfl

theorem probs_apply {e : FVec Ideal S1x64x2048x2048 .f32} (h : Fin 64) (i : Fin 2048) (M : ℝ)
    (he : ∀ t : Fin 2048, e (ix4 0 h i t)
      = ((if t.val / 64 ≤ i.val / 64 then Real.exp (A.score h i t - M) else 0 : ℝ) : EReal)) (t : Fin 2048) :
    probs e (ix4 0 h i t) = ((A.weight h i t * (1 / ∑ t, A.weight h i t) : ℝ) : EReal) := by
  have a0 : anyCol (ix4 0 0 i 0) = 1#1 :=
    (broadcastInDim_apply _ _ _ (ix4 0 0 i 0) (ix1 i) (fun a => by fin_cases a; rfl)).trans (anyKept_apply i)
  have a1 : broadcastInDim S1x64x2048x2048 ![0, 1, 2, 3] bcast_S1x1x2048x1_S1x64x2048x2048_0_1_2_3 anyCol (ix4 0 h i t) = 1#1 :=
    (broadcastInDim_apply _ _ _ (ix4 0 h i t) (ix4 0 0 i 0) (fun a => by fin_cases a <;> rfl)).trans a0
  have a2 : broadcastInDim S1x64x2048x1 ![0, 1, 2, 3] bcast_S1x1x2048x1_S1x64x2048x1_0_1_2_3 anyCol (ix4 0 h i 0) = 1#1 :=
    (broadcastInDim_apply _ _ _ (ix4 0 h i 0) (ix4 0 0 i 0) (fun a => by fin_cases a <;> rfl)).trans a0
  have e1 : Host.reduceAdd e (constant S_ .f32 0x00000000#32) reducesTo_S1x64x2048x2048_S1x64x2048_d3 h_S_ (ix3 0 h i)
      = ((∑ t : Fin 2048, if t.val / 64 ≤ i.val / 64 then Real.exp (A.score h i t - M) else 0 : ℝ) : EReal) := by
    refine (hostReduceAdd_apply _ _ _ _ _).trans ((Ideal.hostReduceAdd_single _ reduces_row _ _ _).trans ?_)
    rw [show (constant (F := Ideal) S_ .f32 0x00000000#32) (Shape.Idx.first h_S_) = (0 : EReal) from Ideal.ofBits_zero_f32, zero_add,
      coe_sum]
    exact Finset.sum_congr rfl fun t _ => (congrArg e (lift_row _ h i t)).trans (he t)
  have e2 : ∀ (c : IVec S1x64x2048x1 1) (r z : FVec Ideal S1x64x2048x1 .f32), c (ix4 0 h i 0) = 1#1 →
      spread (select c r z) (ix4 0 h i t) = r (ix4 0 h i 0) := fun c r z hc => by
    refine (broadcastInDim_apply _ _ _ (ix4 0 h i t) (ix4 0 h i 0) (fun a => by fin_cases a <;> rfl)).trans ?_
    show Scalar.select _ _ _ = _
    rw [hc, select_one]
  have e3 : ∀ r : FVec Ideal S1x64x2048 .f32, column r (ix4 0 h i 0) = r (ix3 0 h i) := fun r =>
    broadcastInDim_apply _ _ _ (ix4 0 h i 0) (ix3 0 h i) (fun a => by fin_cases a <;> rfl)
  unfold probs
  rw [select_apply, a1, select_one, hostDivf_apply, e2 _ _ _ a2, e3, e1, he, div_real _ _ ?_]
  · exact congrArg _ (softmax_shift (A.score h i) (fun t : Fin 2048 => t.val / 64 ≤ i.val / 64) M t)
  · refine (Finset.sum_pos' (fun t _ => ?_) ⟨i, Finset.mem_univ _, ?_⟩).ne'
    · split
      · exact (Real.exp_pos _).le
      · exact le_rfl
    · rw [if_pos le_rfl]; exact Real.exp_pos _

theorem heads_apply {p : FVec Ideal S1x64x2048x2048 .f32}
    (hp : ∀ h i t, p (ix4 0 h i t) = ((A.weight h i t * (1 / ∑ t, A.weight h i t) : ℝ) : EReal))
    (hv : ∀ t h d, v (ix4 0 t h d) = (A.v t h d : EReal)) (i : Fin 2048) (n : Fin 8192) :
    heads v p (ix3 0 i n) = (A.head ⟨n.val / 128, by omega⟩ i ⟨n.val % 128, by omega⟩ : EReal) := by
  have b1 : n.val / 128 < 64 := by omega
  have b2 : n.val % 128 < 128 := by omega
  refine (shapeCast_apply _ _ (ix3 0 i n) (ix4 0 i ⟨n.val / 128, b1⟩ ⟨n.val % 128, b2⟩) ?_).trans ?_
  · rw [Shape.rowMajor_val_three, Shape.rowMajor_val_four]
    show ((0 * 2048 + i.val) * 64 + n.val / 128) * 128 + n.val % 128 = (0 * 2048 + i.val) * 8192 + n.val
    omega
  · refine (transpose_apply _ _ _ _ (ix4 0 ⟨n.val / 128, b1⟩ ⟨n.val % 128, b2⟩ i) (fun a => by fin_cases a <;> rfl)).trans ?_
    refine (Ideal.dotGeneral_apply _ _ _ _ _ _).trans ?_
    rw [← Equiv.sum_comp (contrEquiv1 dot_S1x2048x64x128_S1x64x2048x2048_S1x64x128x2048_1_3_3_2_02_01 2048 rfl rfl).symm]
    unfold Reals.head
    rw [Finset.sum_mul, coe_sum]
    refine Finset.sum_congr rfl fun t _ => ?_
    rw [show ∀ a b c : ℝ, a * b * c = b * (a * c) from fun a b c => by ring, EReal.coe_mul, ← hp, ← hv]
    refine congrArg₂ (fun a b : EReal => a * b) (congrArg v ?_) (congrArg p ?_)
    · funext a; apply Fin.ext
      match a with
      | ⟨0, _⟩ => rfl
      | ⟨1, _⟩ => exact contrEquiv1_symm_val dot_S1x2048x64x128_S1x64x2048x2048_S1x64x128x2048_1_3_3_2_02_01 2048 rfl rfl t
      | ⟨2, _⟩ => rfl
      | ⟨3, _⟩ => rfl
    · funext a; apply Fin.ext
      match a with
      | ⟨0, _⟩ => rfl
      | ⟨1, _⟩ => rfl
      | ⟨2, _⟩ => rfl
      | ⟨3, _⟩ => exact contrEquiv1_symm_val dot_S1x2048x64x128_S1x64x2048x2048_S1x64x128x2048_1_3_3_2_02_01 2048 rfl rfl t

/-- From finite inputs the reference's result is the attention block's. -/
theorem result_apply (hx : ∀ i m, x (ix3 0 i m) = (A.x i m : EReal)) (hq : ∀ m n, wq (ix2 m n) = (A.wq m n : EReal))
    (hk : ∀ t h e, k (ix4 0 t h e) = (A.k t h e : EReal)) (hv : ∀ t h d, v (ix4 0 t h d) = (A.v t h d : EReal))
    (ho : ∀ n j, wo (ix2 n j) = (A.wo n j : EReal)) (i : Fin 2048) (j : Fin 1024) :
    result x wq k v wo (ix3 0 i j) = (A.out i j : EReal) := by
  have hp : ∀ h i t, probs (expos (scores (queries x wq) k)) (ix4 0 h i t)
      = ((A.weight h i t * (1 / ∑ t, A.weight h i t) : ℝ) : EReal) := fun h i t => by
    obtain ⟨M, hM⟩ := expos_apply (A := A) (scores_apply (queries_apply hx hq) hk) h i
    exact probs_apply h i M hM t
  refine (Ideal.dotGeneral_apply _ _ _ _ _ _).trans ?_
  rw [← Equiv.sum_comp (contrEquiv1 dot_S1x2048x8192_S8192x1024_S1x2048x1024_2_0_01_1_n_n 8192 rfl rfl).symm]
  unfold Reals.out
  rw [coe_sum]
  refine Finset.sum_congr rfl fun n _ => ?_
  rw [EReal.coe_mul, ← heads_apply hp hv, ← ho]
  refine congrArg₂ (fun a b : EReal => a * b) (congrArg (heads v _) ?_) (congrArg wo ?_)
  · funext a; apply Fin.ext
    match a with
    | ⟨0, _⟩ => rfl
    | ⟨1, _⟩ => rfl
    | ⟨2, _⟩ => exact contrEquiv1_symm_val dot_S1x2048x8192_S8192x1024_S1x2048x1024_2_0_01_1_n_n 8192 rfl rfl n
  · funext a; apply Fin.ext
    match a with
    | ⟨0, _⟩ => exact contrEquiv1_symm_val dot_S1x2048x8192_S8192x1024_S1x2048x1024_2_0_01_1_n_n 8192 rfl rfl n
    | ⟨1, _⟩ => rfl

end Cert.ReferenceIdeal.Hand

end
-- ==== Proof.Algebra.lean ====
/-
  The value: from finite inputs every device of the kernel ends with what the reference computes, over the extended reals.
-/
module

public import proofs.«01_k».proof.Defs
public import proofs.«01_k».proof.Proof.Exchange
public import proofs.«01_k».proof.Proof.Inputs
public import proofs.«01_k».proof.Proof.Finite
public import proofs.«01_k».proof.Proof.RefValue
public import proofs.«01_k».proof.Proof.Frames

@[expose] public section

noncomputable section

namespace Cert.Proof

open Idealize.ShloMosaic Idealize.ShloMosaic.TcCoe Idealize.ShloMosaic.ValueIdx Idealize.SL.Sem
open Cert.KernelIdeal.Hand Cert.KernelIdeal.Gen Cert.Hand
open scoped BigOperators

/-- The real numbers in the whole arrays. -/
def realsOf (x : Cert.ReferenceIdeal.S1x2048x1024.Idx → EReal) (wq : Cert.ReferenceIdeal.S1024x8192.Idx → EReal)
    (k v : Cert.ReferenceIdeal.S1x2048x64x128.Idx → EReal) (wo : Cert.ReferenceIdeal.S8192x1024.Idx → EReal) : Reals where
  x i n := (x (ix3 0 i n)).toReal
  wq n t := (wq (ix2 n t)).toReal
  k t h e := (k (ix4 0 t h e)).toReal
  v t h e := (v (ix4 0 t h e)).toReal
  wo t j := (wo (ix2 t j)).toReal

/-- A device's block of the keys or values holds its eight heads. -/
theorem block_heads (c : Fin 8) (w : Cert.ReferenceIdeal.S1x2048x64x128.Idx → EReal) (t : Fin 2048) (h : Fin 8) (e : Fin 128) :
    Layout.block ⟨4, ![1, 2048, 8, 128]⟩ ⟨4, ![1, 2048, 64, 128]⟩ 2 8 c w (by decide) (ix4 0 t h e)
      = w (ix4 0 t ⟨8 * c.val + h.val, by omega⟩ e) := by
  rw [Layout.block_apply]
  refine congrArg w (funext fun b => Fin.ext ?_)
  rw [Layout.Tiles.idx_val]
  fin_cases b
  · rfl
  · rfl
  · show c.val * 8 + h.val = 8 * c.val + h.val
    omega
  · rfl

/-- So an array whose blocks are all real is real. -/
theorem real_heads (w : Cert.ReferenceIdeal.S1x2048x64x128.Idx → EReal)
    (hw : ∀ (c : Fin 8) i, ((Layout.block ⟨4, ![1, 2048, 8, 128]⟩ ⟨4, ![1, 2048, 64, 128]⟩ 2 8 c w (by decide) i).toReal : EReal)
      = Layout.block ⟨4, ![1, 2048, 8, 128]⟩ ⟨4, ![1, 2048, 64, 128]⟩ 2 8 c w (by decide) i)
    (t : Fin 2048) (h : Fin 64) (e : Fin 128) : w (ix4 0 t h e) = ((w (ix4 0 t h e)).toReal : EReal) := by
  have h1 := hw ⟨h.val / 8, by omega⟩ (ix4 0 t ⟨h.val % 8, by omega⟩ e)
  rw [block_heads] at h1
  rw [show (⟨8 * (h.val / 8) + h.val % 8, by omega⟩ : Fin 64) = h from Fin.ext (by simp only []; omega)] at h1
  exact h1.symm

open Cert.KernelIdeal in
/-- What a device ends with: the devices' own contributions added up, cast back to three axes. -/
theorem V3_v21 (m : (ℓ : Loc nD τ sig) → Buf (Elt Ideal) ℓ) (c : Dev nD) :
    V3 m (outs m) c main_v21 = shapeCast S1x2048x1024 (outV (ins m) c) shapeCasts_S2048x1024_S1x2048x1024 := by
  rw [← V2_out m c]
  simp only [V3, hostOps1]
  after_results_simp <;> rfl

open Cert.KernelIdeal in
theorem V3_apply (m : (ℓ : Loc nD τ sig) → Buf (Elt Ideal) ℓ) (A : Reals) (R : ∀ c, Reads A c (ins m c)) (c : Dev nD)
    (i : Fin 2048) (j : Fin 1024) : V3 m (outs m) c main_v21 (ix3 0 i j) = (A.out i j : EReal) := by
  rw [V3_v21]
  refine (shapeCast_apply _ _ _ (ix2 i j) ?_).trans ?_
  · rw [Shape.rowMajor_val_three, Shape.rowMajor_val_two]
    show i.val * 1024 + j.val = (0 * 2048 + i.val) * 1024 + j.val
    omega
  · refine (outV_sum (ins m) c (ix2 i j)).trans ?_
    rw [← sum_part A i j, coe_sum]
    exact Finset.sum_congr rfl fun c' _ => own_real (R c') i j

theorem algebraic : Cert.algebraic_KernelIdeal_ReferenceIdeal_pre_finite_KernelIdeal (hPre_finite_KernelIdeal := facts_kernel) := by
  intro m g m' g' hfin hm
  let x : Cert.ReferenceIdeal.S1x2048x1024.Idx → EReal := m' (((0 : Dev Cert.ReferenceIdeal.nD).tc : Thread Cert.ReferenceIdeal.nD Cert.ReferenceIdeal.τ).loc Cert.ReferenceIdeal.main_arg0)
  let wq : Cert.ReferenceIdeal.S1024x8192.Idx → EReal := m' (((0 : Dev Cert.ReferenceIdeal.nD).tc : Thread Cert.ReferenceIdeal.nD Cert.ReferenceIdeal.τ).loc Cert.ReferenceIdeal.main_arg1)
  let k : Cert.ReferenceIdeal.S1x2048x64x128.Idx → EReal := m' (((0 : Dev Cert.ReferenceIdeal.nD).tc : Thread Cert.ReferenceIdeal.nD Cert.ReferenceIdeal.τ).loc Cert.ReferenceIdeal.main_arg2)
  let v : Cert.ReferenceIdeal.S1x2048x64x128.Idx → EReal := m' (((0 : Dev Cert.ReferenceIdeal.nD).tc : Thread Cert.ReferenceIdeal.nD Cert.ReferenceIdeal.τ).loc Cert.ReferenceIdeal.main_arg3)
  let wo : Cert.ReferenceIdeal.S8192x1024.Idx → EReal := m' (((0 : Dev Cert.ReferenceIdeal.nD).tc : Thread Cert.ReferenceIdeal.nD Cert.ReferenceIdeal.τ).loc Cert.ReferenceIdeal.main_arg4)
  have f := fun c => @finite_args facts_kernel _ _ _ _ _ (hfin c)
  have hx : ∀ i n, x (ix3 0 i n) = ((x (ix3 0 i n)).toReal : EReal) := fun i n => by
    have h := (f 0).1 (ix3 0 i n)
    rw [(hm 0).1] at h
    exact h.symm
  have hq : ∀ n t, wq (ix2 n t) = ((wq (ix2 n t)).toReal : EReal) := fun n t => by
    have h := (f 0).2.1 (ix2 n t)
    rw [(hm 0).2.1] at h
    exact h.symm
  have hk : ∀ t h e, k (ix4 0 t h e) = ((k (ix4 0 t h e)).toReal : EReal) := real_heads k fun c i => by
    have h := (f c).2.2.1 i
    rw [(hm c).2.2.1] at h
    exact h
  have hv : ∀ t h e, v (ix4 0 t h e) = ((v (ix4 0 t h e)).toReal : EReal) := real_heads v fun c i => by
    have h := (f c).2.2.2.1 i
    rw [(hm c).2.2.2.1] at h
    exact h
  have ho : ∀ t j, wo (ix2 t j) = ((wo (ix2 t j)).toReal : EReal) := fun t j => by
    have h := (f 0).2.2.2.2 (ix2 t j)
    rw [(hm 0).2.2.2.2] at h
    exact h.symm
  have R : ∀ c, Reads (realsOf x wq k v wo) c (ins m c) := fun c =>
    ins_reads m c _ (fun i n => (congrFun (hm c).1 _).trans (hx i n)) (fun n t => (congrFun (hm c).2.1 _).trans (hq n t))
      (fun t h e => ((congrFun (hm c).2.2.1 _).trans (block_heads c k t h e)).trans (hk t _ e))
      (fun t h e => ((congrFun (hm c).2.2.2.1 _).trans (block_heads c v t h e)).trans (hv t _ e))
      (fun t j => (congrFun (hm c).2.2.2.2 _).trans (ho t j))
  have same : ∀ c, V3 m (outs m) c Cert.KernelIdeal.main_v21 = Cert.ReferenceIdeal.Value.res_main_v38 m' 0 := fun c => by
    rw [Cert.ReferenceIdeal.Hand.res_eq]
    funext y
    obtain ⟨i, j, rfl⟩ : ∃ (i : Fin 2048) (j : Fin 1024), y = ix3 0 i j :=
      ⟨y 1, y 2, funext fun a => by
        fin_cases a
        · exact Subsingleton.elim (α := Fin 1) _ _
        · rfl
        · rfl⟩
    exact (V3_apply m _ R c i j).trans
      (Cert.ReferenceIdeal.Hand.result_apply (A := realsOf x wq k v wo) hx hq hk hv ho i j).symm
  refine ⟨Cert.ReferenceIdeal.Value.res_main_v38 m' 0, ?_, ?_⟩
  · exact (θ_run Cert.KernelIdeal.defs _ _).mono (fun r h c =>
      ⟨((h.1 c) _ (kept Cert.KernelIdeal.main_v21 rfl)).trans (same c), args_kept m c r.2 (h.1 c)⟩) (run_all m g)
  · exact (θ_run Cert.ReferenceIdeal.defs _ _).mono (fun r h => h 0) (Cert.ReferenceIdeal.Value.run (F := Ideal) m' g')

/-- The frames from finite inputs are the frames from any. -/
theorem frame_kernelIdeal_finite :
    Cert.quiescent_KernelIdeal_pre_finite_KernelIdeal (hPre_finite_KernelIdeal := facts_kernel) :=
  fun m ρ _ => frame_kernelIdeal m ρ trivial
theorem frame_reference_finite :
    Cert.quiescent_ReferenceIdeal_pre_finite_ReferenceIdeal (hPre_finite_ReferenceIdeal := facts_reference) :=
  fun m ρ _ => frame_reference m ρ trivial

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Finite
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Hand.facts_kernel, Cert.Hand.facts_reference,
  frame_kernel, frame_kernelIdeal, frame_kernelIdeal_finite, frame_reference, frame_reference_finite, preserves, algebraic⟩

end Cert.Proof

end
